-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_valid [hPre_all_valid : Cert.Pre_all_valid.Facts] (m : (ℓ : Loc Cert.KernelIdeal.nD Cert.KernelIdeal.τ Cert.KernelIdeal.sig) → Buf (Elt Ideal) ℓ) : Prop :=
  ∀ c : Dev Cert.KernelIdeal.nD,
    (Cert.Pre_all_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_valid [hPre_all_valid : Cert.Pre_all_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_all_valid [hKernelIdeal : Cert.KernelIdeal.Facts] [hPre_all_valid : Cert.Pre_all_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_valid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_all_valid [hReferenceIdeal : Cert.ReferenceIdeal.Facts] [hPre_all_valid : Cert.Pre_all_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_all_valid [hKernelIdeal : Cert.KernelIdeal.Facts] [hReferenceIdeal : Cert.ReferenceIdeal.Facts] [hPre_all_valid : Cert.Pre_all_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_all_valid : Cert.Pre_all_valid.Facts),
    quiescent_Kernel (hKernel := hKernel)
    ∧ quiescent_KernelIdeal (hKernelIdeal := hKernelIdeal)
    ∧ quiescent_KernelIdeal_pre_all_valid (hKernelIdeal := hKernelIdeal) (hPre_all_valid := hPre_all_valid)
    ∧ quiescent_ReferenceIdeal (hReferenceIdeal := hReferenceIdeal)
    ∧ quiescent_ReferenceIdeal_pre_all_valid (hReferenceIdeal := hReferenceIdeal) (hPre_all_valid := hPre_all_valid)
    ∧ preserves_Kernel_KernelIdeal
    ∧ algebraic_KernelIdeal_ReferenceIdeal_pre_all_valid (hKernelIdeal := hKernelIdeal) (hReferenceIdeal := hReferenceIdeal) (hPre_all_valid := hPre_all_valid)
-- ==== Pre_all_valid.lean ====
abbrev S16384x200 : Shape := ⟨2, ![16384, 200]⟩
abbrev S_ : Shape := ⟨0, ![]⟩

class Facts : Prop where
  reducesTo_S16384x200_S_d0_1 : S16384x200.ReducesTo [0, 1] S_
  h_S_ : 0 < S_.numel
  bcast_S_S16384x200 : S_.BroadcastsInDim S16384x200 (![] : Fin 0 → Fin S16384x200.rank)

variable [Facts]

def fn {F : FTy → Type} [FloatOps F] (main_arg0 : IVec S16384x200 32) (main_arg1 : IVec S16384x200 1) : IVec S_ 1 :=
  let main_c : IVec S_ 1 := constantI S_ 1 1#1
  let main_v0 : IVec S_ 1 := (fun x v => Host.reduce IntOp.andi x v reducesTo_S16384x200_S_d0_1 h_S_) main_arg1 main_c
  let main_c_0 : IVec S_ 32 := constantI S_ 32 0#32
  let main_v1 : IVec S16384x200 32 := broadcastInDim S16384x200 ![] bcast_S_S16384x200 main_c_0
  let main_v2 : IVec S16384x200 1 := cmpi .sge main_arg0 main_v1
  let main_c_1 : IVec S_ 1 := constantI S_ 1 1#1
  let main_v3 : IVec S_ 1 := (fun x v => Host.reduce IntOp.andi x v reducesTo_S16384x200_S_d0_1 h_S_) main_v2 main_c_1
  let main_v4 : IVec S_ 1 := andi main_v0 main_v3
  main_v4
-- ==== Kernel.lean ====
abbrev S16384x200 : Shape := ⟨2, ![16384, 200]⟩
abbrev S3276800 : Shape := ⟨1, ![3276800]⟩
abbrev S393216 : Shape := ⟨1, ![393216]⟩
abbrev S25600 : Shape := ⟨1, ![25600]⟩
abbrev S3072 : Shape := ⟨1, ![3072]⟩
abbrev S16 : Shape := ⟨1, ![16]⟩
abbrev S_ : Shape := ⟨0, ![]⟩
abbrev S16384x24 : Shape := ⟨2, ![16384, 24]⟩

abbrev nBuf : Table → Nat
  | .hbm => 5
  | .local .scVector .vmem => 2
  | _ => 0

abbrev bufTy : (tb : Table) → Fin (nBuf tb) → BufTy
  | .hbm, ⟨0, _⟩ => ⟨S16384x200, .i32⟩
  | .hbm, ⟨1, _⟩ => ⟨S16384x200, .i1⟩
  | .hbm, ⟨2, _⟩ => ⟨S3276800, .i32⟩
  | .hbm, ⟨3, _⟩ => ⟨S393216, .f32⟩
  | .hbm, ⟨4, _⟩ => ⟨S16384x24, .f32⟩
  | .local .scVector .vmem, ⟨0, _⟩ => ⟨S25600, .i32⟩
  | .local .scVector .vmem, ⟨1, _⟩ => ⟨S3072, .f32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32 : BitVec 32 := 0#32
  let v4 : BitVec 32 := Scalar.addi v3 c0_i32
  let c200_i32 : BitVec 32 := 200#32
  let v5 : BitVec 32 := Scalar.muli v4 c200_i32
  ![v5.toNat]
@[reducible] def k0_t1_loop : Scf.Loop 32 :=
  let c0_i32_3 : BitVec 32 := 0#32
  let c200_i32_4 : BitVec 32 := 200#32
  let v11 : BitVec 32 := Scalar.addi c0_i32_3 c200_i32_4
  let c1_i32 : BitVec 32 := 1#32
  ⟨c0_i32_3, v11, c1_i32⟩

def k0_chk1 (v5745 : IVec S16 32) : Prop :=
  (∀ a x, ((![v5745] : Fin 1 → IVec S16 32) a x).toNat < S25600.size a)
theorem k0_idx1_inb : ∀ (v5745 : IVec S16 32) (k0_hw1 : k0_chk1 v5745), ∀ a x, ((![v5745] : Fin 1 → IVec S16 32) a x).toNat < S25600.size a := fun v5745 k0_hw1 => k0_hw1

def k0_chk2 (v23 : IVec S16 32) : Prop :=
  (∀ a x, ((![v23] : Fin 1 → IVec S16 32) a x).toNat < S3072.size a)
theorem k0_idx2_inb : ∀ (v23 : IVec S16 32) (k0_hw2 : k0_chk2 v23), ∀ a x, ((![v23] : Fin 1 → IVec S16 32) a x).toNat < S3072.size a := fun v23 k0_hw2 => k0_hw2

def k0_chk3 (v30 : IVec S16 32) : Prop :=
  (∀ a x, ((![v30] : Fin 1 → IVec S16 32) a x).toNat < S3072.size a)
theorem k0_idx3_inb : ∀ (v30 : IVec S16 32) (k0_hw3 : k0_chk3 v30), ∀ a x, ((![v30] : Fin 1 → IVec S16 32) a x).toNat < S3072.size a := fun v30 k0_hw3 => k0_hw3

def k0_chk4 (v37 : IVec S16 32) : Prop :=
  (∀ a x, ((![v37] : Fin 1 → IVec S16 32) a x).toNat < S3072.size a)
theorem k0_idx4_inb : ∀ (v37 : IVec S16 32) (k0_hw4 : k0_chk4 v37), ∀ a x, ((![v37] : Fin 1 → IVec S16 32) a x).toNat < S3072.size a := fun v37 k0_hw4 => k0_hw4

def k0_chk5 (v44 : IVec S16 32) : Prop :=
  (∀ a x, ((![v44] : Fin 1 → IVec S16 32) a x).toNat < S3072.size a)
theorem k0_idx5_inb : ∀ (v44 : IVec S16 32) (k0_hw5 : k0_chk5 v44), ∀ a x, ((![v44] : Fin 1 → IVec S16 32) a x).toNat < S3072.size a := fun v44 k0_hw5 => k0_hw5

def k0_chk6 (v51 : IVec S16 32) : Prop :=
  (∀ a x, ((![v51] : Fin 1 → IVec S16 32) a x).toNat < S3072.size a)
theorem k0_idx6_inb : ∀ (v51 : IVec S16 32) (k0_hw6 : k0_chk6 v51), ∀ a x, ((![v51] : Fin 1 → IVec S16 32) a x).toNat < S3072.size a := fun v51 k0_hw6 => k0_hw6

def k0_chk7 (v58 : IVec S16 32) : Prop :=
  (∀ a x, ((![v58] : Fin 1 → IVec S16 32) a x).toNat < S3072.size a)
theorem k0_idx7_inb : ∀ (v58 : IVec S16 32) (k0_hw7 : k0_chk7 v58), ∀ a x, ((![v58] : Fin 1 → IVec S16 32) a x).toNat < S3072.size a := fun v58 k0_hw7 => k0_hw7

def k0_chk8 (v65 : IVec S16 32) : Prop :=
  (∀ a x, ((![v65] : Fin 1 → IVec S16 32) a x).toNat < S3072.size a)
theorem k0_idx8_inb : ∀ (v65 : IVec S16 32) (k0_hw8 : k0_chk8 v65), ∀ a x, ((![v65] : Fin 1 → IVec S16 32) a x).toNat < S3072.size a := fun v65 k0_hw8 => k0_hw8

def k0_chk9 (v72 : IVec S16 32) : Prop :=
  (∀ a x, ((![v72] : Fin 1 → IVec S16 32) a x).toNat < S3072.size a)
theorem k0_idx9_inb : ∀ (v72 : IVec S16 32) (k0_hw9 : k0_chk9 v72), ∀ a x, ((![v72] : Fin 1 → IVec S16 32) a x).toNat < S3072.size a := fun v72 k0_hw9 => k0_hw9

def k0_chk10 (v79 : IVec S16 32) : Prop :=
  (∀ a x, ((![v79] : Fin 1 → IVec S16 32) a x).toNat < S3072.size a)
theorem k0_idx10_inb : ∀ (v79 : IVec S16 32) (k0_hw10 : k0_chk10 v79), ∀ a x, ((![v79] : Fin 1 → IVec S16 32) a x).toNat < S3072.size a := fun v79 k0_hw10 => k0_hw10

def k0_chk11 (v86 : IVec S16 32) : Prop :=
  (∀ a x, ((![v86] : Fin 1 → IVec S16 32) a x).toNat < S3072.size a)
theorem k0_idx11_inb : ∀ (v86 : IVec S16 32) (k0_hw11 : k0_chk11 v86), ∀ a x, ((![v86] : Fin 1 → IVec S16 32) a x).toNat < S3072.size a := fun v86 k0_hw11 => k0_hw11

def k0_chk12 (v93 : IVec S16 32) : Prop :=
  (∀ a x, ((![v93] : Fin 1 → IVec S16 32) a x).toNat < S3072.size a)
theorem k0_idx12_inb : ∀ (v93 : IVec S16 32) (k0_hw12 : k0_chk12 v93), ∀ a x, ((![v93] : Fin 1 → IVec S16 32) a x).toNat < S3072.size a := fun v93 k0_hw12 => k0_hw12

def k0_chk13 (v100 : IVec S16 32) : Prop :=
  (∀ a x, ((![v100] : Fin 1 → IVec S16 32) a x).toNat < S3072.size a)
theorem k0_idx13_inb : ∀ (v100 : IVec S16 32) (k0_hw13 : k0_chk13 v100), ∀ a x, ((![v100] : Fin 1 → IVec S16 32) a x).toNat < S3072.size a := fun v100 k0_hw13 => k0_hw13

def k0_chk14 (v107 : IVec S16 32) : Prop :=
  (∀ a x, ((![v107] : Fin 1 → IVec S16 32) a x).toNat < S3072.size a)
theorem k0_idx14_inb : ∀ (v107 : IVec S16 32) (k0_hw14 : k0_chk14 v107), ∀ a x, ((![v107] : Fin 1 → IVec S16 32) a x).toNat < S3072.size a := fun v107 k0_hw14 => k0_hw14

def k0_chk15 (v114 : IVec S16 32) : Prop :=
  (∀ a x, ((![v114] : Fin 1 → IVec S16 32) a x).toNat < S3072.size a)
theorem k0_idx15_inb : ∀ (v114 : IVec S16 32) (k0_hw15 : k0_chk15 v114), ∀ a x, ((![v114] : Fin 1 → IVec S16 32) a x).toNat < S3072.size a := fun v114 k0_hw15 => k0_hw15

def k0_chk16 (v121 : IVec S16 32) : Prop :=
  (∀ a x, ((![v121] : Fin 1 → IVec S16 32) a x).toNat < S3072.size a)
theorem k0_idx16_inb : ∀ (v121 : IVec S16 32) (k0_hw16 : k0_chk16 v121), ∀ a x, ((![v121] : Fin 1 → IVec S16 32) a x).toNat < S3072.size a := fun v121 k0_hw16 => k0_hw16

def k0_chk17 (v128 : IVec S16 32) : Prop :=
  (∀ a x, ((![v128] : Fin 1 → IVec S16 32) a x).toNat < S3072.size a)
theorem k0_idx17_inb : ∀ (v128 : IVec S16 32) (k0_hw17 : k0_chk17 v128), ∀ a x, ((![v128] : Fin 1 → IVec S16 32) a x).toNat < S3072.size a := fun v128 k0_hw17 => k0_hw17

def k0_chk18 (v135 : IVec S16 32) : Prop :=
  (∀ a x, ((![v135] : Fin 1 → IVec S16 32) a x).toNat < S3072.size a)
theorem k0_idx18_inb : ∀ (v135 : IVec S16 32) (k0_hw18 : k0_chk18 v135), ∀ a x, ((![v135] : Fin 1 → IVec S16 32) a x).toNat < S3072.size a := fun v135 k0_hw18 => k0_hw18

def k0_chk19 (v142 : IVec S16 32) : Prop :=
  (∀ a x, ((![v142] : Fin 1 → IVec S16 32) a x).toNat < S3072.size a)
theorem k0_idx19_inb : ∀ (v142 : IVec S16 32) (k0_hw19 : k0_chk19 v142), ∀ a x, ((![v142] : Fin 1 → IVec S16 32) a x).toNat < S3072.size a := fun v142 k0_hw19 => k0_hw19

def k0_chk20 (v149 : IVec S16 32) : Prop :=
  (∀ a x, ((![v149] : Fin 1 → IVec S16 32) a x).toNat < S3072.size a)
theorem k0_idx20_inb : ∀ (v149 : IVec S16 32) (k0_hw20 : k0_chk20 v149), ∀ a x, ((![v149] : Fin 1 → IVec S16 32) a x).toNat < S3072.size a := fun v149 k0_hw20 => k0_hw20

def k0_chk21 (v156 : IVec S16 32) : Prop :=
  (∀ a x, ((![v156] : Fin 1 → IVec S16 32) a x).toNat < S3072.size a)
theorem k0_idx21_inb : ∀ (v156 : IVec S16 32) (k0_hw21 : k0_chk21 v156), ∀ a x, ((![v156] : Fin 1 → IVec S16 32) a x).toNat < S3072.size a := fun v156 k0_hw21 => k0_hw21

def k0_chk22 (v163 : IVec S16 32) : Prop :=
  (∀ a x, ((![v163] : Fin 1 → IVec S16 32) a x).toNat < S3072.size a)
theorem k0_idx22_inb : ∀ (v163 : IVec S16 32) (k0_hw22 : k0_chk22 v163), ∀ a x, ((![v163] : Fin 1 → IVec S16 32) a x).toNat < S3072.size a := fun v163 k0_hw22 => k0_hw22

def k0_chk23 (v170 : IVec S16 32) : Prop :=
  (∀ a x, ((![v170] : Fin 1 → IVec S16 32) a x).toNat < S3072.size a)
theorem k0_idx23_inb : ∀ (v170 : IVec S16 32) (k0_hw23 : k0_chk23 v170), ∀ a x, ((![v170] : Fin 1 → IVec S16 32) a x).toNat < S3072.size a := fun v170 k0_hw23 => k0_hw23

def k0_chk24 (v177 : IVec S16 32) : Prop :=
  (∀ a x, ((![v177] : Fin 1 → IVec S16 32) a x).toNat < S3072.size a)
theorem k0_idx24_inb : ∀ (v177 : IVec S16 32) (k0_hw24 : k0_chk24 v177), ∀ a x, ((![v177] : Fin 1 → IVec S16 32) a x).toNat < S3072.size a := fun v177 k0_hw24 => k0_hw24

def k0_chk25 (v184 : IVec S16 32) : Prop :=
  (∀ a x, ((![v184] : Fin 1 → IVec S16 32) a x).toNat < S3072.size a)
theorem k0_idx25_inb : ∀ (v184 : IVec S16 32) (k0_hw25 : k0_chk25 v184), ∀ a x, ((![v184] : Fin 1 → IVec S16 32) a x).toNat < S3072.size a := fun v184 k0_hw25 => k0_hw25
@[reducible] def k0_t2_loop : Scf.Loop 32 :=
  let c0_i32_60 : BitVec 32 := 0#32
  let c200_i32_61 : BitVec 32 := 200#32
  let v190 : BitVec 32 := Scalar.addi c0_i32_60 c200_i32_61
  let c1_i32_62 : BitVec 32 := 1#32
  ⟨c0_i32_60, v190, c1_i32_62⟩

def k0_chk26 (v5745 : IVec S16 32) : Prop :=
  (∀ a x, ((![v5745] : Fin 1 → IVec S16 32) a x).toNat < S25600.size a)
theorem k0_idx26_inb : ∀ (v5745 : IVec S16 32) (k0_hw26 : k0_chk26 v5745), ∀ a x, ((![v5745] : Fin 1 → IVec S16 32) a x).toNat < S25600.size a := fun v5745 k0_hw26 => k0_hw26

def k0_chk27 (v202 : IVec S16 32) : Prop :=
  (∀ a x, ((![v202] : Fin 1 → IVec S16 32) a x).toNat < S3072.size a)
theorem k0_idx27_inb : ∀ (v202 : IVec S16 32) (k0_hw27 : k0_chk27 v202), ∀ a x, ((![v202] : Fin 1 → IVec S16 32) a x).toNat < S3072.size a := fun v202 k0_hw27 => k0_hw27

def k0_chk28 (v209 : IVec S16 32) : Prop :=
  (∀ a x, ((![v209] : Fin 1 → IVec S16 32) a x).toNat < S3072.size a)
theorem k0_idx28_inb : ∀ (v209 : IVec S16 32) (k0_hw28 : k0_chk28 v209), ∀ a x, ((![v209] : Fin 1 → IVec S16 32) a x).toNat < S3072.size a := fun v209 k0_hw28 => k0_hw28

def k0_chk29 (v216 : IVec S16 32) : Prop :=
  (∀ a x, ((![v216] : Fin 1 → IVec S16 32) a x).toNat < S3072.size a)
theorem k0_idx29_inb : ∀ (v216 : IVec S16 32) (k0_hw29 : k0_chk29 v216), ∀ a x, ((![v216] : Fin 1 → IVec S16 32) a x).toNat < S3072.size a := fun v216 k0_hw29 => k0_hw29

def k0_chk30 (v223 : IVec S16 32) : Prop :=
  (∀ a x, ((![v223] : Fin 1 → IVec S16 32) a x).toNat < S3072.size a)
theorem k0_idx30_inb : ∀ (v223 : IVec S16 32) (k0_hw30 : k0_chk30 v223), ∀ a x, ((![v223] : Fin 1 → IVec S16 32) a x).toNat < S3072.size a := fun v223 k0_hw30 => k0_hw30

def k0_chk31 (v230 : IVec S16 32) : Prop :=
  (∀ a x, ((![v230] : Fin 1 → IVec S16 32) a x).toNat < S3072.size a)
theorem k0_idx31_inb : ∀ (v230 : IVec S16 32) (k0_hw31 : k0_chk31 v230), ∀ a x, ((![v230] : Fin 1 → IVec S16 32) a x).toNat < S3072.size a := fun v230 k0_hw31 => k0_hw31

def k0_chk32 (v237 : IVec S16 32) : Prop :=
  (∀ a x, ((![v237] : Fin 1 → IVec S16 32) a x).toNat < S3072.size a)
theorem k0_idx32_inb : ∀ (v237 : IVec S16 32) (k0_hw32 : k0_chk32 v237), ∀ a x, ((![v237] : Fin 1 → IVec S16 32) a x).toNat < S3072.size a := fun v237 k0_hw32 => k0_hw32

def k0_chk33 (v244 : IVec S16 32) : Prop :=
  (∀ a x, ((![v244] : Fin 1 → IVec S16 32) a x).toNat < S3072.size a)
theorem k0_idx33_inb : ∀ (v244 : IVec S16 32) (k0_hw33 : k0_chk33 v244), ∀ a x, ((![v244] : Fin 1 → IVec S16 32) a x).toNat < S3072.size a := fun v244 k0_hw33 => k0_hw33

def k0_chk34 (v251 : IVec S16 32) : Prop :=
  (∀ a x, ((![v251] : Fin 1 → IVec S16 32) a x).toNat < S3072.size a)
theorem k0_idx34_inb : ∀ (v251 : IVec S16 32) (k0_hw34 : k0_chk34 v251), ∀ a x, ((![v251] : Fin 1 → IVec S16 32) a x).toNat < S3072.size a := fun v251 k0_hw34 => k0_hw34

def k0_chk35 (v258 : IVec S16 32) : Prop :=
  (∀ a x, ((![v258] : Fin 1 → IVec S16 32) a x).toNat < S3072.size a)
theorem k0_idx35_inb : ∀ (v258 : IVec S16 32) (k0_hw35 : k0_chk35 v258), ∀ a x, ((![v258] : Fin 1 → IVec S16 32) a x).toNat < S3072.size a := fun v258 k0_hw35 => k0_hw35

def k0_chk36 (v265 : IVec S16 32) : Prop :=
  (∀ a x, ((![v265] : Fin 1 → IVec S16 32) a x).toNat < S3072.size a)
theorem k0_idx36_inb : ∀ (v265 : IVec S16 32) (k0_hw36 : k0_chk36 v265), ∀ a x, ((![v265] : Fin 1 → IVec S16 32) a x).toNat < S3072.size a := fun v265 k0_hw36 => k0_hw36

def k0_chk37 (v272 : IVec S16 32) : Prop :=
  (∀ a x, ((![v272] : Fin 1 → IVec S16 32) a x).toNat < S3072.size a)
theorem k0_idx37_inb : ∀ (v272 : IVec S16 32) (k0_hw37 : k0_chk37 v272), ∀ a x, ((![v272] : Fin 1 → IVec S16 32) a x).toNat < S3072.size a := fun v272 k0_hw37 => k0_hw37

def k0_chk38 (v279 : IVec S16 32) : Prop :=
  (∀ a x, ((![v279] : Fin 1 → IVec S16 32) a x).toNat < S3072.size a)
theorem k0_idx38_inb : ∀ (v279 : IVec S16 32) (k0_hw38 : k0_chk38 v279), ∀ a x, ((![v279] : Fin 1 → IVec S16 32) a x).toNat < S3072.size a := fun v279 k0_hw38 => k0_hw38

def k0_chk39 (v286 : IVec S16 32) : Prop :=
  (∀ a x, ((![v286] : Fin 1 → IVec S16 32) a x).toNat < S3072.size a)
theorem k0_idx39_inb : ∀ (v286 : IVec S16 32) (k0_hw39 : k0_chk39 v286), ∀ a x, ((![v286] : Fin 1 → IVec S16 32) a x).toNat < S3072.size a := fun v286 k0_hw39 => k0_hw39

def k0_chk40 (v293 : IVec S16 32) : Prop :=
  (∀ a x, ((![v293] : Fin 1 → IVec S16 32) a x).toNat < S3072.size a)
theorem k0_idx40_inb : ∀ (v293 : IVec S16 32) (k0_hw40 : k0_chk40 v293), ∀ a x, ((![v293] : Fin 1 → IVec S16 32) a x).toNat < S3072.size a := fun v293 k0_hw40 => k0_hw40

def k0_chk41 (v300 : IVec S16 32) : Prop :=
  (∀ a x, ((![v300] : Fin 1 → IVec S16 32) a x).toNat < S3072.size a)
theorem k0_idx41_inb : ∀ (v300 : IVec S16 32) (k0_hw41 : k0_chk41 v300), ∀ a x, ((![v300] : Fin 1 → IVec S16 32) a x).toNat < S3072.size a := fun v300 k0_hw41 => k0_hw41

def k0_chk42 (v307 : IVec S16 32) : Prop :=
  (∀ a x, ((![v307] : Fin 1 → IVec S16 32) a x).toNat < S3072.size a)
theorem k0_idx42_inb : ∀ (v307 : IVec S16 32) (k0_hw42 : k0_chk42 v307), ∀ a x, ((![v307] : Fin 1 → IVec S16 32) a x).toNat < S3072.size a := fun v307 k0_hw42 => k0_hw42

def k0_chk43 (v314 : IVec S16 32) : Prop :=
  (∀ a x, ((![v314] : Fin 1 → IVec S16 32) a x).toNat < S3072.size a)
theorem k0_idx43_inb : ∀ (v314 : IVec S16 32) (k0_hw43 : k0_chk43 v314), ∀ a x, ((![v314] : Fin 1 → IVec S16 32) a x).toNat < S3072.size a := fun v314 k0_hw43 => k0_hw43

def k0_chk44 (v321 : IVec S16 32) : Prop :=
  (∀ a x, ((![v321] : Fin 1 → IVec S16 32) a x).toNat < S3072.size a)
theorem k0_idx44_inb : ∀ (v321 : IVec S16 32) (k0_hw44 : k0_chk44 v321), ∀ a x, ((![v321] : Fin 1 → IVec S16 32) a x).toNat < S3072.size a := fun v321 k0_hw44 => k0_hw44

def k0_chk45 (v328 : IVec S16 32) : Prop :=
  (∀ a x, ((![v328] : Fin 1 → IVec S16 32) a x).toNat < S3072.size a)
theorem k0_idx45_inb : ∀ (v328 : IVec S16 32) (k0_hw45 : k0_chk45 v328), ∀ a x, ((![v328] : Fin 1 → IVec S16 32) a x).toNat < S3072.size a := fun v328 k0_hw45 => k0_hw45

def k0_chk46 (v335 : IVec S16 32) : Prop :=
  (∀ a x, ((![v335] : Fin 1 → IVec S16 32) a x).toNat < S3072.size a)
theorem k0_idx46_inb : ∀ (v335 : IVec S16 32) (k0_hw46 : k0_chk46 v335), ∀ a x, ((![v335] : Fin 1 → IVec S16 32) a x).toNat < S3072.size a := fun v335 k0_hw46 => k0_hw46

def k0_chk47 (v342 : IVec S16 32) : Prop :=
  (∀ a x, ((![v342] : Fin 1 → IVec S16 32) a x).toNat < S3072.size a)
theorem k0_idx47_inb : ∀ (v342 : IVec S16 32) (k0_hw47 : k0_chk47 v342), ∀ a x, ((![v342] : Fin 1 → IVec S16 32) a x).toNat < S3072.size a := fun v342 k0_hw47 => k0_hw47

def k0_chk48 (v349 : IVec S16 32) : Prop :=
  (∀ a x, ((![v349] : Fin 1 → IVec S16 32) a x).toNat < S3072.size a)
theorem k0_idx48_inb : ∀ (v349 : IVec S16 32) (k0_hw48 : k0_chk48 v349), ∀ a x, ((![v349] : Fin 1 → IVec S16 32) a x).toNat < S3072.size a := fun v349 k0_hw48 => k0_hw48

def k0_chk49 (v356 : IVec S16 32) : Prop :=
  (∀ a x, ((![v356] : Fin 1 → IVec S16 32) a x).toNat < S3072.size a)
theorem k0_idx49_inb : ∀ (v356 : IVec S16 32) (k0_hw49 : k0_chk49 v356), ∀ a x, ((![v356] : Fin 1 → IVec S16 32) a x).toNat < S3072.size a := fun v356 k0_hw49 => k0_hw49

def k0_chk50 (v363 : IVec S16 32) : Prop :=
  (∀ a x, ((![v363] : Fin 1 → IVec S16 32) a x).toNat < S3072.size a)
theorem k0_idx50_inb : ∀ (v363 : IVec S16 32) (k0_hw50 : k0_chk50 v363), ∀ a x, ((![v363] : Fin 1 → IVec S16 32) a x).toNat < S3072.size a := fun v363 k0_hw50 => k0_hw50
@[reducible] def k0_t3_loop : Scf.Loop 32 :=
  let c0_i32_139 : BitVec 32 := 0#32
  let c200_i32_140 : BitVec 32 := 200#32
  let v369 : BitVec 32 := Scalar.addi c0_i32_139 c200_i32_140
  let c1_i32_141 : BitVec 32 := 1#32
  ⟨c0_i32_139, v369, c1_i32_141⟩

def k0_chk51 (v5745 : IVec S16 32) : Prop :=
  (∀ a x, ((![v5745] : Fin 1 → IVec S16 32) a x).toNat < S25600.size a)
theorem k0_idx51_inb : ∀ (v5745 : IVec S16 32) (k0_hw51 : k0_chk51 v5745), ∀ a x, ((![v5745] : Fin 1 → IVec S16 32) a x).toNat < S25600.size a := fun v5745 k0_hw51 => k0_hw51

def k0_chk52 (v381 : IVec S16 32) : Prop :=
  (∀ a x, ((![v381] : Fin 1 → IVec S16 32) a x).toNat < S3072.size a)
theorem k0_idx52_inb : ∀ (v381 : IVec S16 32) (k0_hw52 : k0_chk52 v381), ∀ a x, ((![v381] : Fin 1 → IVec S16 32) a x).toNat < S3072.size a := fun v381 k0_hw52 => k0_hw52

def k0_chk53 (v388 : IVec S16 32) : Prop :=
  (∀ a x, ((![v388] : Fin 1 → IVec S16 32) a x).toNat < S3072.size a)
theorem k0_idx53_inb : ∀ (v388 : IVec S16 32) (k0_hw53 : k0_chk53 v388), ∀ a x, ((![v388] : Fin 1 → IVec S16 32) a x).toNat < S3072.size a := fun v388 k0_hw53 => k0_hw53

def k0_chk54 (v395 : IVec S16 32) : Prop :=
  (∀ a x, ((![v395] : Fin 1 → IVec S16 32) a x).toNat < S3072.size a)
theorem k0_idx54_inb : ∀ (v395 : IVec S16 32) (k0_hw54 : k0_chk54 v395), ∀ a x, ((![v395] : Fin 1 → IVec S16 32) a x).toNat < S3072.size a := fun v395 k0_hw54 => k0_hw54

def k0_chk55 (v402 : IVec S16 32) : Prop :=
  (∀ a x, ((![v402] : Fin 1 → IVec S16 32) a x).toNat < S3072.size a)
theorem k0_idx55_inb : ∀ (v402 : IVec S16 32) (k0_hw55 : k0_chk55 v402), ∀ a x, ((![v402] : Fin 1 → IVec S16 32) a x).toNat < S3072.size a := fun v402 k0_hw55 => k0_hw55

def k0_chk56 (v409 : IVec S16 32) : Prop :=
  (∀ a x, ((![v409] : Fin 1 → IVec S16 32) a x).toNat < S3072.size a)
theorem k0_idx56_inb : ∀ (v409 : IVec S16 32) (k0_hw56 : k0_chk56 v409), ∀ a x, ((![v409] : Fin 1 → IVec S16 32) a x).toNat < S3072.size a := fun v409 k0_hw56 => k0_hw56

def k0_chk57 (v416 : IVec S16 32) : Prop :=
  (∀ a x, ((![v416] : Fin 1 → IVec S16 32) a x).toNat < S3072.size a)
theorem k0_idx57_inb : ∀ (v416 : IVec S16 32) (k0_hw57 : k0_chk57 v416), ∀ a x, ((![v416] : Fin 1 → IVec S16 32) a x).toNat < S3072.size a := fun v416 k0_hw57 => k0_hw57

def k0_chk58 (v423 : IVec S16 32) : Prop :=
  (∀ a x, ((![v423] : Fin 1 → IVec S16 32) a x).toNat < S3072.size a)
theorem k0_idx58_inb : ∀ (v423 : IVec S16 32) (k0_hw58 : k0_chk58 v423), ∀ a x, ((![v423] : Fin 1 → IVec S16 32) a x).toNat < S3072.size a := fun v423 k0_hw58 => k0_hw58

def k0_chk59 (v430 : IVec S16 32) : Prop :=
  (∀ a x, ((![v430] : Fin 1 → IVec S16 32) a x).toNat < S3072.size a)
theorem k0_idx59_inb : ∀ (v430 : IVec S16 32) (k0_hw59 : k0_chk59 v430), ∀ a x, ((![v430] : Fin 1 → IVec S16 32) a x).toNat < S3072.size a := fun v430 k0_hw59 => k0_hw59

def k0_chk60 (v437 : IVec S16 32) : Prop :=
  (∀ a x, ((![v437] : Fin 1 → IVec S16 32) a x).toNat < S3072.size a)
theorem k0_idx60_inb : ∀ (v437 : IVec S16 32) (k0_hw60 : k0_chk60 v437), ∀ a x, ((![v437] : Fin 1 → IVec S16 32) a x).toNat < S3072.size a := fun v437 k0_hw60 => k0_hw60

def k0_chk61 (v444 : IVec S16 32) : Prop :=
  (∀ a x, ((![v444] : Fin 1 → IVec S16 32) a x).toNat < S3072.size a)
theorem k0_idx61_inb : ∀ (v444 : IVec S16 32) (k0_hw61 : k0_chk61 v444), ∀ a x, ((![v444] : Fin 1 → IVec S16 32) a x).toNat < S3072.size a := fun v444 k0_hw61 => k0_hw61

def k0_chk62 (v451 : IVec S16 32) : Prop :=
  (∀ a x, ((![v451] : Fin 1 → IVec S16 32) a x).toNat < S3072.size a)
theorem k0_idx62_inb : ∀ (v451 : IVec S16 32) (k0_hw62 : k0_chk62 v451), ∀ a x, ((![v451] : Fin 1 → IVec S16 32) a x).toNat < S3072.size a := fun v451 k0_hw62 => k0_hw62

def k0_chk63 (v458 : IVec S16 32) : Prop :=
  (∀ a x, ((![v458] : Fin 1 → IVec S16 32) a x).toNat < S3072.size a)
theorem k0_idx63_inb : ∀ (v458 : IVec S16 32) (k0_hw63 : k0_chk63 v458), ∀ a x, ((![v458] : Fin 1 → IVec S16 32) a x).toNat < S3072.size a := fun v458 k0_hw63 => k0_hw63

def k0_chk64 (v465 : IVec S16 32) : Prop :=
  (∀ a x, ((![v465] : Fin 1 → IVec S16 32) a x).toNat < S3072.size a)
theorem k0_idx64_inb : ∀ (v465 : IVec S16 32) (k0_hw64 : k0_chk64 v465), ∀ a x, ((![v465] : Fin 1 → IVec S16 32) a x).toNat < S3072.size a := fun v465 k0_hw64 => k0_hw64

def k0_chk65 (v472 : IVec S16 32) : Prop :=
  (∀ a x, ((![v472] : Fin 1 → IVec S16 32) a x).toNat < S3072.size a)
theorem k0_idx65_inb : ∀ (v472 : IVec S16 32) (k0_hw65 : k0_chk65 v472), ∀ a x, ((![v472] : Fin 1 → IVec S16 32) a x).toNat < S3072.size a := fun v472 k0_hw65 => k0_hw65

def k0_chk66 (v479 : IVec S16 32) : Prop :=
  (∀ a x, ((![v479] : Fin 1 → IVec S16 32) a x).toNat < S3072.size a)
theorem k0_idx66_inb : ∀ (v479 : IVec S16 32) (k0_hw66 : k0_chk66 v479), ∀ a x, ((![v479] : Fin 1 → IVec S16 32) a x).toNat < S3072.size a := fun v479 k0_hw66 => k0_hw66

def k0_chk67 (v486 : IVec S16 32) : Prop :=
  (∀ a x, ((![v486] : Fin 1 → IVec S16 32) a x).toNat < S3072.size a)
theorem k0_idx67_inb : ∀ (v486 : IVec S16 32) (k0_hw67 : k0_chk67 v486), ∀ a x, ((![v486] : Fin 1 → IVec S16 32) a x).toNat < S3072.size a := fun v486 k0_hw67 => k0_hw67

def k0_chk68 (v493 : IVec S16 32) : Prop :=
  (∀ a x, ((![v493] : Fin 1 → IVec S16 32) a x).toNat < S3072.size a)
theorem k0_idx68_inb : ∀ (v493 : IVec S16 32) (k0_hw68 : k0_chk68 v493), ∀ a x, ((![v493] : Fin 1 → IVec S16 32) a x).toNat < S3072.size a := fun v493 k0_hw68 => k0_hw68

def k0_chk69 (v500 : IVec S16 32) : Prop :=
  (∀ a x, ((![v500] : Fin 1 → IVec S16 32) a x).toNat < S3072.size a)
theorem k0_idx69_inb : ∀ (v500 : IVec S16 32) (k0_hw69 : k0_chk69 v500), ∀ a x, ((![v500] : Fin 1 → IVec S16 32) a x).toNat < S3072.size a := fun v500 k0_hw69 => k0_hw69

def k0_chk70 (v507 : IVec S16 32) : Prop :=
  (∀ a x, ((![v507] : Fin 1 → IVec S16 32) a x).toNat < S3072.size a)
theorem k0_idx70_inb : ∀ (v507 : IVec S16 32) (k0_hw70 : k0_chk70 v507), ∀ a x, ((![v507] : Fin 1 → IVec S16 32) a x).toNat < S3072.size a := fun v507 k0_hw70 => k0_hw70

def k0_chk71 (v514 : IVec S16 32) : Prop :=
  (∀ a x, ((![v514] : Fin 1 → IVec S16 32) a x).toNat < S3072.size a)
theorem k0_idx71_inb : ∀ (v514 : IVec S16 32) (k0_hw71 : k0_chk71 v514), ∀ a x, ((![v514] : Fin 1 → IVec S16 32) a x).toNat < S3072.size a := fun v514 k0_hw71 => k0_hw71

def k0_chk72 (v521 : IVec S16 32) : Prop :=
  (∀ a x, ((![v521] : Fin 1 → IVec S16 32) a x).toNat < S3072.size a)
theorem k0_idx72_inb : ∀ (v521 : IVec S16 32) (k0_hw72 : k0_chk72 v521), ∀ a x, ((![v521] : Fin 1 → IVec S16 32) a x).toNat < S3072.size a := fun v521 k0_hw72 => k0_hw72

def k0_chk73 (v528 : IVec S16 32) : Prop :=
  (∀ a x, ((![v528] : Fin 1 → IVec S16 32) a x).toNat < S3072.size a)
theorem k0_idx73_inb : ∀ (v528 : IVec S16 32) (k0_hw73 : k0_chk73 v528), ∀ a x, ((![v528] : Fin 1 → IVec S16 32) a x).toNat < S3072.size a := fun v528 k0_hw73 => k0_hw73

def k0_chk74 (v535 : IVec S16 32) : Prop :=
  (∀ a x, ((![v535] : Fin 1 → IVec S16 32) a x).toNat < S3072.size a)
theorem k0_idx74_inb : ∀ (v535 : IVec S16 32) (k0_hw74 : k0_chk74 v535), ∀ a x, ((![v535] : Fin 1 → IVec S16 32) a x).toNat < S3072.size a := fun v535 k0_hw74 => k0_hw74

def k0_chk75 (v542 : IVec S16 32) : Prop :=
  (∀ a x, ((![v542] : Fin 1 → IVec S16 32) a x).toNat < S3072.size a)
theorem k0_idx75_inb : ∀ (v542 : IVec S16 32) (k0_hw75 : k0_chk75 v542), ∀ a x, ((![v542] : Fin 1 → IVec S16 32) a x).toNat < S3072.size a := fun v542 k0_hw75 => k0_hw75
@[reducible] def k0_t4_loop : Scf.Loop 32 :=
  let c0_i32_218 : BitVec 32 := 0#32
  let c200_i32_219 : BitVec 32 := 200#32
  let v548 : BitVec 32 := Scalar.addi c0_i32_218 c200_i32_219
  let c1_i32_220 : BitVec 32 := 1#32
  ⟨c0_i32_218, v548, c1_i32_220⟩

def k0_chk76 (v5745 : IVec S16 32) : Prop :=
  (∀ a x, ((![v5745] : Fin 1 → IVec S16 32) a x).toNat < S25600.size a)
theorem k0_idx76_inb : ∀ (v5745 : IVec S16 32) (k0_hw76 : k0_chk76 v5745), ∀ a x, ((![v5745] : Fin 1 → IVec S16 32) a x).toNat < S25600.size a := fun v5745 k0_hw76 => k0_hw76

def k0_chk77 (v560 : IVec S16 32) : Prop :=
  (∀ a x, ((![v560] : Fin 1 → IVec S16 32) a x).toNat < S3072.size a)
theorem k0_idx77_inb : ∀ (v560 : IVec S16 32) (k0_hw77 : k0_chk77 v560), ∀ a x, ((![v560] : Fin 1 → IVec S16 32) a x).toNat < S3072.size a := fun v560 k0_hw77 => k0_hw77

def k0_chk78 (v567 : IVec S16 32) : Prop :=
  (∀ a x, ((![v567] : Fin 1 → IVec S16 32) a x).toNat < S3072.size a)
theorem k0_idx78_inb : ∀ (v567 : IVec S16 32) (k0_hw78 : k0_chk78 v567), ∀ a x, ((![v567] : Fin 1 → IVec S16 32) a x).toNat < S3072.size a := fun v567 k0_hw78 => k0_hw78

def k0_chk79 (v574 : IVec S16 32) : Prop :=
  (∀ a x, ((![v574] : Fin 1 → IVec S16 32) a x).toNat < S3072.size a)
theorem k0_idx79_inb : ∀ (v574 : IVec S16 32) (k0_hw79 : k0_chk79 v574), ∀ a x, ((![v574] : Fin 1 → IVec S16 32) a x).toNat < S3072.size a := fun v574 k0_hw79 => k0_hw79

def k0_chk80 (v581 : IVec S16 32) : Prop :=
  (∀ a x, ((![v581] : Fin 1 → IVec S16 32) a x).toNat < S3072.size a)
theorem k0_idx80_inb : ∀ (v581 : IVec S16 32) (k0_hw80 : k0_chk80 v581), ∀ a x, ((![v581] : Fin 1 → IVec S16 32) a x).toNat < S3072.size a := fun v581 k0_hw80 => k0_hw80

def k0_chk81 (v588 : IVec S16 32) : Prop :=
  (∀ a x, ((![v588] : Fin 1 → IVec S16 32) a x).toNat < S3072.size a)
theorem k0_idx81_inb : ∀ (v588 : IVec S16 32) (k0_hw81 : k0_chk81 v588), ∀ a x, ((![v588] : Fin 1 → IVec S16 32) a x).toNat < S3072.size a := fun v588 k0_hw81 => k0_hw81

def k0_chk82 (v595 : IVec S16 32) : Prop :=
  (∀ a x, ((![v595] : Fin 1 → IVec S16 32) a x).toNat < S3072.size a)
theorem k0_idx82_inb : ∀ (v595 : IVec S16 32) (k0_hw82 : k0_chk82 v595), ∀ a x, ((![v595] : Fin 1 → IVec S16 32) a x).toNat < S3072.size a := fun v595 k0_hw82 => k0_hw82

def k0_chk83 (v602 : IVec S16 32) : Prop :=
  (∀ a x, ((![v602] : Fin 1 → IVec S16 32) a x).toNat < S3072.size a)
theorem k0_idx83_inb : ∀ (v602 : IVec S16 32) (k0_hw83 : k0_chk83 v602), ∀ a x, ((![v602] : Fin 1 → IVec S16 32) a x).toNat < S3072.size a := fun v602 k0_hw83 => k0_hw83

def k0_chk84 (v609 : IVec S16 32) : Prop :=
  (∀ a x, ((![v609] : Fin 1 → IVec S16 32) a x).toNat < S3072.size a)
theorem k0_idx84_inb : ∀ (v609 : IVec S16 32) (k0_hw84 : k0_chk84 v609), ∀ a x, ((![v609] : Fin 1 → IVec S16 32) a x).toNat < S3072.size a := fun v609 k0_hw84 => k0_hw84

def k0_chk85 (v616 : IVec S16 32) : Prop :=
  (∀ a x, ((![v616] : Fin 1 → IVec S16 32) a x).toNat < S3072.size a)
theorem k0_idx85_inb : ∀ (v616 : IVec S16 32) (k0_hw85 : k0_chk85 v616), ∀ a x, ((![v616] : Fin 1 → IVec S16 32) a x).toNat < S3072.size a := fun v616 k0_hw85 => k0_hw85

def k0_chk86 (v623 : IVec S16 32) : Prop :=
  (∀ a x, ((![v623] : Fin 1 → IVec S16 32) a x).toNat < S3072.size a)
theorem k0_idx86_inb : ∀ (v623 : IVec S16 32) (k0_hw86 : k0_chk86 v623), ∀ a x, ((![v623] : Fin 1 → IVec S16 32) a x).toNat < S3072.size a := fun v623 k0_hw86 => k0_hw86

def k0_chk87 (v630 : IVec S16 32) : Prop :=
  (∀ a x, ((![v630] : Fin 1 → IVec S16 32) a x).toNat < S3072.size a)
theorem k0_idx87_inb : ∀ (v630 : IVec S16 32) (k0_hw87 : k0_chk87 v630), ∀ a x, ((![v630] : Fin 1 → IVec S16 32) a x).toNat < S3072.size a := fun v630 k0_hw87 => k0_hw87

def k0_chk88 (v637 : IVec S16 32) : Prop :=
  (∀ a x, ((![v637] : Fin 1 → IVec S16 32) a x).toNat < S3072.size a)
theorem k0_idx88_inb : ∀ (v637 : IVec S16 32) (k0_hw88 : k0_chk88 v637), ∀ a x, ((![v637] : Fin 1 → IVec S16 32) a x).toNat < S3072.size a := fun v637 k0_hw88 => k0_hw88

def k0_chk89 (v644 : IVec S16 32) : Prop :=
  (∀ a x, ((![v644] : Fin 1 → IVec S16 32) a x).toNat < S3072.size a)
theorem k0_idx89_inb : ∀ (v644 : IVec S16 32) (k0_hw89 : k0_chk89 v644), ∀ a x, ((![v644] : Fin 1 → IVec S16 32) a x).toNat < S3072.size a := fun v644 k0_hw89 => k0_hw89

def k0_chk90 (v651 : IVec S16 32) : Prop :=
  (∀ a x, ((![v651] : Fin 1 → IVec S16 32) a x).toNat < S3072.size a)
theorem k0_idx90_inb : ∀ (v651 : IVec S16 32) (k0_hw90 : k0_chk90 v651), ∀ a x, ((![v651] : Fin 1 → IVec S16 32) a x).toNat < S3072.size a := fun v651 k0_hw90 => k0_hw90

def k0_chk91 (v658 : IVec S16 32) : Prop :=
  (∀ a x, ((![v658] : Fin 1 → IVec S16 32) a x).toNat < S3072.size a)
theorem k0_idx91_inb : ∀ (v658 : IVec S16 32) (k0_hw91 : k0_chk91 v658), ∀ a x, ((![v658] : Fin 1 → IVec S16 32) a x).toNat < S3072.size a := fun v658 k0_hw91 => k0_hw91

def k0_chk92 (v665 : IVec S16 32) : Prop :=
  (∀ a x, ((![v665] : Fin 1 → IVec S16 32) a x).toNat < S3072.size a)
theorem k0_idx92_inb : ∀ (v665 : IVec S16 32) (k0_hw92 : k0_chk92 v665), ∀ a x, ((![v665] : Fin 1 → IVec S16 32) a x).toNat < S3072.size a := fun v665 k0_hw92 => k0_hw92

def k0_chk93 (v672 : IVec S16 32) : Prop :=
  (∀ a x, ((![v672] : Fin 1 → IVec S16 32) a x).toNat < S3072.size a)
theorem k0_idx93_inb : ∀ (v672 : IVec S16 32) (k0_hw93 : k0_chk93 v672), ∀ a x, ((![v672] : Fin 1 → IVec S16 32) a x).toNat < S3072.size a := fun v672 k0_hw93 => k0_hw93

def k0_chk94 (v679 : IVec S16 32) : Prop :=
  (∀ a x, ((![v679] : Fin 1 → IVec S16 32) a x).toNat < S3072.size a)
theorem k0_idx94_inb : ∀ (v679 : IVec S16 32) (k0_hw94 : k0_chk94 v679), ∀ a x, ((![v679] : Fin 1 → IVec S16 32) a x).toNat < S3072.size a := fun v679 k0_hw94 => k0_hw94

def k0_chk95 (v686 : IVec S16 32) : Prop :=
  (∀ a x, ((![v686] : Fin 1 → IVec S16 32) a x).toNat < S3072.size a)
theorem k0_idx95_inb : ∀ (v686 : IVec S16 32) (k0_hw95 : k0_chk95 v686), ∀ a x, ((![v686] : Fin 1 → IVec S16 32) a x).toNat < S3072.size a := fun v686 k0_hw95 => k0_hw95

def k0_chk96 (v693 : IVec S16 32) : Prop :=
  (∀ a x, ((![v693] : Fin 1 → IVec S16 32) a x).toNat < S3072.size a)
theorem k0_idx96_inb : ∀ (v693 : IVec S16 32) (k0_hw96 : k0_chk96 v693), ∀ a x, ((![v693] : Fin 1 → IVec S16 32) a x).toNat < S3072.size a := fun v693 k0_hw96 => k0_hw96

def k0_chk97 (v700 : IVec S16 32) : Prop :=
  (∀ a x, ((![v700] : Fin 1 → IVec S16 32) a x).toNat < S3072.size a)
theorem k0_idx97_inb : ∀ (v700 : IVec S16 32) (k0_hw97 : k0_chk97 v700), ∀ a x, ((![v700] : Fin 1 → IVec S16 32) a x).toNat < S3072.size a := fun v700 k0_hw97 => k0_hw97

def k0_chk98 (v707 : IVec S16 32) : Prop :=
  (∀ a x, ((![v707] : Fin 1 → IVec S16 32) a x).toNat < S3072.size a)
theorem k0_idx98_inb : ∀ (v707 : IVec S16 32) (k0_hw98 : k0_chk98 v707), ∀ a x, ((![v707] : Fin 1 → IVec S16 32) a x).toNat < S3072.size a := fun v707 k0_hw98 => k0_hw98

def k0_chk99 (v714 : IVec S16 32) : Prop :=
  (∀ a x, ((![v714] : Fin 1 → IVec S16 32) a x).toNat < S3072.size a)
theorem k0_idx99_inb : ∀ (v714 : IVec S16 32) (k0_hw99 : k0_chk99 v714), ∀ a x, ((![v714] : Fin 1 → IVec S16 32) a x).toNat < S3072.size a := fun v714 k0_hw99 => k0_hw99

def k0_chk100 (v721 : IVec S16 32) : Prop :=
  (∀ a x, ((![v721] : Fin 1 → IVec S16 32) a x).toNat < S3072.size a)
theorem k0_idx100_inb : ∀ (v721 : IVec S16 32) (k0_hw100 : k0_chk100 v721), ∀ a x, ((![v721] : Fin 1 → IVec S16 32) a x).toNat < S3072.size a := fun v721 k0_hw100 => k0_hw100
@[reducible] def k0_t5_loop : Scf.Loop 32 :=
  let c0_i32_297 : BitVec 32 := 0#32
  let c200_i32_298 : BitVec 32 := 200#32
  let v727 : BitVec 32 := Scalar.addi c0_i32_297 c200_i32_298
  let c1_i32_299 : BitVec 32 := 1#32
  ⟨c0_i32_297, v727, c1_i32_299⟩

def k0_chk101 (v5745 : IVec S16 32) : Prop :=
  (∀ a x, ((![v5745] : Fin 1 → IVec S16 32) a x).toNat < S25600.size a)
theorem k0_idx101_inb : ∀ (v5745 : IVec S16 32) (k0_hw101 : k0_chk101 v5745), ∀ a x, ((![v5745] : Fin 1 → IVec S16 32) a x).toNat < S25600.size a := fun v5745 k0_hw101 => k0_hw101

def k0_chk102 (v739 : IVec S16 32) : Prop :=
  (∀ a x, ((![v739] : Fin 1 → IVec S16 32) a x).toNat < S3072.size a)
theorem k0_idx102_inb : ∀ (v739 : IVec S16 32) (k0_hw102 : k0_chk102 v739), ∀ a x, ((![v739] : Fin 1 → IVec S16 32) a x).toNat < S3072.size a := fun v739 k0_hw102 => k0_hw102

def k0_chk103 (v746 : IVec S16 32) : Prop :=
  (∀ a x, ((![v746] : Fin 1 → IVec S16 32) a x).toNat < S3072.size a)
theorem k0_idx103_inb : ∀ (v746 : IVec S16 32) (k0_hw103 : k0_chk103 v746), ∀ a x, ((![v746] : Fin 1 → IVec S16 32) a x).toNat < S3072.size a := fun v746 k0_hw103 => k0_hw103

def k0_chk104 (v753 : IVec S16 32) : Prop :=
  (∀ a x, ((![v753] : Fin 1 → IVec S16 32) a x).toNat < S3072.size a)
theorem k0_idx104_inb : ∀ (v753 : IVec S16 32) (k0_hw104 : k0_chk104 v753), ∀ a x, ((![v753] : Fin 1 → IVec S16 32) a x).toNat < S3072.size a := fun v753 k0_hw104 => k0_hw104

def k0_chk105 (v760 : IVec S16 32) : Prop :=
  (∀ a x, ((![v760] : Fin 1 → IVec S16 32) a x).toNat < S3072.size a)
theorem k0_idx105_inb : ∀ (v760 : IVec S16 32) (k0_hw105 : k0_chk105 v760), ∀ a x, ((![v760] : Fin 1 → IVec S16 32) a x).toNat < S3072.size a := fun v760 k0_hw105 => k0_hw105

def k0_chk106 (v767 : IVec S16 32) : Prop :=
  (∀ a x, ((![v767] : Fin 1 → IVec S16 32) a x).toNat < S3072.size a)
theorem k0_idx106_inb : ∀ (v767 : IVec S16 32) (k0_hw106 : k0_chk106 v767), ∀ a x, ((![v767] : Fin 1 → IVec S16 32) a x).toNat < S3072.size a := fun v767 k0_hw106 => k0_hw106

def k0_chk107 (v774 : IVec S16 32) : Prop :=
  (∀ a x, ((![v774] : Fin 1 → IVec S16 32) a x).toNat < S3072.size a)
theorem k0_idx107_inb : ∀ (v774 : IVec S16 32) (k0_hw107 : k0_chk107 v774), ∀ a x, ((![v774] : Fin 1 → IVec S16 32) a x).toNat < S3072.size a := fun v774 k0_hw107 => k0_hw107

def k0_chk108 (v781 : IVec S16 32) : Prop :=
  (∀ a x, ((![v781] : Fin 1 → IVec S16 32) a x).toNat < S3072.size a)
theorem k0_idx108_inb : ∀ (v781 : IVec S16 32) (k0_hw108 : k0_chk108 v781), ∀ a x, ((![v781] : Fin 1 → IVec S16 32) a x).toNat < S3072.size a := fun v781 k0_hw108 => k0_hw108

def k0_chk109 (v788 : IVec S16 32) : Prop :=
  (∀ a x, ((![v788] : Fin 1 → IVec S16 32) a x).toNat < S3072.size a)
theorem k0_idx109_inb : ∀ (v788 : IVec S16 32) (k0_hw109 : k0_chk109 v788), ∀ a x, ((![v788] : Fin 1 → IVec S16 32) a x).toNat < S3072.size a := fun v788 k0_hw109 => k0_hw109

def k0_chk110 (v795 : IVec S16 32) : Prop :=
  (∀ a x, ((![v795] : Fin 1 → IVec S16 32) a x).toNat < S3072.size a)
theorem k0_idx110_inb : ∀ (v795 : IVec S16 32) (k0_hw110 : k0_chk110 v795), ∀ a x, ((![v795] : Fin 1 → IVec S16 32) a x).toNat < S3072.size a := fun v795 k0_hw110 => k0_hw110

def k0_chk111 (v802 : IVec S16 32) : Prop :=
  (∀ a x, ((![v802] : Fin 1 → IVec S16 32) a x).toNat < S3072.size a)
theorem k0_idx111_inb : ∀ (v802 : IVec S16 32) (k0_hw111 : k0_chk111 v802), ∀ a x, ((![v802] : Fin 1 → IVec S16 32) a x).toNat < S3072.size a := fun v802 k0_hw111 => k0_hw111

def k0_chk112 (v809 : IVec S16 32) : Prop :=
  (∀ a x, ((![v809] : Fin 1 → IVec S16 32) a x).toNat < S3072.size a)
theorem k0_idx112_inb : ∀ (v809 : IVec S16 32) (k0_hw112 : k0_chk112 v809), ∀ a x, ((![v809] : Fin 1 → IVec S16 32) a x).toNat < S3072.size a := fun v809 k0_hw112 => k0_hw112

def k0_chk113 (v816 : IVec S16 32) : Prop :=
  (∀ a x, ((![v816] : Fin 1 → IVec S16 32) a x).toNat < S3072.size a)
theorem k0_idx113_inb : ∀ (v816 : IVec S16 32) (k0_hw113 : k0_chk113 v816), ∀ a x, ((![v816] : Fin 1 → IVec S16 32) a x).toNat < S3072.size a := fun v816 k0_hw113 => k0_hw113

def k0_chk114 (v823 : IVec S16 32) : Prop :=
  (∀ a x, ((![v823] : Fin 1 → IVec S16 32) a x).toNat < S3072.size a)
theorem k0_idx114_inb : ∀ (v823 : IVec S16 32) (k0_hw114 : k0_chk114 v823), ∀ a x, ((![v823] : Fin 1 → IVec S16 32) a x).toNat < S3072.size a := fun v823 k0_hw114 => k0_hw114

def k0_chk115 (v830 : IVec S16 32) : Prop :=
  (∀ a x, ((![v830] : Fin 1 → IVec S16 32) a x).toNat < S3072.size a)
theorem k0_idx115_inb : ∀ (v830 : IVec S16 32) (k0_hw115 : k0_chk115 v830), ∀ a x, ((![v830] : Fin 1 → IVec S16 32) a x).toNat < S3072.size a := fun v830 k0_hw115 => k0_hw115

def k0_chk116 (v837 : IVec S16 32) : Prop :=
  (∀ a x, ((![v837] : Fin 1 → IVec S16 32) a x).toNat < S3072.size a)
theorem k0_idx116_inb : ∀ (v837 : IVec S16 32) (k0_hw116 : k0_chk116 v837), ∀ a x, ((![v837] : Fin 1 → IVec S16 32) a x).toNat < S3072.size a := fun v837 k0_hw116 => k0_hw116

def k0_chk117 (v844 : IVec S16 32) : Prop :=
  (∀ a x, ((![v844] : Fin 1 → IVec S16 32) a x).toNat < S3072.size a)
theorem k0_idx117_inb : ∀ (v844 : IVec S16 32) (k0_hw117 : k0_chk117 v844), ∀ a x, ((![v844] : Fin 1 → IVec S16 32) a x).toNat < S3072.size a := fun v844 k0_hw117 => k0_hw117

def k0_chk118 (v851 : IVec S16 32) : Prop :=
  (∀ a x, ((![v851] : Fin 1 → IVec S16 32) a x).toNat < S3072.size a)
theorem k0_idx118_inb : ∀ (v851 : IVec S16 32) (k0_hw118 : k0_chk118 v851), ∀ a x, ((![v851] : Fin 1 → IVec S16 32) a x).toNat < S3072.size a := fun v851 k0_hw118 => k0_hw118

def k0_chk119 (v858 : IVec S16 32) : Prop :=
  (∀ a x, ((![v858] : Fin 1 → IVec S16 32) a x).toNat < S3072.size a)
theorem k0_idx119_inb : ∀ (v858 : IVec S16 32) (k0_hw119 : k0_chk119 v858), ∀ a x, ((![v858] : Fin 1 → IVec S16 32) a x).toNat < S3072.size a := fun v858 k0_hw119 => k0_hw119

def k0_chk120 (v865 : IVec S16 32) : Prop :=
  (∀ a x, ((![v865] : Fin 1 → IVec S16 32) a x).toNat < S3072.size a)
theorem k0_idx120_inb : ∀ (v865 : IVec S16 32) (k0_hw120 : k0_chk120 v865), ∀ a x, ((![v865] : Fin 1 → IVec S16 32) a x).toNat < S3072.size a := fun v865 k0_hw120 => k0_hw120

def k0_chk121 (v872 : IVec S16 32) : Prop :=
  (∀ a x, ((![v872] : Fin 1 → IVec S16 32) a x).toNat < S3072.size a)
theorem k0_idx121_inb : ∀ (v872 : IVec S16 32) (k0_hw121 : k0_chk121 v872), ∀ a x, ((![v872] : Fin 1 → IVec S16 32) a x).toNat < S3072.size a := fun v872 k0_hw121 => k0_hw121

def k0_chk122 (v879 : IVec S16 32) : Prop :=
  (∀ a x, ((![v879] : Fin 1 → IVec S16 32) a x).toNat < S3072.size a)
theorem k0_idx122_inb : ∀ (v879 : IVec S16 32) (k0_hw122 : k0_chk122 v879), ∀ a x, ((![v879] : Fin 1 → IVec S16 32) a x).toNat < S3072.size a := fun v879 k0_hw122 => k0_hw122

def k0_chk123 (v886 : IVec S16 32) : Prop :=
  (∀ a x, ((![v886] : Fin 1 → IVec S16 32) a x).toNat < S3072.size a)
theorem k0_idx123_inb : ∀ (v886 : IVec S16 32) (k0_hw123 : k0_chk123 v886), ∀ a x, ((![v886] : Fin 1 → IVec S16 32) a x).toNat < S3072.size a := fun v886 k0_hw123 => k0_hw123

def k0_chk124 (v893 : IVec S16 32) : Prop :=
  (∀ a x, ((![v893] : Fin 1 → IVec S16 32) a x).toNat < S3072.size a)
theorem k0_idx124_inb : ∀ (v893 : IVec S16 32) (k0_hw124 : k0_chk124 v893), ∀ a x, ((![v893] : Fin 1 → IVec S16 32) a x).toNat < S3072.size a := fun v893 k0_hw124 => k0_hw124

def k0_chk125 (v900 : IVec S16 32) : Prop :=
  (∀ a x, ((![v900] : Fin 1 → IVec S16 32) a x).toNat < S3072.size a)
theorem k0_idx125_inb : ∀ (v900 : IVec S16 32) (k0_hw125 : k0_chk125 v900), ∀ a x, ((![v900] : Fin 1 → IVec S16 32) a x).toNat < S3072.size a := fun v900 k0_hw125 => k0_hw125
@[reducible] def k0_t6_loop : Scf.Loop 32 :=
  let c0_i32_376 : BitVec 32 := 0#32
  let c200_i32_377 : BitVec 32 := 200#32
  let v906 : BitVec 32 := Scalar.addi c0_i32_376 c200_i32_377
  let c1_i32_378 : BitVec 32 := 1#32
  ⟨c0_i32_376, v906, c1_i32_378⟩

def k0_chk126 (v5745 : IVec S16 32) : Prop :=
  (∀ a x, ((![v5745] : Fin 1 → IVec S16 32) a x).toNat < S25600.size a)
theorem k0_idx126_inb : ∀ (v5745 : IVec S16 32) (k0_hw126 : k0_chk126 v5745), ∀ a x, ((![v5745] : Fin 1 → IVec S16 32) a x).toNat < S25600.size a := fun v5745 k0_hw126 => k0_hw126

def k0_chk127 (v918 : IVec S16 32) : Prop :=
  (∀ a x, ((![v918] : Fin 1 → IVec S16 32) a x).toNat < S3072.size a)
theorem k0_idx127_inb : ∀ (v918 : IVec S16 32) (k0_hw127 : k0_chk127 v918), ∀ a x, ((![v918] : Fin 1 → IVec S16 32) a x).toNat < S3072.size a := fun v918 k0_hw127 => k0_hw127

def k0_chk128 (v925 : IVec S16 32) : Prop :=
  (∀ a x, ((![v925] : Fin 1 → IVec S16 32) a x).toNat < S3072.size a)
theorem k0_idx128_inb : ∀ (v925 : IVec S16 32) (k0_hw128 : k0_chk128 v925), ∀ a x, ((![v925] : Fin 1 → IVec S16 32) a x).toNat < S3072.size a := fun v925 k0_hw128 => k0_hw128

def k0_chk129 (v932 : IVec S16 32) : Prop :=
  (∀ a x, ((![v932] : Fin 1 → IVec S16 32) a x).toNat < S3072.size a)
theorem k0_idx129_inb : ∀ (v932 : IVec S16 32) (k0_hw129 : k0_chk129 v932), ∀ a x, ((![v932] : Fin 1 → IVec S16 32) a x).toNat < S3072.size a := fun v932 k0_hw129 => k0_hw129

def k0_chk130 (v939 : IVec S16 32) : Prop :=
  (∀ a x, ((![v939] : Fin 1 → IVec S16 32) a x).toNat < S3072.size a)
theorem k0_idx130_inb : ∀ (v939 : IVec S16 32) (k0_hw130 : k0_chk130 v939), ∀ a x, ((![v939] : Fin 1 → IVec S16 32) a x).toNat < S3072.size a := fun v939 k0_hw130 => k0_hw130

def k0_chk131 (v946 : IVec S16 32) : Prop :=
  (∀ a x, ((![v946] : Fin 1 → IVec S16 32) a x).toNat < S3072.size a)
theorem k0_idx131_inb : ∀ (v946 : IVec S16 32) (k0_hw131 : k0_chk131 v946), ∀ a x, ((![v946] : Fin 1 → IVec S16 32) a x).toNat < S3072.size a := fun v946 k0_hw131 => k0_hw131

def k0_chk132 (v953 : IVec S16 32) : Prop :=
  (∀ a x, ((![v953] : Fin 1 → IVec S16 32) a x).toNat < S3072.size a)
theorem k0_idx132_inb : ∀ (v953 : IVec S16 32) (k0_hw132 : k0_chk132 v953), ∀ a x, ((![v953] : Fin 1 → IVec S16 32) a x).toNat < S3072.size a := fun v953 k0_hw132 => k0_hw132

def k0_chk133 (v960 : IVec S16 32) : Prop :=
  (∀ a x, ((![v960] : Fin 1 → IVec S16 32) a x).toNat < S3072.size a)
theorem k0_idx133_inb : ∀ (v960 : IVec S16 32) (k0_hw133 : k0_chk133 v960), ∀ a x, ((![v960] : Fin 1 → IVec S16 32) a x).toNat < S3072.size a := fun v960 k0_hw133 => k0_hw133

def k0_chk134 (v967 : IVec S16 32) : Prop :=
  (∀ a x, ((![v967] : Fin 1 → IVec S16 32) a x).toNat < S3072.size a)
theorem k0_idx134_inb : ∀ (v967 : IVec S16 32) (k0_hw134 : k0_chk134 v967), ∀ a x, ((![v967] : Fin 1 → IVec S16 32) a x).toNat < S3072.size a := fun v967 k0_hw134 => k0_hw134

def k0_chk135 (v974 : IVec S16 32) : Prop :=
  (∀ a x, ((![v974] : Fin 1 → IVec S16 32) a x).toNat < S3072.size a)
theorem k0_idx135_inb : ∀ (v974 : IVec S16 32) (k0_hw135 : k0_chk135 v974), ∀ a x, ((![v974] : Fin 1 → IVec S16 32) a x).toNat < S3072.size a := fun v974 k0_hw135 => k0_hw135

def k0_chk136 (v981 : IVec S16 32) : Prop :=
  (∀ a x, ((![v981] : Fin 1 → IVec S16 32) a x).toNat < S3072.size a)
theorem k0_idx136_inb : ∀ (v981 : IVec S16 32) (k0_hw136 : k0_chk136 v981), ∀ a x, ((![v981] : Fin 1 → IVec S16 32) a x).toNat < S3072.size a := fun v981 k0_hw136 => k0_hw136

def k0_chk137 (v988 : IVec S16 32) : Prop :=
  (∀ a x, ((![v988] : Fin 1 → IVec S16 32) a x).toNat < S3072.size a)
theorem k0_idx137_inb : ∀ (v988 : IVec S16 32) (k0_hw137 : k0_chk137 v988), ∀ a x, ((![v988] : Fin 1 → IVec S16 32) a x).toNat < S3072.size a := fun v988 k0_hw137 => k0_hw137

def k0_chk138 (v995 : IVec S16 32) : Prop :=
  (∀ a x, ((![v995] : Fin 1 → IVec S16 32) a x).toNat < S3072.size a)
theorem k0_idx138_inb : ∀ (v995 : IVec S16 32) (k0_hw138 : k0_chk138 v995), ∀ a x, ((![v995] : Fin 1 → IVec S16 32) a x).toNat < S3072.size a := fun v995 k0_hw138 => k0_hw138

def k0_chk139 (v1002 : IVec S16 32) : Prop :=
  (∀ a x, ((![v1002] : Fin 1 → IVec S16 32) a x).toNat < S3072.size a)
theorem k0_idx139_inb : ∀ (v1002 : IVec S16 32) (k0_hw139 : k0_chk139 v1002), ∀ a x, ((![v1002] : Fin 1 → IVec S16 32) a x).toNat < S3072.size a := fun v1002 k0_hw139 => k0_hw139

def k0_chk140 (v1009 : IVec S16 32) : Prop :=
  (∀ a x, ((![v1009] : Fin 1 → IVec S16 32) a x).toNat < S3072.size a)
theorem k0_idx140_inb : ∀ (v1009 : IVec S16 32) (k0_hw140 : k0_chk140 v1009), ∀ a x, ((![v1009] : Fin 1 → IVec S16 32) a x).toNat < S3072.size a := fun v1009 k0_hw140 => k0_hw140

def k0_chk141 (v1016 : IVec S16 32) : Prop :=
  (∀ a x, ((![v1016] : Fin 1 → IVec S16 32) a x).toNat < S3072.size a)
theorem k0_idx141_inb : ∀ (v1016 : IVec S16 32) (k0_hw141 : k0_chk141 v1016), ∀ a x, ((![v1016] : Fin 1 → IVec S16 32) a x).toNat < S3072.size a := fun v1016 k0_hw141 => k0_hw141

def k0_chk142 (v1023 : IVec S16 32) : Prop :=
  (∀ a x, ((![v1023] : Fin 1 → IVec S16 32) a x).toNat < S3072.size a)
theorem k0_idx142_inb : ∀ (v1023 : IVec S16 32) (k0_hw142 : k0_chk142 v1023), ∀ a x, ((![v1023] : Fin 1 → IVec S16 32) a x).toNat < S3072.size a := fun v1023 k0_hw142 => k0_hw142

def k0_chk143 (v1030 : IVec S16 32) : Prop :=
  (∀ a x, ((![v1030] : Fin 1 → IVec S16 32) a x).toNat < S3072.size a)
theorem k0_idx143_inb : ∀ (v1030 : IVec S16 32) (k0_hw143 : k0_chk143 v1030), ∀ a x, ((![v1030] : Fin 1 → IVec S16 32) a x).toNat < S3072.size a := fun v1030 k0_hw143 => k0_hw143

def k0_chk144 (v1037 : IVec S16 32) : Prop :=
  (∀ a x, ((![v1037] : Fin 1 → IVec S16 32) a x).toNat < S3072.size a)
theorem k0_idx144_inb : ∀ (v1037 : IVec S16 32) (k0_hw144 : k0_chk144 v1037), ∀ a x, ((![v1037] : Fin 1 → IVec S16 32) a x).toNat < S3072.size a := fun v1037 k0_hw144 => k0_hw144

def k0_chk145 (v1044 : IVec S16 32) : Prop :=
  (∀ a x, ((![v1044] : Fin 1 → IVec S16 32) a x).toNat < S3072.size a)
theorem k0_idx145_inb : ∀ (v1044 : IVec S16 32) (k0_hw145 : k0_chk145 v1044), ∀ a x, ((![v1044] : Fin 1 → IVec S16 32) a x).toNat < S3072.size a := fun v1044 k0_hw145 => k0_hw145

def k0_chk146 (v1051 : IVec S16 32) : Prop :=
  (∀ a x, ((![v1051] : Fin 1 → IVec S16 32) a x).toNat < S3072.size a)
theorem k0_idx146_inb : ∀ (v1051 : IVec S16 32) (k0_hw146 : k0_chk146 v1051), ∀ a x, ((![v1051] : Fin 1 → IVec S16 32) a x).toNat < S3072.size a := fun v1051 k0_hw146 => k0_hw146

def k0_chk147 (v1058 : IVec S16 32) : Prop :=
  (∀ a x, ((![v1058] : Fin 1 → IVec S16 32) a x).toNat < S3072.size a)
theorem k0_idx147_inb : ∀ (v1058 : IVec S16 32) (k0_hw147 : k0_chk147 v1058), ∀ a x, ((![v1058] : Fin 1 → IVec S16 32) a x).toNat < S3072.size a := fun v1058 k0_hw147 => k0_hw147

def k0_chk148 (v1065 : IVec S16 32) : Prop :=
  (∀ a x, ((![v1065] : Fin 1 → IVec S16 32) a x).toNat < S3072.size a)
theorem k0_idx148_inb : ∀ (v1065 : IVec S16 32) (k0_hw148 : k0_chk148 v1065), ∀ a x, ((![v1065] : Fin 1 → IVec S16 32) a x).toNat < S3072.size a := fun v1065 k0_hw148 => k0_hw148

def k0_chk149 (v1072 : IVec S16 32) : Prop :=
  (∀ a x, ((![v1072] : Fin 1 → IVec S16 32) a x).toNat < S3072.size a)
theorem k0_idx149_inb : ∀ (v1072 : IVec S16 32) (k0_hw149 : k0_chk149 v1072), ∀ a x, ((![v1072] : Fin 1 → IVec S16 32) a x).toNat < S3072.size a := fun v1072 k0_hw149 => k0_hw149

def k0_chk150 (v1079 : IVec S16 32) : Prop :=
  (∀ a x, ((![v1079] : Fin 1 → IVec S16 32) a x).toNat < S3072.size a)
theorem k0_idx150_inb : ∀ (v1079 : IVec S16 32) (k0_hw150 : k0_chk150 v1079), ∀ a x, ((![v1079] : Fin 1 → IVec S16 32) a x).toNat < S3072.size a := fun v1079 k0_hw150 => k0_hw150
@[reducible] def k0_t7_loop : Scf.Loop 32 :=
  let c0_i32_455 : BitVec 32 := 0#32
  let c200_i32_456 : BitVec 32 := 200#32
  let v1085 : BitVec 32 := Scalar.addi c0_i32_455 c200_i32_456
  let c1_i32_457 : BitVec 32 := 1#32
  ⟨c0_i32_455, v1085, c1_i32_457⟩

def k0_chk151 (v5745 : IVec S16 32) : Prop :=
  (∀ a x, ((![v5745] : Fin 1 → IVec S16 32) a x).toNat < S25600.size a)
theorem k0_idx151_inb : ∀ (v5745 : IVec S16 32) (k0_hw151 : k0_chk151 v5745), ∀ a x, ((![v5745] : Fin 1 → IVec S16 32) a x).toNat < S25600.size a := fun v5745 k0_hw151 => k0_hw151

def k0_chk152 (v1097 : IVec S16 32) : Prop :=
  (∀ a x, ((![v1097] : Fin 1 → IVec S16 32) a x).toNat < S3072.size a)
theorem k0_idx152_inb : ∀ (v1097 : IVec S16 32) (k0_hw152 : k0_chk152 v1097), ∀ a x, ((![v1097] : Fin 1 → IVec S16 32) a x).toNat < S3072.size a := fun v1097 k0_hw152 => k0_hw152

def k0_chk153 (v1104 : IVec S16 32) : Prop :=
  (∀ a x, ((![v1104] : Fin 1 → IVec S16 32) a x).toNat < S3072.size a)
theorem k0_idx153_inb : ∀ (v1104 : IVec S16 32) (k0_hw153 : k0_chk153 v1104), ∀ a x, ((![v1104] : Fin 1 → IVec S16 32) a x).toNat < S3072.size a := fun v1104 k0_hw153 => k0_hw153

def k0_chk154 (v1111 : IVec S16 32) : Prop :=
  (∀ a x, ((![v1111] : Fin 1 → IVec S16 32) a x).toNat < S3072.size a)
theorem k0_idx154_inb : ∀ (v1111 : IVec S16 32) (k0_hw154 : k0_chk154 v1111), ∀ a x, ((![v1111] : Fin 1 → IVec S16 32) a x).toNat < S3072.size a := fun v1111 k0_hw154 => k0_hw154

def k0_chk155 (v1118 : IVec S16 32) : Prop :=
  (∀ a x, ((![v1118] : Fin 1 → IVec S16 32) a x).toNat < S3072.size a)
theorem k0_idx155_inb : ∀ (v1118 : IVec S16 32) (k0_hw155 : k0_chk155 v1118), ∀ a x, ((![v1118] : Fin 1 → IVec S16 32) a x).toNat < S3072.size a := fun v1118 k0_hw155 => k0_hw155

def k0_chk156 (v1125 : IVec S16 32) : Prop :=
  (∀ a x, ((![v1125] : Fin 1 → IVec S16 32) a x).toNat < S3072.size a)
theorem k0_idx156_inb : ∀ (v1125 : IVec S16 32) (k0_hw156 : k0_chk156 v1125), ∀ a x, ((![v1125] : Fin 1 → IVec S16 32) a x).toNat < S3072.size a := fun v1125 k0_hw156 => k0_hw156

def k0_chk157 (v1132 : IVec S16 32) : Prop :=
  (∀ a x, ((![v1132] : Fin 1 → IVec S16 32) a x).toNat < S3072.size a)
theorem k0_idx157_inb : ∀ (v1132 : IVec S16 32) (k0_hw157 : k0_chk157 v1132), ∀ a x, ((![v1132] : Fin 1 → IVec S16 32) a x).toNat < S3072.size a := fun v1132 k0_hw157 => k0_hw157

def k0_chk158 (v1139 : IVec S16 32) : Prop :=
  (∀ a x, ((![v1139] : Fin 1 → IVec S16 32) a x).toNat < S3072.size a)
theorem k0_idx158_inb : ∀ (v1139 : IVec S16 32) (k0_hw158 : k0_chk158 v1139), ∀ a x, ((![v1139] : Fin 1 → IVec S16 32) a x).toNat < S3072.size a := fun v1139 k0_hw158 => k0_hw158

def k0_chk159 (v1146 : IVec S16 32) : Prop :=
  (∀ a x, ((![v1146] : Fin 1 → IVec S16 32) a x).toNat < S3072.size a)
theorem k0_idx159_inb : ∀ (v1146 : IVec S16 32) (k0_hw159 : k0_chk159 v1146), ∀ a x, ((![v1146] : Fin 1 → IVec S16 32) a x).toNat < S3072.size a := fun v1146 k0_hw159 => k0_hw159

def k0_chk160 (v1153 : IVec S16 32) : Prop :=
  (∀ a x, ((![v1153] : Fin 1 → IVec S16 32) a x).toNat < S3072.size a)
theorem k0_idx160_inb : ∀ (v1153 : IVec S16 32) (k0_hw160 : k0_chk160 v1153), ∀ a x, ((![v1153] : Fin 1 → IVec S16 32) a x).toNat < S3072.size a := fun v1153 k0_hw160 => k0_hw160

def k0_chk161 (v1160 : IVec S16 32) : Prop :=
  (∀ a x, ((![v1160] : Fin 1 → IVec S16 32) a x).toNat < S3072.size a)
theorem k0_idx161_inb : ∀ (v1160 : IVec S16 32) (k0_hw161 : k0_chk161 v1160), ∀ a x, ((![v1160] : Fin 1 → IVec S16 32) a x).toNat < S3072.size a := fun v1160 k0_hw161 => k0_hw161

def k0_chk162 (v1167 : IVec S16 32) : Prop :=
  (∀ a x, ((![v1167] : Fin 1 → IVec S16 32) a x).toNat < S3072.size a)
theorem k0_idx162_inb : ∀ (v1167 : IVec S16 32) (k0_hw162 : k0_chk162 v1167), ∀ a x, ((![v1167] : Fin 1 → IVec S16 32) a x).toNat < S3072.size a := fun v1167 k0_hw162 => k0_hw162

def k0_chk163 (v1174 : IVec S16 32) : Prop :=
  (∀ a x, ((![v1174] : Fin 1 → IVec S16 32) a x).toNat < S3072.size a)
theorem k0_idx163_inb : ∀ (v1174 : IVec S16 32) (k0_hw163 : k0_chk163 v1174), ∀ a x, ((![v1174] : Fin 1 → IVec S16 32) a x).toNat < S3072.size a := fun v1174 k0_hw163 => k0_hw163

def k0_chk164 (v1181 : IVec S16 32) : Prop :=
  (∀ a x, ((![v1181] : Fin 1 → IVec S16 32) a x).toNat < S3072.size a)
theorem k0_idx164_inb : ∀ (v1181 : IVec S16 32) (k0_hw164 : k0_chk164 v1181), ∀ a x, ((![v1181] : Fin 1 → IVec S16 32) a x).toNat < S3072.size a := fun v1181 k0_hw164 => k0_hw164

def k0_chk165 (v1188 : IVec S16 32) : Prop :=
  (∀ a x, ((![v1188] : Fin 1 → IVec S16 32) a x).toNat < S3072.size a)
theorem k0_idx165_inb : ∀ (v1188 : IVec S16 32) (k0_hw165 : k0_chk165 v1188), ∀ a x, ((![v1188] : Fin 1 → IVec S16 32) a x).toNat < S3072.size a := fun v1188 k0_hw165 => k0_hw165

def k0_chk166 (v1195 : IVec S16 32) : Prop :=
  (∀ a x, ((![v1195] : Fin 1 → IVec S16 32) a x).toNat < S3072.size a)
theorem k0_idx166_inb : ∀ (v1195 : IVec S16 32) (k0_hw166 : k0_chk166 v1195), ∀ a x, ((![v1195] : Fin 1 → IVec S16 32) a x).toNat < S3072.size a := fun v1195 k0_hw166 => k0_hw166

def k0_chk167 (v1202 : IVec S16 32) : Prop :=
  (∀ a x, ((![v1202] : Fin 1 → IVec S16 32) a x).toNat < S3072.size a)
theorem k0_idx167_inb : ∀ (v1202 : IVec S16 32) (k0_hw167 : k0_chk167 v1202), ∀ a x, ((![v1202] : Fin 1 → IVec S16 32) a x).toNat < S3072.size a := fun v1202 k0_hw167 => k0_hw167

def k0_chk168 (v1209 : IVec S16 32) : Prop :=
  (∀ a x, ((![v1209] : Fin 1 → IVec S16 32) a x).toNat < S3072.size a)
theorem k0_idx168_inb : ∀ (v1209 : IVec S16 32) (k0_hw168 : k0_chk168 v1209), ∀ a x, ((![v1209] : Fin 1 → IVec S16 32) a x).toNat < S3072.size a := fun v1209 k0_hw168 => k0_hw168

def k0_chk169 (v1216 : IVec S16 32) : Prop :=
  (∀ a x, ((![v1216] : Fin 1 → IVec S16 32) a x).toNat < S3072.size a)
theorem k0_idx169_inb : ∀ (v1216 : IVec S16 32) (k0_hw169 : k0_chk169 v1216), ∀ a x, ((![v1216] : Fin 1 → IVec S16 32) a x).toNat < S3072.size a := fun v1216 k0_hw169 => k0_hw169

def k0_chk170 (v1223 : IVec S16 32) : Prop :=
  (∀ a x, ((![v1223] : Fin 1 → IVec S16 32) a x).toNat < S3072.size a)
theorem k0_idx170_inb : ∀ (v1223 : IVec S16 32) (k0_hw170 : k0_chk170 v1223), ∀ a x, ((![v1223] : Fin 1 → IVec S16 32) a x).toNat < S3072.size a := fun v1223 k0_hw170 => k0_hw170

def k0_chk171 (v1230 : IVec S16 32) : Prop :=
  (∀ a x, ((![v1230] : Fin 1 → IVec S16 32) a x).toNat < S3072.size a)
theorem k0_idx171_inb : ∀ (v1230 : IVec S16 32) (k0_hw171 : k0_chk171 v1230), ∀ a x, ((![v1230] : Fin 1 → IVec S16 32) a x).toNat < S3072.size a := fun v1230 k0_hw171 => k0_hw171

def k0_chk172 (v1237 : IVec S16 32) : Prop :=
  (∀ a x, ((![v1237] : Fin 1 → IVec S16 32) a x).toNat < S3072.size a)
theorem k0_idx172_inb : ∀ (v1237 : IVec S16 32) (k0_hw172 : k0_chk172 v1237), ∀ a x, ((![v1237] : Fin 1 → IVec S16 32) a x).toNat < S3072.size a := fun v1237 k0_hw172 => k0_hw172

def k0_chk173 (v1244 : IVec S16 32) : Prop :=
  (∀ a x, ((![v1244] : Fin 1 → IVec S16 32) a x).toNat < S3072.size a)
theorem k0_idx173_inb : ∀ (v1244 : IVec S16 32) (k0_hw173 : k0_chk173 v1244), ∀ a x, ((![v1244] : Fin 1 → IVec S16 32) a x).toNat < S3072.size a := fun v1244 k0_hw173 => k0_hw173

def k0_chk174 (v1251 : IVec S16 32) : Prop :=
  (∀ a x, ((![v1251] : Fin 1 → IVec S16 32) a x).toNat < S3072.size a)
theorem k0_idx174_inb : ∀ (v1251 : IVec S16 32) (k0_hw174 : k0_chk174 v1251), ∀ a x, ((![v1251] : Fin 1 → IVec S16 32) a x).toNat < S3072.size a := fun v1251 k0_hw174 => k0_hw174

def k0_chk175 (v1258 : IVec S16 32) : Prop :=
  (∀ a x, ((![v1258] : Fin 1 → IVec S16 32) a x).toNat < S3072.size a)
theorem k0_idx175_inb : ∀ (v1258 : IVec S16 32) (k0_hw175 : k0_chk175 v1258), ∀ a x, ((![v1258] : Fin 1 → IVec S16 32) a x).toNat < S3072.size a := fun v1258 k0_hw175 => k0_hw175
@[reducible] def k0_t8_loop : Scf.Loop 32 :=
  let c0_i32_534 : BitVec 32 := 0#32
  let c200_i32_535 : BitVec 32 := 200#32
  let v1264 : BitVec 32 := Scalar.addi c0_i32_534 c200_i32_535
  let c1_i32_536 : BitVec 32 := 1#32
  ⟨c0_i32_534, v1264, c1_i32_536⟩

def k0_chk176 (v5745 : IVec S16 32) : Prop :=
  (∀ a x, ((![v5745] : Fin 1 → IVec S16 32) a x).toNat < S25600.size a)
theorem k0_idx176_inb : ∀ (v5745 : IVec S16 32) (k0_hw176 : k0_chk176 v5745), ∀ a x, ((![v5745] : Fin 1 → IVec S16 32) a x).toNat < S25600.size a := fun v5745 k0_hw176 => k0_hw176

def k0_chk177 (v1276 : IVec S16 32) : Prop :=
  (∀ a x, ((![v1276] : Fin 1 → IVec S16 32) a x).toNat < S3072.size a)
theorem k0_idx177_inb : ∀ (v1276 : IVec S16 32) (k0_hw177 : k0_chk177 v1276), ∀ a x, ((![v1276] : Fin 1 → IVec S16 32) a x).toNat < S3072.size a := fun v1276 k0_hw177 => k0_hw177

def k0_chk178 (v1283 : IVec S16 32) : Prop :=
  (∀ a x, ((![v1283] : Fin 1 → IVec S16 32) a x).toNat < S3072.size a)
theorem k0_idx178_inb : ∀ (v1283 : IVec S16 32) (k0_hw178 : k0_chk178 v1283), ∀ a x, ((![v1283] : Fin 1 → IVec S16 32) a x).toNat < S3072.size a := fun v1283 k0_hw178 => k0_hw178

def k0_chk179 (v1290 : IVec S16 32) : Prop :=
  (∀ a x, ((![v1290] : Fin 1 → IVec S16 32) a x).toNat < S3072.size a)
theorem k0_idx179_inb : ∀ (v1290 : IVec S16 32) (k0_hw179 : k0_chk179 v1290), ∀ a x, ((![v1290] : Fin 1 → IVec S16 32) a x).toNat < S3072.size a := fun v1290 k0_hw179 => k0_hw179

def k0_chk180 (v1297 : IVec S16 32) : Prop :=
  (∀ a x, ((![v1297] : Fin 1 → IVec S16 32) a x).toNat < S3072.size a)
theorem k0_idx180_inb : ∀ (v1297 : IVec S16 32) (k0_hw180 : k0_chk180 v1297), ∀ a x, ((![v1297] : Fin 1 → IVec S16 32) a x).toNat < S3072.size a := fun v1297 k0_hw180 => k0_hw180

def k0_chk181 (v1304 : IVec S16 32) : Prop :=
  (∀ a x, ((![v1304] : Fin 1 → IVec S16 32) a x).toNat < S3072.size a)
theorem k0_idx181_inb : ∀ (v1304 : IVec S16 32) (k0_hw181 : k0_chk181 v1304), ∀ a x, ((![v1304] : Fin 1 → IVec S16 32) a x).toNat < S3072.size a := fun v1304 k0_hw181 => k0_hw181

def k0_chk182 (v1311 : IVec S16 32) : Prop :=
  (∀ a x, ((![v1311] : Fin 1 → IVec S16 32) a x).toNat < S3072.size a)
theorem k0_idx182_inb : ∀ (v1311 : IVec S16 32) (k0_hw182 : k0_chk182 v1311), ∀ a x, ((![v1311] : Fin 1 → IVec S16 32) a x).toNat < S3072.size a := fun v1311 k0_hw182 => k0_hw182

def k0_chk183 (v1318 : IVec S16 32) : Prop :=
  (∀ a x, ((![v1318] : Fin 1 → IVec S16 32) a x).toNat < S3072.size a)
theorem k0_idx183_inb : ∀ (v1318 : IVec S16 32) (k0_hw183 : k0_chk183 v1318), ∀ a x, ((![v1318] : Fin 1 → IVec S16 32) a x).toNat < S3072.size a := fun v1318 k0_hw183 => k0_hw183

def k0_chk184 (v1325 : IVec S16 32) : Prop :=
  (∀ a x, ((![v1325] : Fin 1 → IVec S16 32) a x).toNat < S3072.size a)
theorem k0_idx184_inb : ∀ (v1325 : IVec S16 32) (k0_hw184 : k0_chk184 v1325), ∀ a x, ((![v1325] : Fin 1 → IVec S16 32) a x).toNat < S3072.size a := fun v1325 k0_hw184 => k0_hw184

def k0_chk185 (v1332 : IVec S16 32) : Prop :=
  (∀ a x, ((![v1332] : Fin 1 → IVec S16 32) a x).toNat < S3072.size a)
theorem k0_idx185_inb : ∀ (v1332 : IVec S16 32) (k0_hw185 : k0_chk185 v1332), ∀ a x, ((![v1332] : Fin 1 → IVec S16 32) a x).toNat < S3072.size a := fun v1332 k0_hw185 => k0_hw185

def k0_chk186 (v1339 : IVec S16 32) : Prop :=
  (∀ a x, ((![v1339] : Fin 1 → IVec S16 32) a x).toNat < S3072.size a)
theorem k0_idx186_inb : ∀ (v1339 : IVec S16 32) (k0_hw186 : k0_chk186 v1339), ∀ a x, ((![v1339] : Fin 1 → IVec S16 32) a x).toNat < S3072.size a := fun v1339 k0_hw186 => k0_hw186

def k0_chk187 (v1346 : IVec S16 32) : Prop :=
  (∀ a x, ((![v1346] : Fin 1 → IVec S16 32) a x).toNat < S3072.size a)
theorem k0_idx187_inb : ∀ (v1346 : IVec S16 32) (k0_hw187 : k0_chk187 v1346), ∀ a x, ((![v1346] : Fin 1 → IVec S16 32) a x).toNat < S3072.size a := fun v1346 k0_hw187 => k0_hw187

def k0_chk188 (v1353 : IVec S16 32) : Prop :=
  (∀ a x, ((![v1353] : Fin 1 → IVec S16 32) a x).toNat < S3072.size a)
theorem k0_idx188_inb : ∀ (v1353 : IVec S16 32) (k0_hw188 : k0_chk188 v1353), ∀ a x, ((![v1353] : Fin 1 → IVec S16 32) a x).toNat < S3072.size a := fun v1353 k0_hw188 => k0_hw188

def k0_chk189 (v1360 : IVec S16 32) : Prop :=
  (∀ a x, ((![v1360] : Fin 1 → IVec S16 32) a x).toNat < S3072.size a)
theorem k0_idx189_inb : ∀ (v1360 : IVec S16 32) (k0_hw189 : k0_chk189 v1360), ∀ a x, ((![v1360] : Fin 1 → IVec S16 32) a x).toNat < S3072.size a := fun v1360 k0_hw189 => k0_hw189

def k0_chk190 (v1367 : IVec S16 32) : Prop :=
  (∀ a x, ((![v1367] : Fin 1 → IVec S16 32) a x).toNat < S3072.size a)
theorem k0_idx190_inb : ∀ (v1367 : IVec S16 32) (k0_hw190 : k0_chk190 v1367), ∀ a x, ((![v1367] : Fin 1 → IVec S16 32) a x).toNat < S3072.size a := fun v1367 k0_hw190 => k0_hw190

def k0_chk191 (v1374 : IVec S16 32) : Prop :=
  (∀ a x, ((![v1374] : Fin 1 → IVec S16 32) a x).toNat < S3072.size a)
theorem k0_idx191_inb : ∀ (v1374 : IVec S16 32) (k0_hw191 : k0_chk191 v1374), ∀ a x, ((![v1374] : Fin 1 → IVec S16 32) a x).toNat < S3072.size a := fun v1374 k0_hw191 => k0_hw191

def k0_chk192 (v1381 : IVec S16 32) : Prop :=
  (∀ a x, ((![v1381] : Fin 1 → IVec S16 32) a x).toNat < S3072.size a)
theorem k0_idx192_inb : ∀ (v1381 : IVec S16 32) (k0_hw192 : k0_chk192 v1381), ∀ a x, ((![v1381] : Fin 1 → IVec S16 32) a x).toNat < S3072.size a := fun v1381 k0_hw192 => k0_hw192

def k0_chk193 (v1388 : IVec S16 32) : Prop :=
  (∀ a x, ((![v1388] : Fin 1 → IVec S16 32) a x).toNat < S3072.size a)
theorem k0_idx193_inb : ∀ (v1388 : IVec S16 32) (k0_hw193 : k0_chk193 v1388), ∀ a x, ((![v1388] : Fin 1 → IVec S16 32) a x).toNat < S3072.size a := fun v1388 k0_hw193 => k0_hw193

def k0_chk194 (v1395 : IVec S16 32) : Prop :=
  (∀ a x, ((![v1395] : Fin 1 → IVec S16 32) a x).toNat < S3072.size a)
theorem k0_idx194_inb : ∀ (v1395 : IVec S16 32) (k0_hw194 : k0_chk194 v1395), ∀ a x, ((![v1395] : Fin 1 → IVec S16 32) a x).toNat < S3072.size a := fun v1395 k0_hw194 => k0_hw194

def k0_chk195 (v1402 : IVec S16 32) : Prop :=
  (∀ a x, ((![v1402] : Fin 1 → IVec S16 32) a x).toNat < S3072.size a)
theorem k0_idx195_inb : ∀ (v1402 : IVec S16 32) (k0_hw195 : k0_chk195 v1402), ∀ a x, ((![v1402] : Fin 1 → IVec S16 32) a x).toNat < S3072.size a := fun v1402 k0_hw195 => k0_hw195

def k0_chk196 (v1409 : IVec S16 32) : Prop :=
  (∀ a x, ((![v1409] : Fin 1 → IVec S16 32) a x).toNat < S3072.size a)
theorem k0_idx196_inb : ∀ (v1409 : IVec S16 32) (k0_hw196 : k0_chk196 v1409), ∀ a x, ((![v1409] : Fin 1 → IVec S16 32) a x).toNat < S3072.size a := fun v1409 k0_hw196 => k0_hw196

def k0_chk197 (v1416 : IVec S16 32) : Prop :=
  (∀ a x, ((![v1416] : Fin 1 → IVec S16 32) a x).toNat < S3072.size a)
theorem k0_idx197_inb : ∀ (v1416 : IVec S16 32) (k0_hw197 : k0_chk197 v1416), ∀ a x, ((![v1416] : Fin 1 → IVec S16 32) a x).toNat < S3072.size a := fun v1416 k0_hw197 => k0_hw197

def k0_chk198 (v1423 : IVec S16 32) : Prop :=
  (∀ a x, ((![v1423] : Fin 1 → IVec S16 32) a x).toNat < S3072.size a)
theorem k0_idx198_inb : ∀ (v1423 : IVec S16 32) (k0_hw198 : k0_chk198 v1423), ∀ a x, ((![v1423] : Fin 1 → IVec S16 32) a x).toNat < S3072.size a := fun v1423 k0_hw198 => k0_hw198

def k0_chk199 (v1430 : IVec S16 32) : Prop :=
  (∀ a x, ((![v1430] : Fin 1 → IVec S16 32) a x).toNat < S3072.size a)
theorem k0_idx199_inb : ∀ (v1430 : IVec S16 32) (k0_hw199 : k0_chk199 v1430), ∀ a x, ((![v1430] : Fin 1 → IVec S16 32) a x).toNat < S3072.size a := fun v1430 k0_hw199 => k0_hw199

def k0_chk200 (v1437 : IVec S16 32) : Prop :=
  (∀ a x, ((![v1437] : Fin 1 → IVec S16 32) a x).toNat < S3072.size a)
theorem k0_idx200_inb : ∀ (v1437 : IVec S16 32) (k0_hw200 : k0_chk200 v1437), ∀ a x, ((![v1437] : Fin 1 → IVec S16 32) a x).toNat < S3072.size a := fun v1437 k0_hw200 => k0_hw200
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32 : BitVec 32 := 0#32
  let v4 : BitVec 32 := Scalar.addi v3 c0_i32
  let c24_i32_611 : BitVec 32 := 24#32
  let v1438 : BitVec 32 := Scalar.muli v4 c24_i32_611
  ![v1438.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c128_i32 : BitVec 32 := 128#32
  let v1439 : BitVec 32 := Scalar.addi v3 c128_i32
  let c200_i32_612 : BitVec 32 := 200#32
  let v1440 : BitVec 32 := Scalar.muli v1439 c200_i32_612
  ![v1440.toNat]
@[reducible] def k0_t9_loop : Scf.Loop 32 :=
  let c0_i32_616 : BitVec 32 := 0#32
  let c200_i32_617 : BitVec 32 := 200#32
  let v1446 : BitVec 32 := Scalar.addi c0_i32_616 c200_i32_617
  let c1_i32_618 : BitVec 32 := 1#32
  ⟨c0_i32_616, v1446, c1_i32_618⟩

def k0_chk201 (v5745 : IVec S16 32) : Prop :=
  (∀ a x, ((![v5745] : Fin 1 → IVec S16 32) a x).toNat < S25600.size a)
theorem k0_idx201_inb : ∀ (v5745 : IVec S16 32) (k0_hw201 : k0_chk201 v5745), ∀ a x, ((![v5745] : Fin 1 → IVec S16 32) a x).toNat < S25600.size a := fun v5745 k0_hw201 => k0_hw201

def k0_chk202 (v1458 : IVec S16 32) : Prop :=
  (∀ a x, ((![v1458] : Fin 1 → IVec S16 32) a x).toNat < S3072.size a)
theorem k0_idx202_inb : ∀ (v1458 : IVec S16 32) (k0_hw202 : k0_chk202 v1458), ∀ a x, ((![v1458] : Fin 1 → IVec S16 32) a x).toNat < S3072.size a := fun v1458 k0_hw202 => k0_hw202

def k0_chk203 (v1465 : IVec S16 32) : Prop :=
  (∀ a x, ((![v1465] : Fin 1 → IVec S16 32) a x).toNat < S3072.size a)
theorem k0_idx203_inb : ∀ (v1465 : IVec S16 32) (k0_hw203 : k0_chk203 v1465), ∀ a x, ((![v1465] : Fin 1 → IVec S16 32) a x).toNat < S3072.size a := fun v1465 k0_hw203 => k0_hw203

def k0_chk204 (v1472 : IVec S16 32) : Prop :=
  (∀ a x, ((![v1472] : Fin 1 → IVec S16 32) a x).toNat < S3072.size a)
theorem k0_idx204_inb : ∀ (v1472 : IVec S16 32) (k0_hw204 : k0_chk204 v1472), ∀ a x, ((![v1472] : Fin 1 → IVec S16 32) a x).toNat < S3072.size a := fun v1472 k0_hw204 => k0_hw204

def k0_chk205 (v1479 : IVec S16 32) : Prop :=
  (∀ a x, ((![v1479] : Fin 1 → IVec S16 32) a x).toNat < S3072.size a)
theorem k0_idx205_inb : ∀ (v1479 : IVec S16 32) (k0_hw205 : k0_chk205 v1479), ∀ a x, ((![v1479] : Fin 1 → IVec S16 32) a x).toNat < S3072.size a := fun v1479 k0_hw205 => k0_hw205

def k0_chk206 (v1486 : IVec S16 32) : Prop :=
  (∀ a x, ((![v1486] : Fin 1 → IVec S16 32) a x).toNat < S3072.size a)
theorem k0_idx206_inb : ∀ (v1486 : IVec S16 32) (k0_hw206 : k0_chk206 v1486), ∀ a x, ((![v1486] : Fin 1 → IVec S16 32) a x).toNat < S3072.size a := fun v1486 k0_hw206 => k0_hw206

def k0_chk207 (v1493 : IVec S16 32) : Prop :=
  (∀ a x, ((![v1493] : Fin 1 → IVec S16 32) a x).toNat < S3072.size a)
theorem k0_idx207_inb : ∀ (v1493 : IVec S16 32) (k0_hw207 : k0_chk207 v1493), ∀ a x, ((![v1493] : Fin 1 → IVec S16 32) a x).toNat < S3072.size a := fun v1493 k0_hw207 => k0_hw207

def k0_chk208 (v1500 : IVec S16 32) : Prop :=
  (∀ a x, ((![v1500] : Fin 1 → IVec S16 32) a x).toNat < S3072.size a)
theorem k0_idx208_inb : ∀ (v1500 : IVec S16 32) (k0_hw208 : k0_chk208 v1500), ∀ a x, ((![v1500] : Fin 1 → IVec S16 32) a x).toNat < S3072.size a := fun v1500 k0_hw208 => k0_hw208

def k0_chk209 (v1507 : IVec S16 32) : Prop :=
  (∀ a x, ((![v1507] : Fin 1 → IVec S16 32) a x).toNat < S3072.size a)
theorem k0_idx209_inb : ∀ (v1507 : IVec S16 32) (k0_hw209 : k0_chk209 v1507), ∀ a x, ((![v1507] : Fin 1 → IVec S16 32) a x).toNat < S3072.size a := fun v1507 k0_hw209 => k0_hw209

def k0_chk210 (v1514 : IVec S16 32) : Prop :=
  (∀ a x, ((![v1514] : Fin 1 → IVec S16 32) a x).toNat < S3072.size a)
theorem k0_idx210_inb : ∀ (v1514 : IVec S16 32) (k0_hw210 : k0_chk210 v1514), ∀ a x, ((![v1514] : Fin 1 → IVec S16 32) a x).toNat < S3072.size a := fun v1514 k0_hw210 => k0_hw210

def k0_chk211 (v1521 : IVec S16 32) : Prop :=
  (∀ a x, ((![v1521] : Fin 1 → IVec S16 32) a x).toNat < S3072.size a)
theorem k0_idx211_inb : ∀ (v1521 : IVec S16 32) (k0_hw211 : k0_chk211 v1521), ∀ a x, ((![v1521] : Fin 1 → IVec S16 32) a x).toNat < S3072.size a := fun v1521 k0_hw211 => k0_hw211

def k0_chk212 (v1528 : IVec S16 32) : Prop :=
  (∀ a x, ((![v1528] : Fin 1 → IVec S16 32) a x).toNat < S3072.size a)
theorem k0_idx212_inb : ∀ (v1528 : IVec S16 32) (k0_hw212 : k0_chk212 v1528), ∀ a x, ((![v1528] : Fin 1 → IVec S16 32) a x).toNat < S3072.size a := fun v1528 k0_hw212 => k0_hw212

def k0_chk213 (v1535 : IVec S16 32) : Prop :=
  (∀ a x, ((![v1535] : Fin 1 → IVec S16 32) a x).toNat < S3072.size a)
theorem k0_idx213_inb : ∀ (v1535 : IVec S16 32) (k0_hw213 : k0_chk213 v1535), ∀ a x, ((![v1535] : Fin 1 → IVec S16 32) a x).toNat < S3072.size a := fun v1535 k0_hw213 => k0_hw213

def k0_chk214 (v1542 : IVec S16 32) : Prop :=
  (∀ a x, ((![v1542] : Fin 1 → IVec S16 32) a x).toNat < S3072.size a)
theorem k0_idx214_inb : ∀ (v1542 : IVec S16 32) (k0_hw214 : k0_chk214 v1542), ∀ a x, ((![v1542] : Fin 1 → IVec S16 32) a x).toNat < S3072.size a := fun v1542 k0_hw214 => k0_hw214

def k0_chk215 (v1549 : IVec S16 32) : Prop :=
  (∀ a x, ((![v1549] : Fin 1 → IVec S16 32) a x).toNat < S3072.size a)
theorem k0_idx215_inb : ∀ (v1549 : IVec S16 32) (k0_hw215 : k0_chk215 v1549), ∀ a x, ((![v1549] : Fin 1 → IVec S16 32) a x).toNat < S3072.size a := fun v1549 k0_hw215 => k0_hw215

def k0_chk216 (v1556 : IVec S16 32) : Prop :=
  (∀ a x, ((![v1556] : Fin 1 → IVec S16 32) a x).toNat < S3072.size a)
theorem k0_idx216_inb : ∀ (v1556 : IVec S16 32) (k0_hw216 : k0_chk216 v1556), ∀ a x, ((![v1556] : Fin 1 → IVec S16 32) a x).toNat < S3072.size a := fun v1556 k0_hw216 => k0_hw216

def k0_chk217 (v1563 : IVec S16 32) : Prop :=
  (∀ a x, ((![v1563] : Fin 1 → IVec S16 32) a x).toNat < S3072.size a)
theorem k0_idx217_inb : ∀ (v1563 : IVec S16 32) (k0_hw217 : k0_chk217 v1563), ∀ a x, ((![v1563] : Fin 1 → IVec S16 32) a x).toNat < S3072.size a := fun v1563 k0_hw217 => k0_hw217

def k0_chk218 (v1570 : IVec S16 32) : Prop :=
  (∀ a x, ((![v1570] : Fin 1 → IVec S16 32) a x).toNat < S3072.size a)
theorem k0_idx218_inb : ∀ (v1570 : IVec S16 32) (k0_hw218 : k0_chk218 v1570), ∀ a x, ((![v1570] : Fin 1 → IVec S16 32) a x).toNat < S3072.size a := fun v1570 k0_hw218 => k0_hw218

def k0_chk219 (v1577 : IVec S16 32) : Prop :=
  (∀ a x, ((![v1577] : Fin 1 → IVec S16 32) a x).toNat < S3072.size a)
theorem k0_idx219_inb : ∀ (v1577 : IVec S16 32) (k0_hw219 : k0_chk219 v1577), ∀ a x, ((![v1577] : Fin 1 → IVec S16 32) a x).toNat < S3072.size a := fun v1577 k0_hw219 => k0_hw219

def k0_chk220 (v1584 : IVec S16 32) : Prop :=
  (∀ a x, ((![v1584] : Fin 1 → IVec S16 32) a x).toNat < S3072.size a)
theorem k0_idx220_inb : ∀ (v1584 : IVec S16 32) (k0_hw220 : k0_chk220 v1584), ∀ a x, ((![v1584] : Fin 1 → IVec S16 32) a x).toNat < S3072.size a := fun v1584 k0_hw220 => k0_hw220

def k0_chk221 (v1591 : IVec S16 32) : Prop :=
  (∀ a x, ((![v1591] : Fin 1 → IVec S16 32) a x).toNat < S3072.size a)
theorem k0_idx221_inb : ∀ (v1591 : IVec S16 32) (k0_hw221 : k0_chk221 v1591), ∀ a x, ((![v1591] : Fin 1 → IVec S16 32) a x).toNat < S3072.size a := fun v1591 k0_hw221 => k0_hw221

def k0_chk222 (v1598 : IVec S16 32) : Prop :=
  (∀ a x, ((![v1598] : Fin 1 → IVec S16 32) a x).toNat < S3072.size a)
theorem k0_idx222_inb : ∀ (v1598 : IVec S16 32) (k0_hw222 : k0_chk222 v1598), ∀ a x, ((![v1598] : Fin 1 → IVec S16 32) a x).toNat < S3072.size a := fun v1598 k0_hw222 => k0_hw222

def k0_chk223 (v1605 : IVec S16 32) : Prop :=
  (∀ a x, ((![v1605] : Fin 1 → IVec S16 32) a x).toNat < S3072.size a)
theorem k0_idx223_inb : ∀ (v1605 : IVec S16 32) (k0_hw223 : k0_chk223 v1605), ∀ a x, ((![v1605] : Fin 1 → IVec S16 32) a x).toNat < S3072.size a := fun v1605 k0_hw223 => k0_hw223

def k0_chk224 (v1612 : IVec S16 32) : Prop :=
  (∀ a x, ((![v1612] : Fin 1 → IVec S16 32) a x).toNat < S3072.size a)
theorem k0_idx224_inb : ∀ (v1612 : IVec S16 32) (k0_hw224 : k0_chk224 v1612), ∀ a x, ((![v1612] : Fin 1 → IVec S16 32) a x).toNat < S3072.size a := fun v1612 k0_hw224 => k0_hw224

def k0_chk225 (v1619 : IVec S16 32) : Prop :=
  (∀ a x, ((![v1619] : Fin 1 → IVec S16 32) a x).toNat < S3072.size a)
theorem k0_idx225_inb : ∀ (v1619 : IVec S16 32) (k0_hw225 : k0_chk225 v1619), ∀ a x, ((![v1619] : Fin 1 → IVec S16 32) a x).toNat < S3072.size a := fun v1619 k0_hw225 => k0_hw225
@[reducible] def k0_t10_loop : Scf.Loop 32 :=
  let c0_i32_697 : BitVec 32 := 0#32
  let c200_i32_698 : BitVec 32 := 200#32
  let v1625 : BitVec 32 := Scalar.addi c0_i32_697 c200_i32_698
  let c1_i32_699 : BitVec 32 := 1#32
  ⟨c0_i32_697, v1625, c1_i32_699⟩

def k0_chk226 (v5745 : IVec S16 32) : Prop :=
  (∀ a x, ((![v5745] : Fin 1 → IVec S16 32) a x).toNat < S25600.size a)
theorem k0_idx226_inb : ∀ (v5745 : IVec S16 32) (k0_hw226 : k0_chk226 v5745), ∀ a x, ((![v5745] : Fin 1 → IVec S16 32) a x).toNat < S25600.size a := fun v5745 k0_hw226 => k0_hw226

def k0_chk227 (v1637 : IVec S16 32) : Prop :=
  (∀ a x, ((![v1637] : Fin 1 → IVec S16 32) a x).toNat < S3072.size a)
theorem k0_idx227_inb : ∀ (v1637 : IVec S16 32) (k0_hw227 : k0_chk227 v1637), ∀ a x, ((![v1637] : Fin 1 → IVec S16 32) a x).toNat < S3072.size a := fun v1637 k0_hw227 => k0_hw227

def k0_chk228 (v1644 : IVec S16 32) : Prop :=
  (∀ a x, ((![v1644] : Fin 1 → IVec S16 32) a x).toNat < S3072.size a)
theorem k0_idx228_inb : ∀ (v1644 : IVec S16 32) (k0_hw228 : k0_chk228 v1644), ∀ a x, ((![v1644] : Fin 1 → IVec S16 32) a x).toNat < S3072.size a := fun v1644 k0_hw228 => k0_hw228

def k0_chk229 (v1651 : IVec S16 32) : Prop :=
  (∀ a x, ((![v1651] : Fin 1 → IVec S16 32) a x).toNat < S3072.size a)
theorem k0_idx229_inb : ∀ (v1651 : IVec S16 32) (k0_hw229 : k0_chk229 v1651), ∀ a x, ((![v1651] : Fin 1 → IVec S16 32) a x).toNat < S3072.size a := fun v1651 k0_hw229 => k0_hw229

def k0_chk230 (v1658 : IVec S16 32) : Prop :=
  (∀ a x, ((![v1658] : Fin 1 → IVec S16 32) a x).toNat < S3072.size a)
theorem k0_idx230_inb : ∀ (v1658 : IVec S16 32) (k0_hw230 : k0_chk230 v1658), ∀ a x, ((![v1658] : Fin 1 → IVec S16 32) a x).toNat < S3072.size a := fun v1658 k0_hw230 => k0_hw230

def k0_chk231 (v1665 : IVec S16 32) : Prop :=
  (∀ a x, ((![v1665] : Fin 1 → IVec S16 32) a x).toNat < S3072.size a)
theorem k0_idx231_inb : ∀ (v1665 : IVec S16 32) (k0_hw231 : k0_chk231 v1665), ∀ a x, ((![v1665] : Fin 1 → IVec S16 32) a x).toNat < S3072.size a := fun v1665 k0_hw231 => k0_hw231

def k0_chk232 (v1672 : IVec S16 32) : Prop :=
  (∀ a x, ((![v1672] : Fin 1 → IVec S16 32) a x).toNat < S3072.size a)
theorem k0_idx232_inb : ∀ (v1672 : IVec S16 32) (k0_hw232 : k0_chk232 v1672), ∀ a x, ((![v1672] : Fin 1 → IVec S16 32) a x).toNat < S3072.size a := fun v1672 k0_hw232 => k0_hw232

def k0_chk233 (v1679 : IVec S16 32) : Prop :=
  (∀ a x, ((![v1679] : Fin 1 → IVec S16 32) a x).toNat < S3072.size a)
theorem k0_idx233_inb : ∀ (v1679 : IVec S16 32) (k0_hw233 : k0_chk233 v1679), ∀ a x, ((![v1679] : Fin 1 → IVec S16 32) a x).toNat < S3072.size a := fun v1679 k0_hw233 => k0_hw233

def k0_chk234 (v1686 : IVec S16 32) : Prop :=
  (∀ a x, ((![v1686] : Fin 1 → IVec S16 32) a x).toNat < S3072.size a)
theorem k0_idx234_inb : ∀ (v1686 : IVec S16 32) (k0_hw234 : k0_chk234 v1686), ∀ a x, ((![v1686] : Fin 1 → IVec S16 32) a x).toNat < S3072.size a := fun v1686 k0_hw234 => k0_hw234

def k0_chk235 (v1693 : IVec S16 32) : Prop :=
  (∀ a x, ((![v1693] : Fin 1 → IVec S16 32) a x).toNat < S3072.size a)
theorem k0_idx235_inb : ∀ (v1693 : IVec S16 32) (k0_hw235 : k0_chk235 v1693), ∀ a x, ((![v1693] : Fin 1 → IVec S16 32) a x).toNat < S3072.size a := fun v1693 k0_hw235 => k0_hw235

def k0_chk236 (v1700 : IVec S16 32) : Prop :=
  (∀ a x, ((![v1700] : Fin 1 → IVec S16 32) a x).toNat < S3072.size a)
theorem k0_idx236_inb : ∀ (v1700 : IVec S16 32) (k0_hw236 : k0_chk236 v1700), ∀ a x, ((![v1700] : Fin 1 → IVec S16 32) a x).toNat < S3072.size a := fun v1700 k0_hw236 => k0_hw236

def k0_chk237 (v1707 : IVec S16 32) : Prop :=
  (∀ a x, ((![v1707] : Fin 1 → IVec S16 32) a x).toNat < S3072.size a)
theorem k0_idx237_inb : ∀ (v1707 : IVec S16 32) (k0_hw237 : k0_chk237 v1707), ∀ a x, ((![v1707] : Fin 1 → IVec S16 32) a x).toNat < S3072.size a := fun v1707 k0_hw237 => k0_hw237

def k0_chk238 (v1714 : IVec S16 32) : Prop :=
  (∀ a x, ((![v1714] : Fin 1 → IVec S16 32) a x).toNat < S3072.size a)
theorem k0_idx238_inb : ∀ (v1714 : IVec S16 32) (k0_hw238 : k0_chk238 v1714), ∀ a x, ((![v1714] : Fin 1 → IVec S16 32) a x).toNat < S3072.size a := fun v1714 k0_hw238 => k0_hw238

def k0_chk239 (v1721 : IVec S16 32) : Prop :=
  (∀ a x, ((![v1721] : Fin 1 → IVec S16 32) a x).toNat < S3072.size a)
theorem k0_idx239_inb : ∀ (v1721 : IVec S16 32) (k0_hw239 : k0_chk239 v1721), ∀ a x, ((![v1721] : Fin 1 → IVec S16 32) a x).toNat < S3072.size a := fun v1721 k0_hw239 => k0_hw239

def k0_chk240 (v1728 : IVec S16 32) : Prop :=
  (∀ a x, ((![v1728] : Fin 1 → IVec S16 32) a x).toNat < S3072.size a)
theorem k0_idx240_inb : ∀ (v1728 : IVec S16 32) (k0_hw240 : k0_chk240 v1728), ∀ a x, ((![v1728] : Fin 1 → IVec S16 32) a x).toNat < S3072.size a := fun v1728 k0_hw240 => k0_hw240

def k0_chk241 (v1735 : IVec S16 32) : Prop :=
  (∀ a x, ((![v1735] : Fin 1 → IVec S16 32) a x).toNat < S3072.size a)
theorem k0_idx241_inb : ∀ (v1735 : IVec S16 32) (k0_hw241 : k0_chk241 v1735), ∀ a x, ((![v1735] : Fin 1 → IVec S16 32) a x).toNat < S3072.size a := fun v1735 k0_hw241 => k0_hw241

def k0_chk242 (v1742 : IVec S16 32) : Prop :=
  (∀ a x, ((![v1742] : Fin 1 → IVec S16 32) a x).toNat < S3072.size a)
theorem k0_idx242_inb : ∀ (v1742 : IVec S16 32) (k0_hw242 : k0_chk242 v1742), ∀ a x, ((![v1742] : Fin 1 → IVec S16 32) a x).toNat < S3072.size a := fun v1742 k0_hw242 => k0_hw242

def k0_chk243 (v1749 : IVec S16 32) : Prop :=
  (∀ a x, ((![v1749] : Fin 1 → IVec S16 32) a x).toNat < S3072.size a)
theorem k0_idx243_inb : ∀ (v1749 : IVec S16 32) (k0_hw243 : k0_chk243 v1749), ∀ a x, ((![v1749] : Fin 1 → IVec S16 32) a x).toNat < S3072.size a := fun v1749 k0_hw243 => k0_hw243

def k0_chk244 (v1756 : IVec S16 32) : Prop :=
  (∀ a x, ((![v1756] : Fin 1 → IVec S16 32) a x).toNat < S3072.size a)
theorem k0_idx244_inb : ∀ (v1756 : IVec S16 32) (k0_hw244 : k0_chk244 v1756), ∀ a x, ((![v1756] : Fin 1 → IVec S16 32) a x).toNat < S3072.size a := fun v1756 k0_hw244 => k0_hw244

def k0_chk245 (v1763 : IVec S16 32) : Prop :=
  (∀ a x, ((![v1763] : Fin 1 → IVec S16 32) a x).toNat < S3072.size a)
theorem k0_idx245_inb : ∀ (v1763 : IVec S16 32) (k0_hw245 : k0_chk245 v1763), ∀ a x, ((![v1763] : Fin 1 → IVec S16 32) a x).toNat < S3072.size a := fun v1763 k0_hw245 => k0_hw245

def k0_chk246 (v1770 : IVec S16 32) : Prop :=
  (∀ a x, ((![v1770] : Fin 1 → IVec S16 32) a x).toNat < S3072.size a)
theorem k0_idx246_inb : ∀ (v1770 : IVec S16 32) (k0_hw246 : k0_chk246 v1770), ∀ a x, ((![v1770] : Fin 1 → IVec S16 32) a x).toNat < S3072.size a := fun v1770 k0_hw246 => k0_hw246

def k0_chk247 (v1777 : IVec S16 32) : Prop :=
  (∀ a x, ((![v1777] : Fin 1 → IVec S16 32) a x).toNat < S3072.size a)
theorem k0_idx247_inb : ∀ (v1777 : IVec S16 32) (k0_hw247 : k0_chk247 v1777), ∀ a x, ((![v1777] : Fin 1 → IVec S16 32) a x).toNat < S3072.size a := fun v1777 k0_hw247 => k0_hw247

def k0_chk248 (v1784 : IVec S16 32) : Prop :=
  (∀ a x, ((![v1784] : Fin 1 → IVec S16 32) a x).toNat < S3072.size a)
theorem k0_idx248_inb : ∀ (v1784 : IVec S16 32) (k0_hw248 : k0_chk248 v1784), ∀ a x, ((![v1784] : Fin 1 → IVec S16 32) a x).toNat < S3072.size a := fun v1784 k0_hw248 => k0_hw248

def k0_chk249 (v1791 : IVec S16 32) : Prop :=
  (∀ a x, ((![v1791] : Fin 1 → IVec S16 32) a x).toNat < S3072.size a)
theorem k0_idx249_inb : ∀ (v1791 : IVec S16 32) (k0_hw249 : k0_chk249 v1791), ∀ a x, ((![v1791] : Fin 1 → IVec S16 32) a x).toNat < S3072.size a := fun v1791 k0_hw249 => k0_hw249

def k0_chk250 (v1798 : IVec S16 32) : Prop :=
  (∀ a x, ((![v1798] : Fin 1 → IVec S16 32) a x).toNat < S3072.size a)
theorem k0_idx250_inb : ∀ (v1798 : IVec S16 32) (k0_hw250 : k0_chk250 v1798), ∀ a x, ((![v1798] : Fin 1 → IVec S16 32) a x).toNat < S3072.size a := fun v1798 k0_hw250 => k0_hw250
@[reducible] def k0_t11_loop : Scf.Loop 32 :=
  let c0_i32_778 : BitVec 32 := 0#32
  let c200_i32_779 : BitVec 32 := 200#32
  let v1804 : BitVec 32 := Scalar.addi c0_i32_778 c200_i32_779
  let c1_i32_780 : BitVec 32 := 1#32
  ⟨c0_i32_778, v1804, c1_i32_780⟩

def k0_chk251 (v5745 : IVec S16 32) : Prop :=
  (∀ a x, ((![v5745] : Fin 1 → IVec S16 32) a x).toNat < S25600.size a)
theorem k0_idx251_inb : ∀ (v5745 : IVec S16 32) (k0_hw251 : k0_chk251 v5745), ∀ a x, ((![v5745] : Fin 1 → IVec S16 32) a x).toNat < S25600.size a := fun v5745 k0_hw251 => k0_hw251

def k0_chk252 (v1816 : IVec S16 32) : Prop :=
  (∀ a x, ((![v1816] : Fin 1 → IVec S16 32) a x).toNat < S3072.size a)
theorem k0_idx252_inb : ∀ (v1816 : IVec S16 32) (k0_hw252 : k0_chk252 v1816), ∀ a x, ((![v1816] : Fin 1 → IVec S16 32) a x).toNat < S3072.size a := fun v1816 k0_hw252 => k0_hw252

def k0_chk253 (v1823 : IVec S16 32) : Prop :=
  (∀ a x, ((![v1823] : Fin 1 → IVec S16 32) a x).toNat < S3072.size a)
theorem k0_idx253_inb : ∀ (v1823 : IVec S16 32) (k0_hw253 : k0_chk253 v1823), ∀ a x, ((![v1823] : Fin 1 → IVec S16 32) a x).toNat < S3072.size a := fun v1823 k0_hw253 => k0_hw253

def k0_chk254 (v1830 : IVec S16 32) : Prop :=
  (∀ a x, ((![v1830] : Fin 1 → IVec S16 32) a x).toNat < S3072.size a)
theorem k0_idx254_inb : ∀ (v1830 : IVec S16 32) (k0_hw254 : k0_chk254 v1830), ∀ a x, ((![v1830] : Fin 1 → IVec S16 32) a x).toNat < S3072.size a := fun v1830 k0_hw254 => k0_hw254

def k0_chk255 (v1837 : IVec S16 32) : Prop :=
  (∀ a x, ((![v1837] : Fin 1 → IVec S16 32) a x).toNat < S3072.size a)
theorem k0_idx255_inb : ∀ (v1837 : IVec S16 32) (k0_hw255 : k0_chk255 v1837), ∀ a x, ((![v1837] : Fin 1 → IVec S16 32) a x).toNat < S3072.size a := fun v1837 k0_hw255 => k0_hw255

def k0_chk256 (v1844 : IVec S16 32) : Prop :=
  (∀ a x, ((![v1844] : Fin 1 → IVec S16 32) a x).toNat < S3072.size a)
theorem k0_idx256_inb : ∀ (v1844 : IVec S16 32) (k0_hw256 : k0_chk256 v1844), ∀ a x, ((![v1844] : Fin 1 → IVec S16 32) a x).toNat < S3072.size a := fun v1844 k0_hw256 => k0_hw256

def k0_chk257 (v1851 : IVec S16 32) : Prop :=
  (∀ a x, ((![v1851] : Fin 1 → IVec S16 32) a x).toNat < S3072.size a)
theorem k0_idx257_inb : ∀ (v1851 : IVec S16 32) (k0_hw257 : k0_chk257 v1851), ∀ a x, ((![v1851] : Fin 1 → IVec S16 32) a x).toNat < S3072.size a := fun v1851 k0_hw257 => k0_hw257

def k0_chk258 (v1858 : IVec S16 32) : Prop :=
  (∀ a x, ((![v1858] : Fin 1 → IVec S16 32) a x).toNat < S3072.size a)
theorem k0_idx258_inb : ∀ (v1858 : IVec S16 32) (k0_hw258 : k0_chk258 v1858), ∀ a x, ((![v1858] : Fin 1 → IVec S16 32) a x).toNat < S3072.size a := fun v1858 k0_hw258 => k0_hw258

def k0_chk259 (v1865 : IVec S16 32) : Prop :=
  (∀ a x, ((![v1865] : Fin 1 → IVec S16 32) a x).toNat < S3072.size a)
theorem k0_idx259_inb : ∀ (v1865 : IVec S16 32) (k0_hw259 : k0_chk259 v1865), ∀ a x, ((![v1865] : Fin 1 → IVec S16 32) a x).toNat < S3072.size a := fun v1865 k0_hw259 => k0_hw259

def k0_chk260 (v1872 : IVec S16 32) : Prop :=
  (∀ a x, ((![v1872] : Fin 1 → IVec S16 32) a x).toNat < S3072.size a)
theorem k0_idx260_inb : ∀ (v1872 : IVec S16 32) (k0_hw260 : k0_chk260 v1872), ∀ a x, ((![v1872] : Fin 1 → IVec S16 32) a x).toNat < S3072.size a := fun v1872 k0_hw260 => k0_hw260

def k0_chk261 (v1879 : IVec S16 32) : Prop :=
  (∀ a x, ((![v1879] : Fin 1 → IVec S16 32) a x).toNat < S3072.size a)
theorem k0_idx261_inb : ∀ (v1879 : IVec S16 32) (k0_hw261 : k0_chk261 v1879), ∀ a x, ((![v1879] : Fin 1 → IVec S16 32) a x).toNat < S3072.size a := fun v1879 k0_hw261 => k0_hw261

def k0_chk262 (v1886 : IVec S16 32) : Prop :=
  (∀ a x, ((![v1886] : Fin 1 → IVec S16 32) a x).toNat < S3072.size a)
theorem k0_idx262_inb : ∀ (v1886 : IVec S16 32) (k0_hw262 : k0_chk262 v1886), ∀ a x, ((![v1886] : Fin 1 → IVec S16 32) a x).toNat < S3072.size a := fun v1886 k0_hw262 => k0_hw262

def k0_chk263 (v1893 : IVec S16 32) : Prop :=
  (∀ a x, ((![v1893] : Fin 1 → IVec S16 32) a x).toNat < S3072.size a)
theorem k0_idx263_inb : ∀ (v1893 : IVec S16 32) (k0_hw263 : k0_chk263 v1893), ∀ a x, ((![v1893] : Fin 1 → IVec S16 32) a x).toNat < S3072.size a := fun v1893 k0_hw263 => k0_hw263

def k0_chk264 (v1900 : IVec S16 32) : Prop :=
  (∀ a x, ((![v1900] : Fin 1 → IVec S16 32) a x).toNat < S3072.size a)
theorem k0_idx264_inb : ∀ (v1900 : IVec S16 32) (k0_hw264 : k0_chk264 v1900), ∀ a x, ((![v1900] : Fin 1 → IVec S16 32) a x).toNat < S3072.size a := fun v1900 k0_hw264 => k0_hw264

def k0_chk265 (v1907 : IVec S16 32) : Prop :=
  (∀ a x, ((![v1907] : Fin 1 → IVec S16 32) a x).toNat < S3072.size a)
theorem k0_idx265_inb : ∀ (v1907 : IVec S16 32) (k0_hw265 : k0_chk265 v1907), ∀ a x, ((![v1907] : Fin 1 → IVec S16 32) a x).toNat < S3072.size a := fun v1907 k0_hw265 => k0_hw265

def k0_chk266 (v1914 : IVec S16 32) : Prop :=
  (∀ a x, ((![v1914] : Fin 1 → IVec S16 32) a x).toNat < S3072.size a)
theorem k0_idx266_inb : ∀ (v1914 : IVec S16 32) (k0_hw266 : k0_chk266 v1914), ∀ a x, ((![v1914] : Fin 1 → IVec S16 32) a x).toNat < S3072.size a := fun v1914 k0_hw266 => k0_hw266

def k0_chk267 (v1921 : IVec S16 32) : Prop :=
  (∀ a x, ((![v1921] : Fin 1 → IVec S16 32) a x).toNat < S3072.size a)
theorem k0_idx267_inb : ∀ (v1921 : IVec S16 32) (k0_hw267 : k0_chk267 v1921), ∀ a x, ((![v1921] : Fin 1 → IVec S16 32) a x).toNat < S3072.size a := fun v1921 k0_hw267 => k0_hw267

def k0_chk268 (v1928 : IVec S16 32) : Prop :=
  (∀ a x, ((![v1928] : Fin 1 → IVec S16 32) a x).toNat < S3072.size a)
theorem k0_idx268_inb : ∀ (v1928 : IVec S16 32) (k0_hw268 : k0_chk268 v1928), ∀ a x, ((![v1928] : Fin 1 → IVec S16 32) a x).toNat < S3072.size a := fun v1928 k0_hw268 => k0_hw268

def k0_chk269 (v1935 : IVec S16 32) : Prop :=
  (∀ a x, ((![v1935] : Fin 1 → IVec S16 32) a x).toNat < S3072.size a)
theorem k0_idx269_inb : ∀ (v1935 : IVec S16 32) (k0_hw269 : k0_chk269 v1935), ∀ a x, ((![v1935] : Fin 1 → IVec S16 32) a x).toNat < S3072.size a := fun v1935 k0_hw269 => k0_hw269

def k0_chk270 (v1942 : IVec S16 32) : Prop :=
  (∀ a x, ((![v1942] : Fin 1 → IVec S16 32) a x).toNat < S3072.size a)
theorem k0_idx270_inb : ∀ (v1942 : IVec S16 32) (k0_hw270 : k0_chk270 v1942), ∀ a x, ((![v1942] : Fin 1 → IVec S16 32) a x).toNat < S3072.size a := fun v1942 k0_hw270 => k0_hw270

def k0_chk271 (v1949 : IVec S16 32) : Prop :=
  (∀ a x, ((![v1949] : Fin 1 → IVec S16 32) a x).toNat < S3072.size a)
theorem k0_idx271_inb : ∀ (v1949 : IVec S16 32) (k0_hw271 : k0_chk271 v1949), ∀ a x, ((![v1949] : Fin 1 → IVec S16 32) a x).toNat < S3072.size a := fun v1949 k0_hw271 => k0_hw271

def k0_chk272 (v1956 : IVec S16 32) : Prop :=
  (∀ a x, ((![v1956] : Fin 1 → IVec S16 32) a x).toNat < S3072.size a)
theorem k0_idx272_inb : ∀ (v1956 : IVec S16 32) (k0_hw272 : k0_chk272 v1956), ∀ a x, ((![v1956] : Fin 1 → IVec S16 32) a x).toNat < S3072.size a := fun v1956 k0_hw272 => k0_hw272

def k0_chk273 (v1963 : IVec S16 32) : Prop :=
  (∀ a x, ((![v1963] : Fin 1 → IVec S16 32) a x).toNat < S3072.size a)
theorem k0_idx273_inb : ∀ (v1963 : IVec S16 32) (k0_hw273 : k0_chk273 v1963), ∀ a x, ((![v1963] : Fin 1 → IVec S16 32) a x).toNat < S3072.size a := fun v1963 k0_hw273 => k0_hw273

def k0_chk274 (v1970 : IVec S16 32) : Prop :=
  (∀ a x, ((![v1970] : Fin 1 → IVec S16 32) a x).toNat < S3072.size a)
theorem k0_idx274_inb : ∀ (v1970 : IVec S16 32) (k0_hw274 : k0_chk274 v1970), ∀ a x, ((![v1970] : Fin 1 → IVec S16 32) a x).toNat < S3072.size a := fun v1970 k0_hw274 => k0_hw274

def k0_chk275 (v1977 : IVec S16 32) : Prop :=
  (∀ a x, ((![v1977] : Fin 1 → IVec S16 32) a x).toNat < S3072.size a)
theorem k0_idx275_inb : ∀ (v1977 : IVec S16 32) (k0_hw275 : k0_chk275 v1977), ∀ a x, ((![v1977] : Fin 1 → IVec S16 32) a x).toNat < S3072.size a := fun v1977 k0_hw275 => k0_hw275
@[reducible] def k0_t12_loop : Scf.Loop 32 :=
  let c0_i32_859 : BitVec 32 := 0#32
  let c200_i32_860 : BitVec 32 := 200#32
  let v1983 : BitVec 32 := Scalar.addi c0_i32_859 c200_i32_860
  let c1_i32_861 : BitVec 32 := 1#32
  ⟨c0_i32_859, v1983, c1_i32_861⟩

def k0_chk276 (v5745 : IVec S16 32) : Prop :=
  (∀ a x, ((![v5745] : Fin 1 → IVec S16 32) a x).toNat < S25600.size a)
theorem k0_idx276_inb : ∀ (v5745 : IVec S16 32) (k0_hw276 : k0_chk276 v5745), ∀ a x, ((![v5745] : Fin 1 → IVec S16 32) a x).toNat < S25600.size a := fun v5745 k0_hw276 => k0_hw276

def k0_chk277 (v1995 : IVec S16 32) : Prop :=
  (∀ a x, ((![v1995] : Fin 1 → IVec S16 32) a x).toNat < S3072.size a)
theorem k0_idx277_inb : ∀ (v1995 : IVec S16 32) (k0_hw277 : k0_chk277 v1995), ∀ a x, ((![v1995] : Fin 1 → IVec S16 32) a x).toNat < S3072.size a := fun v1995 k0_hw277 => k0_hw277

def k0_chk278 (v2002 : IVec S16 32) : Prop :=
  (∀ a x, ((![v2002] : Fin 1 → IVec S16 32) a x).toNat < S3072.size a)
theorem k0_idx278_inb : ∀ (v2002 : IVec S16 32) (k0_hw278 : k0_chk278 v2002), ∀ a x, ((![v2002] : Fin 1 → IVec S16 32) a x).toNat < S3072.size a := fun v2002 k0_hw278 => k0_hw278

def k0_chk279 (v2009 : IVec S16 32) : Prop :=
  (∀ a x, ((![v2009] : Fin 1 → IVec S16 32) a x).toNat < S3072.size a)
theorem k0_idx279_inb : ∀ (v2009 : IVec S16 32) (k0_hw279 : k0_chk279 v2009), ∀ a x, ((![v2009] : Fin 1 → IVec S16 32) a x).toNat < S3072.size a := fun v2009 k0_hw279 => k0_hw279

def k0_chk280 (v2016 : IVec S16 32) : Prop :=
  (∀ a x, ((![v2016] : Fin 1 → IVec S16 32) a x).toNat < S3072.size a)
theorem k0_idx280_inb : ∀ (v2016 : IVec S16 32) (k0_hw280 : k0_chk280 v2016), ∀ a x, ((![v2016] : Fin 1 → IVec S16 32) a x).toNat < S3072.size a := fun v2016 k0_hw280 => k0_hw280

def k0_chk281 (v2023 : IVec S16 32) : Prop :=
  (∀ a x, ((![v2023] : Fin 1 → IVec S16 32) a x).toNat < S3072.size a)
theorem k0_idx281_inb : ∀ (v2023 : IVec S16 32) (k0_hw281 : k0_chk281 v2023), ∀ a x, ((![v2023] : Fin 1 → IVec S16 32) a x).toNat < S3072.size a := fun v2023 k0_hw281 => k0_hw281

def k0_chk282 (v2030 : IVec S16 32) : Prop :=
  (∀ a x, ((![v2030] : Fin 1 → IVec S16 32) a x).toNat < S3072.size a)
theorem k0_idx282_inb : ∀ (v2030 : IVec S16 32) (k0_hw282 : k0_chk282 v2030), ∀ a x, ((![v2030] : Fin 1 → IVec S16 32) a x).toNat < S3072.size a := fun v2030 k0_hw282 => k0_hw282

def k0_chk283 (v2037 : IVec S16 32) : Prop :=
  (∀ a x, ((![v2037] : Fin 1 → IVec S16 32) a x).toNat < S3072.size a)
theorem k0_idx283_inb : ∀ (v2037 : IVec S16 32) (k0_hw283 : k0_chk283 v2037), ∀ a x, ((![v2037] : Fin 1 → IVec S16 32) a x).toNat < S3072.size a := fun v2037 k0_hw283 => k0_hw283

def k0_chk284 (v2044 : IVec S16 32) : Prop :=
  (∀ a x, ((![v2044] : Fin 1 → IVec S16 32) a x).toNat < S3072.size a)
theorem k0_idx284_inb : ∀ (v2044 : IVec S16 32) (k0_hw284 : k0_chk284 v2044), ∀ a x, ((![v2044] : Fin 1 → IVec S16 32) a x).toNat < S3072.size a := fun v2044 k0_hw284 => k0_hw284

def k0_chk285 (v2051 : IVec S16 32) : Prop :=
  (∀ a x, ((![v2051] : Fin 1 → IVec S16 32) a x).toNat < S3072.size a)
theorem k0_idx285_inb : ∀ (v2051 : IVec S16 32) (k0_hw285 : k0_chk285 v2051), ∀ a x, ((![v2051] : Fin 1 → IVec S16 32) a x).toNat < S3072.size a := fun v2051 k0_hw285 => k0_hw285

def k0_chk286 (v2058 : IVec S16 32) : Prop :=
  (∀ a x, ((![v2058] : Fin 1 → IVec S16 32) a x).toNat < S3072.size a)
theorem k0_idx286_inb : ∀ (v2058 : IVec S16 32) (k0_hw286 : k0_chk286 v2058), ∀ a x, ((![v2058] : Fin 1 → IVec S16 32) a x).toNat < S3072.size a := fun v2058 k0_hw286 => k0_hw286

def k0_chk287 (v2065 : IVec S16 32) : Prop :=
  (∀ a x, ((![v2065] : Fin 1 → IVec S16 32) a x).toNat < S3072.size a)
theorem k0_idx287_inb : ∀ (v2065 : IVec S16 32) (k0_hw287 : k0_chk287 v2065), ∀ a x, ((![v2065] : Fin 1 → IVec S16 32) a x).toNat < S3072.size a := fun v2065 k0_hw287 => k0_hw287

def k0_chk288 (v2072 : IVec S16 32) : Prop :=
  (∀ a x, ((![v2072] : Fin 1 → IVec S16 32) a x).toNat < S3072.size a)
theorem k0_idx288_inb : ∀ (v2072 : IVec S16 32) (k0_hw288 : k0_chk288 v2072), ∀ a x, ((![v2072] : Fin 1 → IVec S16 32) a x).toNat < S3072.size a := fun v2072 k0_hw288 => k0_hw288

def k0_chk289 (v2079 : IVec S16 32) : Prop :=
  (∀ a x, ((![v2079] : Fin 1 → IVec S16 32) a x).toNat < S3072.size a)
theorem k0_idx289_inb : ∀ (v2079 : IVec S16 32) (k0_hw289 : k0_chk289 v2079), ∀ a x, ((![v2079] : Fin 1 → IVec S16 32) a x).toNat < S3072.size a := fun v2079 k0_hw289 => k0_hw289

def k0_chk290 (v2086 : IVec S16 32) : Prop :=
  (∀ a x, ((![v2086] : Fin 1 → IVec S16 32) a x).toNat < S3072.size a)
theorem k0_idx290_inb : ∀ (v2086 : IVec S16 32) (k0_hw290 : k0_chk290 v2086), ∀ a x, ((![v2086] : Fin 1 → IVec S16 32) a x).toNat < S3072.size a := fun v2086 k0_hw290 => k0_hw290

def k0_chk291 (v2093 : IVec S16 32) : Prop :=
  (∀ a x, ((![v2093] : Fin 1 → IVec S16 32) a x).toNat < S3072.size a)
theorem k0_idx291_inb : ∀ (v2093 : IVec S16 32) (k0_hw291 : k0_chk291 v2093), ∀ a x, ((![v2093] : Fin 1 → IVec S16 32) a x).toNat < S3072.size a := fun v2093 k0_hw291 => k0_hw291

def k0_chk292 (v2100 : IVec S16 32) : Prop :=
  (∀ a x, ((![v2100] : Fin 1 → IVec S16 32) a x).toNat < S3072.size a)
theorem k0_idx292_inb : ∀ (v2100 : IVec S16 32) (k0_hw292 : k0_chk292 v2100), ∀ a x, ((![v2100] : Fin 1 → IVec S16 32) a x).toNat < S3072.size a := fun v2100 k0_hw292 => k0_hw292

def k0_chk293 (v2107 : IVec S16 32) : Prop :=
  (∀ a x, ((![v2107] : Fin 1 → IVec S16 32) a x).toNat < S3072.size a)
theorem k0_idx293_inb : ∀ (v2107 : IVec S16 32) (k0_hw293 : k0_chk293 v2107), ∀ a x, ((![v2107] : Fin 1 → IVec S16 32) a x).toNat < S3072.size a := fun v2107 k0_hw293 => k0_hw293

def k0_chk294 (v2114 : IVec S16 32) : Prop :=
  (∀ a x, ((![v2114] : Fin 1 → IVec S16 32) a x).toNat < S3072.size a)
theorem k0_idx294_inb : ∀ (v2114 : IVec S16 32) (k0_hw294 : k0_chk294 v2114), ∀ a x, ((![v2114] : Fin 1 → IVec S16 32) a x).toNat < S3072.size a := fun v2114 k0_hw294 => k0_hw294

def k0_chk295 (v2121 : IVec S16 32) : Prop :=
  (∀ a x, ((![v2121] : Fin 1 → IVec S16 32) a x).toNat < S3072.size a)
theorem k0_idx295_inb : ∀ (v2121 : IVec S16 32) (k0_hw295 : k0_chk295 v2121), ∀ a x, ((![v2121] : Fin 1 → IVec S16 32) a x).toNat < S3072.size a := fun v2121 k0_hw295 => k0_hw295

def k0_chk296 (v2128 : IVec S16 32) : Prop :=
  (∀ a x, ((![v2128] : Fin 1 → IVec S16 32) a x).toNat < S3072.size a)
theorem k0_idx296_inb : ∀ (v2128 : IVec S16 32) (k0_hw296 : k0_chk296 v2128), ∀ a x, ((![v2128] : Fin 1 → IVec S16 32) a x).toNat < S3072.size a := fun v2128 k0_hw296 => k0_hw296

def k0_chk297 (v2135 : IVec S16 32) : Prop :=
  (∀ a x, ((![v2135] : Fin 1 → IVec S16 32) a x).toNat < S3072.size a)
theorem k0_idx297_inb : ∀ (v2135 : IVec S16 32) (k0_hw297 : k0_chk297 v2135), ∀ a x, ((![v2135] : Fin 1 → IVec S16 32) a x).toNat < S3072.size a := fun v2135 k0_hw297 => k0_hw297

def k0_chk298 (v2142 : IVec S16 32) : Prop :=
  (∀ a x, ((![v2142] : Fin 1 → IVec S16 32) a x).toNat < S3072.size a)
theorem k0_idx298_inb : ∀ (v2142 : IVec S16 32) (k0_hw298 : k0_chk298 v2142), ∀ a x, ((![v2142] : Fin 1 → IVec S16 32) a x).toNat < S3072.size a := fun v2142 k0_hw298 => k0_hw298

def k0_chk299 (v2149 : IVec S16 32) : Prop :=
  (∀ a x, ((![v2149] : Fin 1 → IVec S16 32) a x).toNat < S3072.size a)
theorem k0_idx299_inb : ∀ (v2149 : IVec S16 32) (k0_hw299 : k0_chk299 v2149), ∀ a x, ((![v2149] : Fin 1 → IVec S16 32) a x).toNat < S3072.size a := fun v2149 k0_hw299 => k0_hw299

def k0_chk300 (v2156 : IVec S16 32) : Prop :=
  (∀ a x, ((![v2156] : Fin 1 → IVec S16 32) a x).toNat < S3072.size a)
theorem k0_idx300_inb : ∀ (v2156 : IVec S16 32) (k0_hw300 : k0_chk300 v2156), ∀ a x, ((![v2156] : Fin 1 → IVec S16 32) a x).toNat < S3072.size a := fun v2156 k0_hw300 => k0_hw300
@[reducible] def k0_t13_loop : Scf.Loop 32 :=
  let c0_i32_940 : BitVec 32 := 0#32
  let c200_i32_941 : BitVec 32 := 200#32
  let v2162 : BitVec 32 := Scalar.addi c0_i32_940 c200_i32_941
  let c1_i32_942 : BitVec 32 := 1#32
  ⟨c0_i32_940, v2162, c1_i32_942⟩

def k0_chk301 (v5745 : IVec S16 32) : Prop :=
  (∀ a x, ((![v5745] : Fin 1 → IVec S16 32) a x).toNat < S25600.size a)
theorem k0_idx301_inb : ∀ (v5745 : IVec S16 32) (k0_hw301 : k0_chk301 v5745), ∀ a x, ((![v5745] : Fin 1 → IVec S16 32) a x).toNat < S25600.size a := fun v5745 k0_hw301 => k0_hw301

def k0_chk302 (v2174 : IVec S16 32) : Prop :=
  (∀ a x, ((![v2174] : Fin 1 → IVec S16 32) a x).toNat < S3072.size a)
theorem k0_idx302_inb : ∀ (v2174 : IVec S16 32) (k0_hw302 : k0_chk302 v2174), ∀ a x, ((![v2174] : Fin 1 → IVec S16 32) a x).toNat < S3072.size a := fun v2174 k0_hw302 => k0_hw302

def k0_chk303 (v2181 : IVec S16 32) : Prop :=
  (∀ a x, ((![v2181] : Fin 1 → IVec S16 32) a x).toNat < S3072.size a)
theorem k0_idx303_inb : ∀ (v2181 : IVec S16 32) (k0_hw303 : k0_chk303 v2181), ∀ a x, ((![v2181] : Fin 1 → IVec S16 32) a x).toNat < S3072.size a := fun v2181 k0_hw303 => k0_hw303

def k0_chk304 (v2188 : IVec S16 32) : Prop :=
  (∀ a x, ((![v2188] : Fin 1 → IVec S16 32) a x).toNat < S3072.size a)
theorem k0_idx304_inb : ∀ (v2188 : IVec S16 32) (k0_hw304 : k0_chk304 v2188), ∀ a x, ((![v2188] : Fin 1 → IVec S16 32) a x).toNat < S3072.size a := fun v2188 k0_hw304 => k0_hw304

def k0_chk305 (v2195 : IVec S16 32) : Prop :=
  (∀ a x, ((![v2195] : Fin 1 → IVec S16 32) a x).toNat < S3072.size a)
theorem k0_idx305_inb : ∀ (v2195 : IVec S16 32) (k0_hw305 : k0_chk305 v2195), ∀ a x, ((![v2195] : Fin 1 → IVec S16 32) a x).toNat < S3072.size a := fun v2195 k0_hw305 => k0_hw305

def k0_chk306 (v2202 : IVec S16 32) : Prop :=
  (∀ a x, ((![v2202] : Fin 1 → IVec S16 32) a x).toNat < S3072.size a)
theorem k0_idx306_inb : ∀ (v2202 : IVec S16 32) (k0_hw306 : k0_chk306 v2202), ∀ a x, ((![v2202] : Fin 1 → IVec S16 32) a x).toNat < S3072.size a := fun v2202 k0_hw306 => k0_hw306

def k0_chk307 (v2209 : IVec S16 32) : Prop :=
  (∀ a x, ((![v2209] : Fin 1 → IVec S16 32) a x).toNat < S3072.size a)
theorem k0_idx307_inb : ∀ (v2209 : IVec S16 32) (k0_hw307 : k0_chk307 v2209), ∀ a x, ((![v2209] : Fin 1 → IVec S16 32) a x).toNat < S3072.size a := fun v2209 k0_hw307 => k0_hw307

def k0_chk308 (v2216 : IVec S16 32) : Prop :=
  (∀ a x, ((![v2216] : Fin 1 → IVec S16 32) a x).toNat < S3072.size a)
theorem k0_idx308_inb : ∀ (v2216 : IVec S16 32) (k0_hw308 : k0_chk308 v2216), ∀ a x, ((![v2216] : Fin 1 → IVec S16 32) a x).toNat < S3072.size a := fun v2216 k0_hw308 => k0_hw308

def k0_chk309 (v2223 : IVec S16 32) : Prop :=
  (∀ a x, ((![v2223] : Fin 1 → IVec S16 32) a x).toNat < S3072.size a)
theorem k0_idx309_inb : ∀ (v2223 : IVec S16 32) (k0_hw309 : k0_chk309 v2223), ∀ a x, ((![v2223] : Fin 1 → IVec S16 32) a x).toNat < S3072.size a := fun v2223 k0_hw309 => k0_hw309

def k0_chk310 (v2230 : IVec S16 32) : Prop :=
  (∀ a x, ((![v2230] : Fin 1 → IVec S16 32) a x).toNat < S3072.size a)
theorem k0_idx310_inb : ∀ (v2230 : IVec S16 32) (k0_hw310 : k0_chk310 v2230), ∀ a x, ((![v2230] : Fin 1 → IVec S16 32) a x).toNat < S3072.size a := fun v2230 k0_hw310 => k0_hw310

def k0_chk311 (v2237 : IVec S16 32) : Prop :=
  (∀ a x, ((![v2237] : Fin 1 → IVec S16 32) a x).toNat < S3072.size a)
theorem k0_idx311_inb : ∀ (v2237 : IVec S16 32) (k0_hw311 : k0_chk311 v2237), ∀ a x, ((![v2237] : Fin 1 → IVec S16 32) a x).toNat < S3072.size a := fun v2237 k0_hw311 => k0_hw311

def k0_chk312 (v2244 : IVec S16 32) : Prop :=
  (∀ a x, ((![v2244] : Fin 1 → IVec S16 32) a x).toNat < S3072.size a)
theorem k0_idx312_inb : ∀ (v2244 : IVec S16 32) (k0_hw312 : k0_chk312 v2244), ∀ a x, ((![v2244] : Fin 1 → IVec S16 32) a x).toNat < S3072.size a := fun v2244 k0_hw312 => k0_hw312

def k0_chk313 (v2251 : IVec S16 32) : Prop :=
  (∀ a x, ((![v2251] : Fin 1 → IVec S16 32) a x).toNat < S3072.size a)
theorem k0_idx313_inb : ∀ (v2251 : IVec S16 32) (k0_hw313 : k0_chk313 v2251), ∀ a x, ((![v2251] : Fin 1 → IVec S16 32) a x).toNat < S3072.size a := fun v2251 k0_hw313 => k0_hw313

def k0_chk314 (v2258 : IVec S16 32) : Prop :=
  (∀ a x, ((![v2258] : Fin 1 → IVec S16 32) a x).toNat < S3072.size a)
theorem k0_idx314_inb : ∀ (v2258 : IVec S16 32) (k0_hw314 : k0_chk314 v2258), ∀ a x, ((![v2258] : Fin 1 → IVec S16 32) a x).toNat < S3072.size a := fun v2258 k0_hw314 => k0_hw314

def k0_chk315 (v2265 : IVec S16 32) : Prop :=
  (∀ a x, ((![v2265] : Fin 1 → IVec S16 32) a x).toNat < S3072.size a)
theorem k0_idx315_inb : ∀ (v2265 : IVec S16 32) (k0_hw315 : k0_chk315 v2265), ∀ a x, ((![v2265] : Fin 1 → IVec S16 32) a x).toNat < S3072.size a := fun v2265 k0_hw315 => k0_hw315

def k0_chk316 (v2272 : IVec S16 32) : Prop :=
  (∀ a x, ((![v2272] : Fin 1 → IVec S16 32) a x).toNat < S3072.size a)
theorem k0_idx316_inb : ∀ (v2272 : IVec S16 32) (k0_hw316 : k0_chk316 v2272), ∀ a x, ((![v2272] : Fin 1 → IVec S16 32) a x).toNat < S3072.size a := fun v2272 k0_hw316 => k0_hw316

def k0_chk317 (v2279 : IVec S16 32) : Prop :=
  (∀ a x, ((![v2279] : Fin 1 → IVec S16 32) a x).toNat < S3072.size a)
theorem k0_idx317_inb : ∀ (v2279 : IVec S16 32) (k0_hw317 : k0_chk317 v2279), ∀ a x, ((![v2279] : Fin 1 → IVec S16 32) a x).toNat < S3072.size a := fun v2279 k0_hw317 => k0_hw317

def k0_chk318 (v2286 : IVec S16 32) : Prop :=
  (∀ a x, ((![v2286] : Fin 1 → IVec S16 32) a x).toNat < S3072.size a)
theorem k0_idx318_inb : ∀ (v2286 : IVec S16 32) (k0_hw318 : k0_chk318 v2286), ∀ a x, ((![v2286] : Fin 1 → IVec S16 32) a x).toNat < S3072.size a := fun v2286 k0_hw318 => k0_hw318

def k0_chk319 (v2293 : IVec S16 32) : Prop :=
  (∀ a x, ((![v2293] : Fin 1 → IVec S16 32) a x).toNat < S3072.size a)
theorem k0_idx319_inb : ∀ (v2293 : IVec S16 32) (k0_hw319 : k0_chk319 v2293), ∀ a x, ((![v2293] : Fin 1 → IVec S16 32) a x).toNat < S3072.size a := fun v2293 k0_hw319 => k0_hw319

def k0_chk320 (v2300 : IVec S16 32) : Prop :=
  (∀ a x, ((![v2300] : Fin 1 → IVec S16 32) a x).toNat < S3072.size a)
theorem k0_idx320_inb : ∀ (v2300 : IVec S16 32) (k0_hw320 : k0_chk320 v2300), ∀ a x, ((![v2300] : Fin 1 → IVec S16 32) a x).toNat < S3072.size a := fun v2300 k0_hw320 => k0_hw320

def k0_chk321 (v2307 : IVec S16 32) : Prop :=
  (∀ a x, ((![v2307] : Fin 1 → IVec S16 32) a x).toNat < S3072.size a)
theorem k0_idx321_inb : ∀ (v2307 : IVec S16 32) (k0_hw321 : k0_chk321 v2307), ∀ a x, ((![v2307] : Fin 1 → IVec S16 32) a x).toNat < S3072.size a := fun v2307 k0_hw321 => k0_hw321

def k0_chk322 (v2314 : IVec S16 32) : Prop :=
  (∀ a x, ((![v2314] : Fin 1 → IVec S16 32) a x).toNat < S3072.size a)
theorem k0_idx322_inb : ∀ (v2314 : IVec S16 32) (k0_hw322 : k0_chk322 v2314), ∀ a x, ((![v2314] : Fin 1 → IVec S16 32) a x).toNat < S3072.size a := fun v2314 k0_hw322 => k0_hw322

def k0_chk323 (v2321 : IVec S16 32) : Prop :=
  (∀ a x, ((![v2321] : Fin 1 → IVec S16 32) a x).toNat < S3072.size a)
theorem k0_idx323_inb : ∀ (v2321 : IVec S16 32) (k0_hw323 : k0_chk323 v2321), ∀ a x, ((![v2321] : Fin 1 → IVec S16 32) a x).toNat < S3072.size a := fun v2321 k0_hw323 => k0_hw323

def k0_chk324 (v2328 : IVec S16 32) : Prop :=
  (∀ a x, ((![v2328] : Fin 1 → IVec S16 32) a x).toNat < S3072.size a)
theorem k0_idx324_inb : ∀ (v2328 : IVec S16 32) (k0_hw324 : k0_chk324 v2328), ∀ a x, ((![v2328] : Fin 1 → IVec S16 32) a x).toNat < S3072.size a := fun v2328 k0_hw324 => k0_hw324

def k0_chk325 (v2335 : IVec S16 32) : Prop :=
  (∀ a x, ((![v2335] : Fin 1 → IVec S16 32) a x).toNat < S3072.size a)
theorem k0_idx325_inb : ∀ (v2335 : IVec S16 32) (k0_hw325 : k0_chk325 v2335), ∀ a x, ((![v2335] : Fin 1 → IVec S16 32) a x).toNat < S3072.size a := fun v2335 k0_hw325 => k0_hw325
@[reducible] def k0_t14_loop : Scf.Loop 32 :=
  let c0_i32_1021 : BitVec 32 := 0#32
  let c200_i32_1022 : BitVec 32 := 200#32
  let v2341 : BitVec 32 := Scalar.addi c0_i32_1021 c200_i32_1022
  let c1_i32_1023 : BitVec 32 := 1#32
  ⟨c0_i32_1021, v2341, c1_i32_1023⟩

def k0_chk326 (v5745 : IVec S16 32) : Prop :=
  (∀ a x, ((![v5745] : Fin 1 → IVec S16 32) a x).toNat < S25600.size a)
theorem k0_idx326_inb : ∀ (v5745 : IVec S16 32) (k0_hw326 : k0_chk326 v5745), ∀ a x, ((![v5745] : Fin 1 → IVec S16 32) a x).toNat < S25600.size a := fun v5745 k0_hw326 => k0_hw326

def k0_chk327 (v2353 : IVec S16 32) : Prop :=
  (∀ a x, ((![v2353] : Fin 1 → IVec S16 32) a x).toNat < S3072.size a)
theorem k0_idx327_inb : ∀ (v2353 : IVec S16 32) (k0_hw327 : k0_chk327 v2353), ∀ a x, ((![v2353] : Fin 1 → IVec S16 32) a x).toNat < S3072.size a := fun v2353 k0_hw327 => k0_hw327

def k0_chk328 (v2360 : IVec S16 32) : Prop :=
  (∀ a x, ((![v2360] : Fin 1 → IVec S16 32) a x).toNat < S3072.size a)
theorem k0_idx328_inb : ∀ (v2360 : IVec S16 32) (k0_hw328 : k0_chk328 v2360), ∀ a x, ((![v2360] : Fin 1 → IVec S16 32) a x).toNat < S3072.size a := fun v2360 k0_hw328 => k0_hw328

def k0_chk329 (v2367 : IVec S16 32) : Prop :=
  (∀ a x, ((![v2367] : Fin 1 → IVec S16 32) a x).toNat < S3072.size a)
theorem k0_idx329_inb : ∀ (v2367 : IVec S16 32) (k0_hw329 : k0_chk329 v2367), ∀ a x, ((![v2367] : Fin 1 → IVec S16 32) a x).toNat < S3072.size a := fun v2367 k0_hw329 => k0_hw329

def k0_chk330 (v2374 : IVec S16 32) : Prop :=
  (∀ a x, ((![v2374] : Fin 1 → IVec S16 32) a x).toNat < S3072.size a)
theorem k0_idx330_inb : ∀ (v2374 : IVec S16 32) (k0_hw330 : k0_chk330 v2374), ∀ a x, ((![v2374] : Fin 1 → IVec S16 32) a x).toNat < S3072.size a := fun v2374 k0_hw330 => k0_hw330

def k0_chk331 (v2381 : IVec S16 32) : Prop :=
  (∀ a x, ((![v2381] : Fin 1 → IVec S16 32) a x).toNat < S3072.size a)
theorem k0_idx331_inb : ∀ (v2381 : IVec S16 32) (k0_hw331 : k0_chk331 v2381), ∀ a x, ((![v2381] : Fin 1 → IVec S16 32) a x).toNat < S3072.size a := fun v2381 k0_hw331 => k0_hw331

def k0_chk332 (v2388 : IVec S16 32) : Prop :=
  (∀ a x, ((![v2388] : Fin 1 → IVec S16 32) a x).toNat < S3072.size a)
theorem k0_idx332_inb : ∀ (v2388 : IVec S16 32) (k0_hw332 : k0_chk332 v2388), ∀ a x, ((![v2388] : Fin 1 → IVec S16 32) a x).toNat < S3072.size a := fun v2388 k0_hw332 => k0_hw332

def k0_chk333 (v2395 : IVec S16 32) : Prop :=
  (∀ a x, ((![v2395] : Fin 1 → IVec S16 32) a x).toNat < S3072.size a)
theorem k0_idx333_inb : ∀ (v2395 : IVec S16 32) (k0_hw333 : k0_chk333 v2395), ∀ a x, ((![v2395] : Fin 1 → IVec S16 32) a x).toNat < S3072.size a := fun v2395 k0_hw333 => k0_hw333

def k0_chk334 (v2402 : IVec S16 32) : Prop :=
  (∀ a x, ((![v2402] : Fin 1 → IVec S16 32) a x).toNat < S3072.size a)
theorem k0_idx334_inb : ∀ (v2402 : IVec S16 32) (k0_hw334 : k0_chk334 v2402), ∀ a x, ((![v2402] : Fin 1 → IVec S16 32) a x).toNat < S3072.size a := fun v2402 k0_hw334 => k0_hw334

def k0_chk335 (v2409 : IVec S16 32) : Prop :=
  (∀ a x, ((![v2409] : Fin 1 → IVec S16 32) a x).toNat < S3072.size a)
theorem k0_idx335_inb : ∀ (v2409 : IVec S16 32) (k0_hw335 : k0_chk335 v2409), ∀ a x, ((![v2409] : Fin 1 → IVec S16 32) a x).toNat < S3072.size a := fun v2409 k0_hw335 => k0_hw335

def k0_chk336 (v2416 : IVec S16 32) : Prop :=
  (∀ a x, ((![v2416] : Fin 1 → IVec S16 32) a x).toNat < S3072.size a)
theorem k0_idx336_inb : ∀ (v2416 : IVec S16 32) (k0_hw336 : k0_chk336 v2416), ∀ a x, ((![v2416] : Fin 1 → IVec S16 32) a x).toNat < S3072.size a := fun v2416 k0_hw336 => k0_hw336

def k0_chk337 (v2423 : IVec S16 32) : Prop :=
  (∀ a x, ((![v2423] : Fin 1 → IVec S16 32) a x).toNat < S3072.size a)
theorem k0_idx337_inb : ∀ (v2423 : IVec S16 32) (k0_hw337 : k0_chk337 v2423), ∀ a x, ((![v2423] : Fin 1 → IVec S16 32) a x).toNat < S3072.size a := fun v2423 k0_hw337 => k0_hw337

def k0_chk338 (v2430 : IVec S16 32) : Prop :=
  (∀ a x, ((![v2430] : Fin 1 → IVec S16 32) a x).toNat < S3072.size a)
theorem k0_idx338_inb : ∀ (v2430 : IVec S16 32) (k0_hw338 : k0_chk338 v2430), ∀ a x, ((![v2430] : Fin 1 → IVec S16 32) a x).toNat < S3072.size a := fun v2430 k0_hw338 => k0_hw338

def k0_chk339 (v2437 : IVec S16 32) : Prop :=
  (∀ a x, ((![v2437] : Fin 1 → IVec S16 32) a x).toNat < S3072.size a)
theorem k0_idx339_inb : ∀ (v2437 : IVec S16 32) (k0_hw339 : k0_chk339 v2437), ∀ a x, ((![v2437] : Fin 1 → IVec S16 32) a x).toNat < S3072.size a := fun v2437 k0_hw339 => k0_hw339

def k0_chk340 (v2444 : IVec S16 32) : Prop :=
  (∀ a x, ((![v2444] : Fin 1 → IVec S16 32) a x).toNat < S3072.size a)
theorem k0_idx340_inb : ∀ (v2444 : IVec S16 32) (k0_hw340 : k0_chk340 v2444), ∀ a x, ((![v2444] : Fin 1 → IVec S16 32) a x).toNat < S3072.size a := fun v2444 k0_hw340 => k0_hw340

def k0_chk341 (v2451 : IVec S16 32) : Prop :=
  (∀ a x, ((![v2451] : Fin 1 → IVec S16 32) a x).toNat < S3072.size a)
theorem k0_idx341_inb : ∀ (v2451 : IVec S16 32) (k0_hw341 : k0_chk341 v2451), ∀ a x, ((![v2451] : Fin 1 → IVec S16 32) a x).toNat < S3072.size a := fun v2451 k0_hw341 => k0_hw341

def k0_chk342 (v2458 : IVec S16 32) : Prop :=
  (∀ a x, ((![v2458] : Fin 1 → IVec S16 32) a x).toNat < S3072.size a)
theorem k0_idx342_inb : ∀ (v2458 : IVec S16 32) (k0_hw342 : k0_chk342 v2458), ∀ a x, ((![v2458] : Fin 1 → IVec S16 32) a x).toNat < S3072.size a := fun v2458 k0_hw342 => k0_hw342

def k0_chk343 (v2465 : IVec S16 32) : Prop :=
  (∀ a x, ((![v2465] : Fin 1 → IVec S16 32) a x).toNat < S3072.size a)
theorem k0_idx343_inb : ∀ (v2465 : IVec S16 32) (k0_hw343 : k0_chk343 v2465), ∀ a x, ((![v2465] : Fin 1 → IVec S16 32) a x).toNat < S3072.size a := fun v2465 k0_hw343 => k0_hw343

def k0_chk344 (v2472 : IVec S16 32) : Prop :=
  (∀ a x, ((![v2472] : Fin 1 → IVec S16 32) a x).toNat < S3072.size a)
theorem k0_idx344_inb : ∀ (v2472 : IVec S16 32) (k0_hw344 : k0_chk344 v2472), ∀ a x, ((![v2472] : Fin 1 → IVec S16 32) a x).toNat < S3072.size a := fun v2472 k0_hw344 => k0_hw344

def k0_chk345 (v2479 : IVec S16 32) : Prop :=
  (∀ a x, ((![v2479] : Fin 1 → IVec S16 32) a x).toNat < S3072.size a)
theorem k0_idx345_inb : ∀ (v2479 : IVec S16 32) (k0_hw345 : k0_chk345 v2479), ∀ a x, ((![v2479] : Fin 1 → IVec S16 32) a x).toNat < S3072.size a := fun v2479 k0_hw345 => k0_hw345

def k0_chk346 (v2486 : IVec S16 32) : Prop :=
  (∀ a x, ((![v2486] : Fin 1 → IVec S16 32) a x).toNat < S3072.size a)
theorem k0_idx346_inb : ∀ (v2486 : IVec S16 32) (k0_hw346 : k0_chk346 v2486), ∀ a x, ((![v2486] : Fin 1 → IVec S16 32) a x).toNat < S3072.size a := fun v2486 k0_hw346 => k0_hw346

def k0_chk347 (v2493 : IVec S16 32) : Prop :=
  (∀ a x, ((![v2493] : Fin 1 → IVec S16 32) a x).toNat < S3072.size a)
theorem k0_idx347_inb : ∀ (v2493 : IVec S16 32) (k0_hw347 : k0_chk347 v2493), ∀ a x, ((![v2493] : Fin 1 → IVec S16 32) a x).toNat < S3072.size a := fun v2493 k0_hw347 => k0_hw347

def k0_chk348 (v2500 : IVec S16 32) : Prop :=
  (∀ a x, ((![v2500] : Fin 1 → IVec S16 32) a x).toNat < S3072.size a)
theorem k0_idx348_inb : ∀ (v2500 : IVec S16 32) (k0_hw348 : k0_chk348 v2500), ∀ a x, ((![v2500] : Fin 1 → IVec S16 32) a x).toNat < S3072.size a := fun v2500 k0_hw348 => k0_hw348

def k0_chk349 (v2507 : IVec S16 32) : Prop :=
  (∀ a x, ((![v2507] : Fin 1 → IVec S16 32) a x).toNat < S3072.size a)
theorem k0_idx349_inb : ∀ (v2507 : IVec S16 32) (k0_hw349 : k0_chk349 v2507), ∀ a x, ((![v2507] : Fin 1 → IVec S16 32) a x).toNat < S3072.size a := fun v2507 k0_hw349 => k0_hw349

def k0_chk350 (v2514 : IVec S16 32) : Prop :=
  (∀ a x, ((![v2514] : Fin 1 → IVec S16 32) a x).toNat < S3072.size a)
theorem k0_idx350_inb : ∀ (v2514 : IVec S16 32) (k0_hw350 : k0_chk350 v2514), ∀ a x, ((![v2514] : Fin 1 → IVec S16 32) a x).toNat < S3072.size a := fun v2514 k0_hw350 => k0_hw350
@[reducible] def k0_t15_loop : Scf.Loop 32 :=
  let c0_i32_1102 : BitVec 32 := 0#32
  let c200_i32_1103 : BitVec 32 := 200#32
  let v2520 : BitVec 32 := Scalar.addi c0_i32_1102 c200_i32_1103
  let c1_i32_1104 : BitVec 32 := 1#32
  ⟨c0_i32_1102, v2520, c1_i32_1104⟩

def k0_chk351 (v5745 : IVec S16 32) : Prop :=
  (∀ a x, ((![v5745] : Fin 1 → IVec S16 32) a x).toNat < S25600.size a)
theorem k0_idx351_inb : ∀ (v5745 : IVec S16 32) (k0_hw351 : k0_chk351 v5745), ∀ a x, ((![v5745] : Fin 1 → IVec S16 32) a x).toNat < S25600.size a := fun v5745 k0_hw351 => k0_hw351

def k0_chk352 (v2532 : IVec S16 32) : Prop :=
  (∀ a x, ((![v2532] : Fin 1 → IVec S16 32) a x).toNat < S3072.size a)
theorem k0_idx352_inb : ∀ (v2532 : IVec S16 32) (k0_hw352 : k0_chk352 v2532), ∀ a x, ((![v2532] : Fin 1 → IVec S16 32) a x).toNat < S3072.size a := fun v2532 k0_hw352 => k0_hw352

def k0_chk353 (v2539 : IVec S16 32) : Prop :=
  (∀ a x, ((![v2539] : Fin 1 → IVec S16 32) a x).toNat < S3072.size a)
theorem k0_idx353_inb : ∀ (v2539 : IVec S16 32) (k0_hw353 : k0_chk353 v2539), ∀ a x, ((![v2539] : Fin 1 → IVec S16 32) a x).toNat < S3072.size a := fun v2539 k0_hw353 => k0_hw353

def k0_chk354 (v2546 : IVec S16 32) : Prop :=
  (∀ a x, ((![v2546] : Fin 1 → IVec S16 32) a x).toNat < S3072.size a)
theorem k0_idx354_inb : ∀ (v2546 : IVec S16 32) (k0_hw354 : k0_chk354 v2546), ∀ a x, ((![v2546] : Fin 1 → IVec S16 32) a x).toNat < S3072.size a := fun v2546 k0_hw354 => k0_hw354

def k0_chk355 (v2553 : IVec S16 32) : Prop :=
  (∀ a x, ((![v2553] : Fin 1 → IVec S16 32) a x).toNat < S3072.size a)
theorem k0_idx355_inb : ∀ (v2553 : IVec S16 32) (k0_hw355 : k0_chk355 v2553), ∀ a x, ((![v2553] : Fin 1 → IVec S16 32) a x).toNat < S3072.size a := fun v2553 k0_hw355 => k0_hw355

def k0_chk356 (v2560 : IVec S16 32) : Prop :=
  (∀ a x, ((![v2560] : Fin 1 → IVec S16 32) a x).toNat < S3072.size a)
theorem k0_idx356_inb : ∀ (v2560 : IVec S16 32) (k0_hw356 : k0_chk356 v2560), ∀ a x, ((![v2560] : Fin 1 → IVec S16 32) a x).toNat < S3072.size a := fun v2560 k0_hw356 => k0_hw356

def k0_chk357 (v2567 : IVec S16 32) : Prop :=
  (∀ a x, ((![v2567] : Fin 1 → IVec S16 32) a x).toNat < S3072.size a)
theorem k0_idx357_inb : ∀ (v2567 : IVec S16 32) (k0_hw357 : k0_chk357 v2567), ∀ a x, ((![v2567] : Fin 1 → IVec S16 32) a x).toNat < S3072.size a := fun v2567 k0_hw357 => k0_hw357

def k0_chk358 (v2574 : IVec S16 32) : Prop :=
  (∀ a x, ((![v2574] : Fin 1 → IVec S16 32) a x).toNat < S3072.size a)
theorem k0_idx358_inb : ∀ (v2574 : IVec S16 32) (k0_hw358 : k0_chk358 v2574), ∀ a x, ((![v2574] : Fin 1 → IVec S16 32) a x).toNat < S3072.size a := fun v2574 k0_hw358 => k0_hw358

def k0_chk359 (v2581 : IVec S16 32) : Prop :=
  (∀ a x, ((![v2581] : Fin 1 → IVec S16 32) a x).toNat < S3072.size a)
theorem k0_idx359_inb : ∀ (v2581 : IVec S16 32) (k0_hw359 : k0_chk359 v2581), ∀ a x, ((![v2581] : Fin 1 → IVec S16 32) a x).toNat < S3072.size a := fun v2581 k0_hw359 => k0_hw359

def k0_chk360 (v2588 : IVec S16 32) : Prop :=
  (∀ a x, ((![v2588] : Fin 1 → IVec S16 32) a x).toNat < S3072.size a)
theorem k0_idx360_inb : ∀ (v2588 : IVec S16 32) (k0_hw360 : k0_chk360 v2588), ∀ a x, ((![v2588] : Fin 1 → IVec S16 32) a x).toNat < S3072.size a := fun v2588 k0_hw360 => k0_hw360

def k0_chk361 (v2595 : IVec S16 32) : Prop :=
  (∀ a x, ((![v2595] : Fin 1 → IVec S16 32) a x).toNat < S3072.size a)
theorem k0_idx361_inb : ∀ (v2595 : IVec S16 32) (k0_hw361 : k0_chk361 v2595), ∀ a x, ((![v2595] : Fin 1 → IVec S16 32) a x).toNat < S3072.size a := fun v2595 k0_hw361 => k0_hw361

def k0_chk362 (v2602 : IVec S16 32) : Prop :=
  (∀ a x, ((![v2602] : Fin 1 → IVec S16 32) a x).toNat < S3072.size a)
theorem k0_idx362_inb : ∀ (v2602 : IVec S16 32) (k0_hw362 : k0_chk362 v2602), ∀ a x, ((![v2602] : Fin 1 → IVec S16 32) a x).toNat < S3072.size a := fun v2602 k0_hw362 => k0_hw362

def k0_chk363 (v2609 : IVec S16 32) : Prop :=
  (∀ a x, ((![v2609] : Fin 1 → IVec S16 32) a x).toNat < S3072.size a)
theorem k0_idx363_inb : ∀ (v2609 : IVec S16 32) (k0_hw363 : k0_chk363 v2609), ∀ a x, ((![v2609] : Fin 1 → IVec S16 32) a x).toNat < S3072.size a := fun v2609 k0_hw363 => k0_hw363

def k0_chk364 (v2616 : IVec S16 32) : Prop :=
  (∀ a x, ((![v2616] : Fin 1 → IVec S16 32) a x).toNat < S3072.size a)
theorem k0_idx364_inb : ∀ (v2616 : IVec S16 32) (k0_hw364 : k0_chk364 v2616), ∀ a x, ((![v2616] : Fin 1 → IVec S16 32) a x).toNat < S3072.size a := fun v2616 k0_hw364 => k0_hw364

def k0_chk365 (v2623 : IVec S16 32) : Prop :=
  (∀ a x, ((![v2623] : Fin 1 → IVec S16 32) a x).toNat < S3072.size a)
theorem k0_idx365_inb : ∀ (v2623 : IVec S16 32) (k0_hw365 : k0_chk365 v2623), ∀ a x, ((![v2623] : Fin 1 → IVec S16 32) a x).toNat < S3072.size a := fun v2623 k0_hw365 => k0_hw365

def k0_chk366 (v2630 : IVec S16 32) : Prop :=
  (∀ a x, ((![v2630] : Fin 1 → IVec S16 32) a x).toNat < S3072.size a)
theorem k0_idx366_inb : ∀ (v2630 : IVec S16 32) (k0_hw366 : k0_chk366 v2630), ∀ a x, ((![v2630] : Fin 1 → IVec S16 32) a x).toNat < S3072.size a := fun v2630 k0_hw366 => k0_hw366

def k0_chk367 (v2637 : IVec S16 32) : Prop :=
  (∀ a x, ((![v2637] : Fin 1 → IVec S16 32) a x).toNat < S3072.size a)
theorem k0_idx367_inb : ∀ (v2637 : IVec S16 32) (k0_hw367 : k0_chk367 v2637), ∀ a x, ((![v2637] : Fin 1 → IVec S16 32) a x).toNat < S3072.size a := fun v2637 k0_hw367 => k0_hw367

def k0_chk368 (v2644 : IVec S16 32) : Prop :=
  (∀ a x, ((![v2644] : Fin 1 → IVec S16 32) a x).toNat < S3072.size a)
theorem k0_idx368_inb : ∀ (v2644 : IVec S16 32) (k0_hw368 : k0_chk368 v2644), ∀ a x, ((![v2644] : Fin 1 → IVec S16 32) a x).toNat < S3072.size a := fun v2644 k0_hw368 => k0_hw368

def k0_chk369 (v2651 : IVec S16 32) : Prop :=
  (∀ a x, ((![v2651] : Fin 1 → IVec S16 32) a x).toNat < S3072.size a)
theorem k0_idx369_inb : ∀ (v2651 : IVec S16 32) (k0_hw369 : k0_chk369 v2651), ∀ a x, ((![v2651] : Fin 1 → IVec S16 32) a x).toNat < S3072.size a := fun v2651 k0_hw369 => k0_hw369

def k0_chk370 (v2658 : IVec S16 32) : Prop :=
  (∀ a x, ((![v2658] : Fin 1 → IVec S16 32) a x).toNat < S3072.size a)
theorem k0_idx370_inb : ∀ (v2658 : IVec S16 32) (k0_hw370 : k0_chk370 v2658), ∀ a x, ((![v2658] : Fin 1 → IVec S16 32) a x).toNat < S3072.size a := fun v2658 k0_hw370 => k0_hw370

def k0_chk371 (v2665 : IVec S16 32) : Prop :=
  (∀ a x, ((![v2665] : Fin 1 → IVec S16 32) a x).toNat < S3072.size a)
theorem k0_idx371_inb : ∀ (v2665 : IVec S16 32) (k0_hw371 : k0_chk371 v2665), ∀ a x, ((![v2665] : Fin 1 → IVec S16 32) a x).toNat < S3072.size a := fun v2665 k0_hw371 => k0_hw371

def k0_chk372 (v2672 : IVec S16 32) : Prop :=
  (∀ a x, ((![v2672] : Fin 1 → IVec S16 32) a x).toNat < S3072.size a)
theorem k0_idx372_inb : ∀ (v2672 : IVec S16 32) (k0_hw372 : k0_chk372 v2672), ∀ a x, ((![v2672] : Fin 1 → IVec S16 32) a x).toNat < S3072.size a := fun v2672 k0_hw372 => k0_hw372

def k0_chk373 (v2679 : IVec S16 32) : Prop :=
  (∀ a x, ((![v2679] : Fin 1 → IVec S16 32) a x).toNat < S3072.size a)
theorem k0_idx373_inb : ∀ (v2679 : IVec S16 32) (k0_hw373 : k0_chk373 v2679), ∀ a x, ((![v2679] : Fin 1 → IVec S16 32) a x).toNat < S3072.size a := fun v2679 k0_hw373 => k0_hw373

def k0_chk374 (v2686 : IVec S16 32) : Prop :=
  (∀ a x, ((![v2686] : Fin 1 → IVec S16 32) a x).toNat < S3072.size a)
theorem k0_idx374_inb : ∀ (v2686 : IVec S16 32) (k0_hw374 : k0_chk374 v2686), ∀ a x, ((![v2686] : Fin 1 → IVec S16 32) a x).toNat < S3072.size a := fun v2686 k0_hw374 => k0_hw374

def k0_chk375 (v2693 : IVec S16 32) : Prop :=
  (∀ a x, ((![v2693] : Fin 1 → IVec S16 32) a x).toNat < S3072.size a)
theorem k0_idx375_inb : ∀ (v2693 : IVec S16 32) (k0_hw375 : k0_chk375 v2693), ∀ a x, ((![v2693] : Fin 1 → IVec S16 32) a x).toNat < S3072.size a := fun v2693 k0_hw375 => k0_hw375
@[reducible] def k0_t16_loop : Scf.Loop 32 :=
  let c0_i32_1183 : BitVec 32 := 0#32
  let c200_i32_1184 : BitVec 32 := 200#32
  let v2699 : BitVec 32 := Scalar.addi c0_i32_1183 c200_i32_1184
  let c1_i32_1185 : BitVec 32 := 1#32
  ⟨c0_i32_1183, v2699, c1_i32_1185⟩

def k0_chk376 (v5745 : IVec S16 32) : Prop :=
  (∀ a x, ((![v5745] : Fin 1 → IVec S16 32) a x).toNat < S25600.size a)
theorem k0_idx376_inb : ∀ (v5745 : IVec S16 32) (k0_hw376 : k0_chk376 v5745), ∀ a x, ((![v5745] : Fin 1 → IVec S16 32) a x).toNat < S25600.size a := fun v5745 k0_hw376 => k0_hw376

def k0_chk377 (v2711 : IVec S16 32) : Prop :=
  (∀ a x, ((![v2711] : Fin 1 → IVec S16 32) a x).toNat < S3072.size a)
theorem k0_idx377_inb : ∀ (v2711 : IVec S16 32) (k0_hw377 : k0_chk377 v2711), ∀ a x, ((![v2711] : Fin 1 → IVec S16 32) a x).toNat < S3072.size a := fun v2711 k0_hw377 => k0_hw377

def k0_chk378 (v2718 : IVec S16 32) : Prop :=
  (∀ a x, ((![v2718] : Fin 1 → IVec S16 32) a x).toNat < S3072.size a)
theorem k0_idx378_inb : ∀ (v2718 : IVec S16 32) (k0_hw378 : k0_chk378 v2718), ∀ a x, ((![v2718] : Fin 1 → IVec S16 32) a x).toNat < S3072.size a := fun v2718 k0_hw378 => k0_hw378

def k0_chk379 (v2725 : IVec S16 32) : Prop :=
  (∀ a x, ((![v2725] : Fin 1 → IVec S16 32) a x).toNat < S3072.size a)
theorem k0_idx379_inb : ∀ (v2725 : IVec S16 32) (k0_hw379 : k0_chk379 v2725), ∀ a x, ((![v2725] : Fin 1 → IVec S16 32) a x).toNat < S3072.size a := fun v2725 k0_hw379 => k0_hw379

def k0_chk380 (v2732 : IVec S16 32) : Prop :=
  (∀ a x, ((![v2732] : Fin 1 → IVec S16 32) a x).toNat < S3072.size a)
theorem k0_idx380_inb : ∀ (v2732 : IVec S16 32) (k0_hw380 : k0_chk380 v2732), ∀ a x, ((![v2732] : Fin 1 → IVec S16 32) a x).toNat < S3072.size a := fun v2732 k0_hw380 => k0_hw380

def k0_chk381 (v2739 : IVec S16 32) : Prop :=
  (∀ a x, ((![v2739] : Fin 1 → IVec S16 32) a x).toNat < S3072.size a)
theorem k0_idx381_inb : ∀ (v2739 : IVec S16 32) (k0_hw381 : k0_chk381 v2739), ∀ a x, ((![v2739] : Fin 1 → IVec S16 32) a x).toNat < S3072.size a := fun v2739 k0_hw381 => k0_hw381

def k0_chk382 (v2746 : IVec S16 32) : Prop :=
  (∀ a x, ((![v2746] : Fin 1 → IVec S16 32) a x).toNat < S3072.size a)
theorem k0_idx382_inb : ∀ (v2746 : IVec S16 32) (k0_hw382 : k0_chk382 v2746), ∀ a x, ((![v2746] : Fin 1 → IVec S16 32) a x).toNat < S3072.size a := fun v2746 k0_hw382 => k0_hw382

def k0_chk383 (v2753 : IVec S16 32) : Prop :=
  (∀ a x, ((![v2753] : Fin 1 → IVec S16 32) a x).toNat < S3072.size a)
theorem k0_idx383_inb : ∀ (v2753 : IVec S16 32) (k0_hw383 : k0_chk383 v2753), ∀ a x, ((![v2753] : Fin 1 → IVec S16 32) a x).toNat < S3072.size a := fun v2753 k0_hw383 => k0_hw383

def k0_chk384 (v2760 : IVec S16 32) : Prop :=
  (∀ a x, ((![v2760] : Fin 1 → IVec S16 32) a x).toNat < S3072.size a)
theorem k0_idx384_inb : ∀ (v2760 : IVec S16 32) (k0_hw384 : k0_chk384 v2760), ∀ a x, ((![v2760] : Fin 1 → IVec S16 32) a x).toNat < S3072.size a := fun v2760 k0_hw384 => k0_hw384

def k0_chk385 (v2767 : IVec S16 32) : Prop :=
  (∀ a x, ((![v2767] : Fin 1 → IVec S16 32) a x).toNat < S3072.size a)
theorem k0_idx385_inb : ∀ (v2767 : IVec S16 32) (k0_hw385 : k0_chk385 v2767), ∀ a x, ((![v2767] : Fin 1 → IVec S16 32) a x).toNat < S3072.size a := fun v2767 k0_hw385 => k0_hw385

def k0_chk386 (v2774 : IVec S16 32) : Prop :=
  (∀ a x, ((![v2774] : Fin 1 → IVec S16 32) a x).toNat < S3072.size a)
theorem k0_idx386_inb : ∀ (v2774 : IVec S16 32) (k0_hw386 : k0_chk386 v2774), ∀ a x, ((![v2774] : Fin 1 → IVec S16 32) a x).toNat < S3072.size a := fun v2774 k0_hw386 => k0_hw386

def k0_chk387 (v2781 : IVec S16 32) : Prop :=
  (∀ a x, ((![v2781] : Fin 1 → IVec S16 32) a x).toNat < S3072.size a)
theorem k0_idx387_inb : ∀ (v2781 : IVec S16 32) (k0_hw387 : k0_chk387 v2781), ∀ a x, ((![v2781] : Fin 1 → IVec S16 32) a x).toNat < S3072.size a := fun v2781 k0_hw387 => k0_hw387

def k0_chk388 (v2788 : IVec S16 32) : Prop :=
  (∀ a x, ((![v2788] : Fin 1 → IVec S16 32) a x).toNat < S3072.size a)
theorem k0_idx388_inb : ∀ (v2788 : IVec S16 32) (k0_hw388 : k0_chk388 v2788), ∀ a x, ((![v2788] : Fin 1 → IVec S16 32) a x).toNat < S3072.size a := fun v2788 k0_hw388 => k0_hw388

def k0_chk389 (v2795 : IVec S16 32) : Prop :=
  (∀ a x, ((![v2795] : Fin 1 → IVec S16 32) a x).toNat < S3072.size a)
theorem k0_idx389_inb : ∀ (v2795 : IVec S16 32) (k0_hw389 : k0_chk389 v2795), ∀ a x, ((![v2795] : Fin 1 → IVec S16 32) a x).toNat < S3072.size a := fun v2795 k0_hw389 => k0_hw389

def k0_chk390 (v2802 : IVec S16 32) : Prop :=
  (∀ a x, ((![v2802] : Fin 1 → IVec S16 32) a x).toNat < S3072.size a)
theorem k0_idx390_inb : ∀ (v2802 : IVec S16 32) (k0_hw390 : k0_chk390 v2802), ∀ a x, ((![v2802] : Fin 1 → IVec S16 32) a x).toNat < S3072.size a := fun v2802 k0_hw390 => k0_hw390

def k0_chk391 (v2809 : IVec S16 32) : Prop :=
  (∀ a x, ((![v2809] : Fin 1 → IVec S16 32) a x).toNat < S3072.size a)
theorem k0_idx391_inb : ∀ (v2809 : IVec S16 32) (k0_hw391 : k0_chk391 v2809), ∀ a x, ((![v2809] : Fin 1 → IVec S16 32) a x).toNat < S3072.size a := fun v2809 k0_hw391 => k0_hw391

def k0_chk392 (v2816 : IVec S16 32) : Prop :=
  (∀ a x, ((![v2816] : Fin 1 → IVec S16 32) a x).toNat < S3072.size a)
theorem k0_idx392_inb : ∀ (v2816 : IVec S16 32) (k0_hw392 : k0_chk392 v2816), ∀ a x, ((![v2816] : Fin 1 → IVec S16 32) a x).toNat < S3072.size a := fun v2816 k0_hw392 => k0_hw392

def k0_chk393 (v2823 : IVec S16 32) : Prop :=
  (∀ a x, ((![v2823] : Fin 1 → IVec S16 32) a x).toNat < S3072.size a)
theorem k0_idx393_inb : ∀ (v2823 : IVec S16 32) (k0_hw393 : k0_chk393 v2823), ∀ a x, ((![v2823] : Fin 1 → IVec S16 32) a x).toNat < S3072.size a := fun v2823 k0_hw393 => k0_hw393

def k0_chk394 (v2830 : IVec S16 32) : Prop :=
  (∀ a x, ((![v2830] : Fin 1 → IVec S16 32) a x).toNat < S3072.size a)
theorem k0_idx394_inb : ∀ (v2830 : IVec S16 32) (k0_hw394 : k0_chk394 v2830), ∀ a x, ((![v2830] : Fin 1 → IVec S16 32) a x).toNat < S3072.size a := fun v2830 k0_hw394 => k0_hw394

def k0_chk395 (v2837 : IVec S16 32) : Prop :=
  (∀ a x, ((![v2837] : Fin 1 → IVec S16 32) a x).toNat < S3072.size a)
theorem k0_idx395_inb : ∀ (v2837 : IVec S16 32) (k0_hw395 : k0_chk395 v2837), ∀ a x, ((![v2837] : Fin 1 → IVec S16 32) a x).toNat < S3072.size a := fun v2837 k0_hw395 => k0_hw395

def k0_chk396 (v2844 : IVec S16 32) : Prop :=
  (∀ a x, ((![v2844] : Fin 1 → IVec S16 32) a x).toNat < S3072.size a)
theorem k0_idx396_inb : ∀ (v2844 : IVec S16 32) (k0_hw396 : k0_chk396 v2844), ∀ a x, ((![v2844] : Fin 1 → IVec S16 32) a x).toNat < S3072.size a := fun v2844 k0_hw396 => k0_hw396

def k0_chk397 (v2851 : IVec S16 32) : Prop :=
  (∀ a x, ((![v2851] : Fin 1 → IVec S16 32) a x).toNat < S3072.size a)
theorem k0_idx397_inb : ∀ (v2851 : IVec S16 32) (k0_hw397 : k0_chk397 v2851), ∀ a x, ((![v2851] : Fin 1 → IVec S16 32) a x).toNat < S3072.size a := fun v2851 k0_hw397 => k0_hw397

def k0_chk398 (v2858 : IVec S16 32) : Prop :=
  (∀ a x, ((![v2858] : Fin 1 → IVec S16 32) a x).toNat < S3072.size a)
theorem k0_idx398_inb : ∀ (v2858 : IVec S16 32) (k0_hw398 : k0_chk398 v2858), ∀ a x, ((![v2858] : Fin 1 → IVec S16 32) a x).toNat < S3072.size a := fun v2858 k0_hw398 => k0_hw398

def k0_chk399 (v2865 : IVec S16 32) : Prop :=
  (∀ a x, ((![v2865] : Fin 1 → IVec S16 32) a x).toNat < S3072.size a)
theorem k0_idx399_inb : ∀ (v2865 : IVec S16 32) (k0_hw399 : k0_chk399 v2865), ∀ a x, ((![v2865] : Fin 1 → IVec S16 32) a x).toNat < S3072.size a := fun v2865 k0_hw399 => k0_hw399

def k0_chk400 (v2872 : IVec S16 32) : Prop :=
  (∀ a x, ((![v2872] : Fin 1 → IVec S16 32) a x).toNat < S3072.size a)
theorem k0_idx400_inb : ∀ (v2872 : IVec S16 32) (k0_hw400 : k0_chk400 v2872), ∀ a x, ((![v2872] : Fin 1 → IVec S16 32) a x).toNat < S3072.size a := fun v2872 k0_hw400 => k0_hw400
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c128_i32 : BitVec 32 := 128#32
  let v1439 : BitVec 32 := Scalar.addi v3 c128_i32
  let c24_i32_1261 : BitVec 32 := 24#32
  let v2873 : BitVec 32 := Scalar.muli v1439 c24_i32_1261
  ![v2873.toNat]
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c256_i32 : BitVec 32 := 256#32
  let v2874 : BitVec 32 := Scalar.addi v3 c256_i32
  let c200_i32_1262 : BitVec 32 := 200#32
  let v2875 : BitVec 32 := Scalar.muli v2874 c200_i32_1262
  ![v2875.toNat]
@[reducible] def k0_t17_loop : Scf.Loop 32 :=
  let c0_i32_1266 : BitVec 32 := 0#32
  let c200_i32_1267 : BitVec 32 := 200#32
  let v2881 : BitVec 32 := Scalar.addi c0_i32_1266 c200_i32_1267
  let c1_i32_1268 : BitVec 32 := 1#32
  ⟨c0_i32_1266, v2881, c1_i32_1268⟩

def k0_chk401 (v5745 : IVec S16 32) : Prop :=
  (∀ a x, ((![v5745] : Fin 1 → IVec S16 32) a x).toNat < S25600.size a)
theorem k0_idx401_inb : ∀ (v5745 : IVec S16 32) (k0_hw401 : k0_chk401 v5745), ∀ a x, ((![v5745] : Fin 1 → IVec S16 32) a x).toNat < S25600.size a := fun v5745 k0_hw401 => k0_hw401

def k0_chk402 (v2893 : IVec S16 32) : Prop :=
  (∀ a x, ((![v2893] : Fin 1 → IVec S16 32) a x).toNat < S3072.size a)
theorem k0_idx402_inb : ∀ (v2893 : IVec S16 32) (k0_hw402 : k0_chk402 v2893), ∀ a x, ((![v2893] : Fin 1 → IVec S16 32) a x).toNat < S3072.size a := fun v2893 k0_hw402 => k0_hw402

def k0_chk403 (v2900 : IVec S16 32) : Prop :=
  (∀ a x, ((![v2900] : Fin 1 → IVec S16 32) a x).toNat < S3072.size a)
theorem k0_idx403_inb : ∀ (v2900 : IVec S16 32) (k0_hw403 : k0_chk403 v2900), ∀ a x, ((![v2900] : Fin 1 → IVec S16 32) a x).toNat < S3072.size a := fun v2900 k0_hw403 => k0_hw403

def k0_chk404 (v2907 : IVec S16 32) : Prop :=
  (∀ a x, ((![v2907] : Fin 1 → IVec S16 32) a x).toNat < S3072.size a)
theorem k0_idx404_inb : ∀ (v2907 : IVec S16 32) (k0_hw404 : k0_chk404 v2907), ∀ a x, ((![v2907] : Fin 1 → IVec S16 32) a x).toNat < S3072.size a := fun v2907 k0_hw404 => k0_hw404

def k0_chk405 (v2914 : IVec S16 32) : Prop :=
  (∀ a x, ((![v2914] : Fin 1 → IVec S16 32) a x).toNat < S3072.size a)
theorem k0_idx405_inb : ∀ (v2914 : IVec S16 32) (k0_hw405 : k0_chk405 v2914), ∀ a x, ((![v2914] : Fin 1 → IVec S16 32) a x).toNat < S3072.size a := fun v2914 k0_hw405 => k0_hw405

def k0_chk406 (v2921 : IVec S16 32) : Prop :=
  (∀ a x, ((![v2921] : Fin 1 → IVec S16 32) a x).toNat < S3072.size a)
theorem k0_idx406_inb : ∀ (v2921 : IVec S16 32) (k0_hw406 : k0_chk406 v2921), ∀ a x, ((![v2921] : Fin 1 → IVec S16 32) a x).toNat < S3072.size a := fun v2921 k0_hw406 => k0_hw406

def k0_chk407 (v2928 : IVec S16 32) : Prop :=
  (∀ a x, ((![v2928] : Fin 1 → IVec S16 32) a x).toNat < S3072.size a)
theorem k0_idx407_inb : ∀ (v2928 : IVec S16 32) (k0_hw407 : k0_chk407 v2928), ∀ a x, ((![v2928] : Fin 1 → IVec S16 32) a x).toNat < S3072.size a := fun v2928 k0_hw407 => k0_hw407

def k0_chk408 (v2935 : IVec S16 32) : Prop :=
  (∀ a x, ((![v2935] : Fin 1 → IVec S16 32) a x).toNat < S3072.size a)
theorem k0_idx408_inb : ∀ (v2935 : IVec S16 32) (k0_hw408 : k0_chk408 v2935), ∀ a x, ((![v2935] : Fin 1 → IVec S16 32) a x).toNat < S3072.size a := fun v2935 k0_hw408 => k0_hw408

def k0_chk409 (v2942 : IVec S16 32) : Prop :=
  (∀ a x, ((![v2942] : Fin 1 → IVec S16 32) a x).toNat < S3072.size a)
theorem k0_idx409_inb : ∀ (v2942 : IVec S16 32) (k0_hw409 : k0_chk409 v2942), ∀ a x, ((![v2942] : Fin 1 → IVec S16 32) a x).toNat < S3072.size a := fun v2942 k0_hw409 => k0_hw409

def k0_chk410 (v2949 : IVec S16 32) : Prop :=
  (∀ a x, ((![v2949] : Fin 1 → IVec S16 32) a x).toNat < S3072.size a)
theorem k0_idx410_inb : ∀ (v2949 : IVec S16 32) (k0_hw410 : k0_chk410 v2949), ∀ a x, ((![v2949] : Fin 1 → IVec S16 32) a x).toNat < S3072.size a := fun v2949 k0_hw410 => k0_hw410

def k0_chk411 (v2956 : IVec S16 32) : Prop :=
  (∀ a x, ((![v2956] : Fin 1 → IVec S16 32) a x).toNat < S3072.size a)
theorem k0_idx411_inb : ∀ (v2956 : IVec S16 32) (k0_hw411 : k0_chk411 v2956), ∀ a x, ((![v2956] : Fin 1 → IVec S16 32) a x).toNat < S3072.size a := fun v2956 k0_hw411 => k0_hw411

def k0_chk412 (v2963 : IVec S16 32) : Prop :=
  (∀ a x, ((![v2963] : Fin 1 → IVec S16 32) a x).toNat < S3072.size a)
theorem k0_idx412_inb : ∀ (v2963 : IVec S16 32) (k0_hw412 : k0_chk412 v2963), ∀ a x, ((![v2963] : Fin 1 → IVec S16 32) a x).toNat < S3072.size a := fun v2963 k0_hw412 => k0_hw412

def k0_chk413 (v2970 : IVec S16 32) : Prop :=
  (∀ a x, ((![v2970] : Fin 1 → IVec S16 32) a x).toNat < S3072.size a)
theorem k0_idx413_inb : ∀ (v2970 : IVec S16 32) (k0_hw413 : k0_chk413 v2970), ∀ a x, ((![v2970] : Fin 1 → IVec S16 32) a x).toNat < S3072.size a := fun v2970 k0_hw413 => k0_hw413

def k0_chk414 (v2977 : IVec S16 32) : Prop :=
  (∀ a x, ((![v2977] : Fin 1 → IVec S16 32) a x).toNat < S3072.size a)
theorem k0_idx414_inb : ∀ (v2977 : IVec S16 32) (k0_hw414 : k0_chk414 v2977), ∀ a x, ((![v2977] : Fin 1 → IVec S16 32) a x).toNat < S3072.size a := fun v2977 k0_hw414 => k0_hw414

def k0_chk415 (v2984 : IVec S16 32) : Prop :=
  (∀ a x, ((![v2984] : Fin 1 → IVec S16 32) a x).toNat < S3072.size a)
theorem k0_idx415_inb : ∀ (v2984 : IVec S16 32) (k0_hw415 : k0_chk415 v2984), ∀ a x, ((![v2984] : Fin 1 → IVec S16 32) a x).toNat < S3072.size a := fun v2984 k0_hw415 => k0_hw415

def k0_chk416 (v2991 : IVec S16 32) : Prop :=
  (∀ a x, ((![v2991] : Fin 1 → IVec S16 32) a x).toNat < S3072.size a)
theorem k0_idx416_inb : ∀ (v2991 : IVec S16 32) (k0_hw416 : k0_chk416 v2991), ∀ a x, ((![v2991] : Fin 1 → IVec S16 32) a x).toNat < S3072.size a := fun v2991 k0_hw416 => k0_hw416

def k0_chk417 (v2998 : IVec S16 32) : Prop :=
  (∀ a x, ((![v2998] : Fin 1 → IVec S16 32) a x).toNat < S3072.size a)
theorem k0_idx417_inb : ∀ (v2998 : IVec S16 32) (k0_hw417 : k0_chk417 v2998), ∀ a x, ((![v2998] : Fin 1 → IVec S16 32) a x).toNat < S3072.size a := fun v2998 k0_hw417 => k0_hw417

def k0_chk418 (v3005 : IVec S16 32) : Prop :=
  (∀ a x, ((![v3005] : Fin 1 → IVec S16 32) a x).toNat < S3072.size a)
theorem k0_idx418_inb : ∀ (v3005 : IVec S16 32) (k0_hw418 : k0_chk418 v3005), ∀ a x, ((![v3005] : Fin 1 → IVec S16 32) a x).toNat < S3072.size a := fun v3005 k0_hw418 => k0_hw418

def k0_chk419 (v3012 : IVec S16 32) : Prop :=
  (∀ a x, ((![v3012] : Fin 1 → IVec S16 32) a x).toNat < S3072.size a)
theorem k0_idx419_inb : ∀ (v3012 : IVec S16 32) (k0_hw419 : k0_chk419 v3012), ∀ a x, ((![v3012] : Fin 1 → IVec S16 32) a x).toNat < S3072.size a := fun v3012 k0_hw419 => k0_hw419

def k0_chk420 (v3019 : IVec S16 32) : Prop :=
  (∀ a x, ((![v3019] : Fin 1 → IVec S16 32) a x).toNat < S3072.size a)
theorem k0_idx420_inb : ∀ (v3019 : IVec S16 32) (k0_hw420 : k0_chk420 v3019), ∀ a x, ((![v3019] : Fin 1 → IVec S16 32) a x).toNat < S3072.size a := fun v3019 k0_hw420 => k0_hw420

def k0_chk421 (v3026 : IVec S16 32) : Prop :=
  (∀ a x, ((![v3026] : Fin 1 → IVec S16 32) a x).toNat < S3072.size a)
theorem k0_idx421_inb : ∀ (v3026 : IVec S16 32) (k0_hw421 : k0_chk421 v3026), ∀ a x, ((![v3026] : Fin 1 → IVec S16 32) a x).toNat < S3072.size a := fun v3026 k0_hw421 => k0_hw421

def k0_chk422 (v3033 : IVec S16 32) : Prop :=
  (∀ a x, ((![v3033] : Fin 1 → IVec S16 32) a x).toNat < S3072.size a)
theorem k0_idx422_inb : ∀ (v3033 : IVec S16 32) (k0_hw422 : k0_chk422 v3033), ∀ a x, ((![v3033] : Fin 1 → IVec S16 32) a x).toNat < S3072.size a := fun v3033 k0_hw422 => k0_hw422

def k0_chk423 (v3040 : IVec S16 32) : Prop :=
  (∀ a x, ((![v3040] : Fin 1 → IVec S16 32) a x).toNat < S3072.size a)
theorem k0_idx423_inb : ∀ (v3040 : IVec S16 32) (k0_hw423 : k0_chk423 v3040), ∀ a x, ((![v3040] : Fin 1 → IVec S16 32) a x).toNat < S3072.size a := fun v3040 k0_hw423 => k0_hw423

def k0_chk424 (v3047 : IVec S16 32) : Prop :=
  (∀ a x, ((![v3047] : Fin 1 → IVec S16 32) a x).toNat < S3072.size a)
theorem k0_idx424_inb : ∀ (v3047 : IVec S16 32) (k0_hw424 : k0_chk424 v3047), ∀ a x, ((![v3047] : Fin 1 → IVec S16 32) a x).toNat < S3072.size a := fun v3047 k0_hw424 => k0_hw424

def k0_chk425 (v3054 : IVec S16 32) : Prop :=
  (∀ a x, ((![v3054] : Fin 1 → IVec S16 32) a x).toNat < S3072.size a)
theorem k0_idx425_inb : ∀ (v3054 : IVec S16 32) (k0_hw425 : k0_chk425 v3054), ∀ a x, ((![v3054] : Fin 1 → IVec S16 32) a x).toNat < S3072.size a := fun v3054 k0_hw425 => k0_hw425
@[reducible] def k0_t18_loop : Scf.Loop 32 :=
  let c0_i32_1347 : BitVec 32 := 0#32
  let c200_i32_1348 : BitVec 32 := 200#32
  let v3060 : BitVec 32 := Scalar.addi c0_i32_1347 c200_i32_1348
  let c1_i32_1349 : BitVec 32 := 1#32
  ⟨c0_i32_1347, v3060, c1_i32_1349⟩

def k0_chk426 (v5745 : IVec S16 32) : Prop :=
  (∀ a x, ((![v5745] : Fin 1 → IVec S16 32) a x).toNat < S25600.size a)
theorem k0_idx426_inb : ∀ (v5745 : IVec S16 32) (k0_hw426 : k0_chk426 v5745), ∀ a x, ((![v5745] : Fin 1 → IVec S16 32) a x).toNat < S25600.size a := fun v5745 k0_hw426 => k0_hw426

def k0_chk427 (v3072 : IVec S16 32) : Prop :=
  (∀ a x, ((![v3072] : Fin 1 → IVec S16 32) a x).toNat < S3072.size a)
theorem k0_idx427_inb : ∀ (v3072 : IVec S16 32) (k0_hw427 : k0_chk427 v3072), ∀ a x, ((![v3072] : Fin 1 → IVec S16 32) a x).toNat < S3072.size a := fun v3072 k0_hw427 => k0_hw427

def k0_chk428 (v3079 : IVec S16 32) : Prop :=
  (∀ a x, ((![v3079] : Fin 1 → IVec S16 32) a x).toNat < S3072.size a)
theorem k0_idx428_inb : ∀ (v3079 : IVec S16 32) (k0_hw428 : k0_chk428 v3079), ∀ a x, ((![v3079] : Fin 1 → IVec S16 32) a x).toNat < S3072.size a := fun v3079 k0_hw428 => k0_hw428

def k0_chk429 (v3086 : IVec S16 32) : Prop :=
  (∀ a x, ((![v3086] : Fin 1 → IVec S16 32) a x).toNat < S3072.size a)
theorem k0_idx429_inb : ∀ (v3086 : IVec S16 32) (k0_hw429 : k0_chk429 v3086), ∀ a x, ((![v3086] : Fin 1 → IVec S16 32) a x).toNat < S3072.size a := fun v3086 k0_hw429 => k0_hw429

def k0_chk430 (v3093 : IVec S16 32) : Prop :=
  (∀ a x, ((![v3093] : Fin 1 → IVec S16 32) a x).toNat < S3072.size a)
theorem k0_idx430_inb : ∀ (v3093 : IVec S16 32) (k0_hw430 : k0_chk430 v3093), ∀ a x, ((![v3093] : Fin 1 → IVec S16 32) a x).toNat < S3072.size a := fun v3093 k0_hw430 => k0_hw430

def k0_chk431 (v3100 : IVec S16 32) : Prop :=
  (∀ a x, ((![v3100] : Fin 1 → IVec S16 32) a x).toNat < S3072.size a)
theorem k0_idx431_inb : ∀ (v3100 : IVec S16 32) (k0_hw431 : k0_chk431 v3100), ∀ a x, ((![v3100] : Fin 1 → IVec S16 32) a x).toNat < S3072.size a := fun v3100 k0_hw431 => k0_hw431

def k0_chk432 (v3107 : IVec S16 32) : Prop :=
  (∀ a x, ((![v3107] : Fin 1 → IVec S16 32) a x).toNat < S3072.size a)
theorem k0_idx432_inb : ∀ (v3107 : IVec S16 32) (k0_hw432 : k0_chk432 v3107), ∀ a x, ((![v3107] : Fin 1 → IVec S16 32) a x).toNat < S3072.size a := fun v3107 k0_hw432 => k0_hw432

def k0_chk433 (v3114 : IVec S16 32) : Prop :=
  (∀ a x, ((![v3114] : Fin 1 → IVec S16 32) a x).toNat < S3072.size a)
theorem k0_idx433_inb : ∀ (v3114 : IVec S16 32) (k0_hw433 : k0_chk433 v3114), ∀ a x, ((![v3114] : Fin 1 → IVec S16 32) a x).toNat < S3072.size a := fun v3114 k0_hw433 => k0_hw433

def k0_chk434 (v3121 : IVec S16 32) : Prop :=
  (∀ a x, ((![v3121] : Fin 1 → IVec S16 32) a x).toNat < S3072.size a)
theorem k0_idx434_inb : ∀ (v3121 : IVec S16 32) (k0_hw434 : k0_chk434 v3121), ∀ a x, ((![v3121] : Fin 1 → IVec S16 32) a x).toNat < S3072.size a := fun v3121 k0_hw434 => k0_hw434

def k0_chk435 (v3128 : IVec S16 32) : Prop :=
  (∀ a x, ((![v3128] : Fin 1 → IVec S16 32) a x).toNat < S3072.size a)
theorem k0_idx435_inb : ∀ (v3128 : IVec S16 32) (k0_hw435 : k0_chk435 v3128), ∀ a x, ((![v3128] : Fin 1 → IVec S16 32) a x).toNat < S3072.size a := fun v3128 k0_hw435 => k0_hw435

def k0_chk436 (v3135 : IVec S16 32) : Prop :=
  (∀ a x, ((![v3135] : Fin 1 → IVec S16 32) a x).toNat < S3072.size a)
theorem k0_idx436_inb : ∀ (v3135 : IVec S16 32) (k0_hw436 : k0_chk436 v3135), ∀ a x, ((![v3135] : Fin 1 → IVec S16 32) a x).toNat < S3072.size a := fun v3135 k0_hw436 => k0_hw436

def k0_chk437 (v3142 : IVec S16 32) : Prop :=
  (∀ a x, ((![v3142] : Fin 1 → IVec S16 32) a x).toNat < S3072.size a)
theorem k0_idx437_inb : ∀ (v3142 : IVec S16 32) (k0_hw437 : k0_chk437 v3142), ∀ a x, ((![v3142] : Fin 1 → IVec S16 32) a x).toNat < S3072.size a := fun v3142 k0_hw437 => k0_hw437

def k0_chk438 (v3149 : IVec S16 32) : Prop :=
  (∀ a x, ((![v3149] : Fin 1 → IVec S16 32) a x).toNat < S3072.size a)
theorem k0_idx438_inb : ∀ (v3149 : IVec S16 32) (k0_hw438 : k0_chk438 v3149), ∀ a x, ((![v3149] : Fin 1 → IVec S16 32) a x).toNat < S3072.size a := fun v3149 k0_hw438 => k0_hw438

def k0_chk439 (v3156 : IVec S16 32) : Prop :=
  (∀ a x, ((![v3156] : Fin 1 → IVec S16 32) a x).toNat < S3072.size a)
theorem k0_idx439_inb : ∀ (v3156 : IVec S16 32) (k0_hw439 : k0_chk439 v3156), ∀ a x, ((![v3156] : Fin 1 → IVec S16 32) a x).toNat < S3072.size a := fun v3156 k0_hw439 => k0_hw439

def k0_chk440 (v3163 : IVec S16 32) : Prop :=
  (∀ a x, ((![v3163] : Fin 1 → IVec S16 32) a x).toNat < S3072.size a)
theorem k0_idx440_inb : ∀ (v3163 : IVec S16 32) (k0_hw440 : k0_chk440 v3163), ∀ a x, ((![v3163] : Fin 1 → IVec S16 32) a x).toNat < S3072.size a := fun v3163 k0_hw440 => k0_hw440

def k0_chk441 (v3170 : IVec S16 32) : Prop :=
  (∀ a x, ((![v3170] : Fin 1 → IVec S16 32) a x).toNat < S3072.size a)
theorem k0_idx441_inb : ∀ (v3170 : IVec S16 32) (k0_hw441 : k0_chk441 v3170), ∀ a x, ((![v3170] : Fin 1 → IVec S16 32) a x).toNat < S3072.size a := fun v3170 k0_hw441 => k0_hw441

def k0_chk442 (v3177 : IVec S16 32) : Prop :=
  (∀ a x, ((![v3177] : Fin 1 → IVec S16 32) a x).toNat < S3072.size a)
theorem k0_idx442_inb : ∀ (v3177 : IVec S16 32) (k0_hw442 : k0_chk442 v3177), ∀ a x, ((![v3177] : Fin 1 → IVec S16 32) a x).toNat < S3072.size a := fun v3177 k0_hw442 => k0_hw442

def k0_chk443 (v3184 : IVec S16 32) : Prop :=
  (∀ a x, ((![v3184] : Fin 1 → IVec S16 32) a x).toNat < S3072.size a)
theorem k0_idx443_inb : ∀ (v3184 : IVec S16 32) (k0_hw443 : k0_chk443 v3184), ∀ a x, ((![v3184] : Fin 1 → IVec S16 32) a x).toNat < S3072.size a := fun v3184 k0_hw443 => k0_hw443

def k0_chk444 (v3191 : IVec S16 32) : Prop :=
  (∀ a x, ((![v3191] : Fin 1 → IVec S16 32) a x).toNat < S3072.size a)
theorem k0_idx444_inb : ∀ (v3191 : IVec S16 32) (k0_hw444 : k0_chk444 v3191), ∀ a x, ((![v3191] : Fin 1 → IVec S16 32) a x).toNat < S3072.size a := fun v3191 k0_hw444 => k0_hw444

def k0_chk445 (v3198 : IVec S16 32) : Prop :=
  (∀ a x, ((![v3198] : Fin 1 → IVec S16 32) a x).toNat < S3072.size a)
theorem k0_idx445_inb : ∀ (v3198 : IVec S16 32) (k0_hw445 : k0_chk445 v3198), ∀ a x, ((![v3198] : Fin 1 → IVec S16 32) a x).toNat < S3072.size a := fun v3198 k0_hw445 => k0_hw445

def k0_chk446 (v3205 : IVec S16 32) : Prop :=
  (∀ a x, ((![v3205] : Fin 1 → IVec S16 32) a x).toNat < S3072.size a)
theorem k0_idx446_inb : ∀ (v3205 : IVec S16 32) (k0_hw446 : k0_chk446 v3205), ∀ a x, ((![v3205] : Fin 1 → IVec S16 32) a x).toNat < S3072.size a := fun v3205 k0_hw446 => k0_hw446

def k0_chk447 (v3212 : IVec S16 32) : Prop :=
  (∀ a x, ((![v3212] : Fin 1 → IVec S16 32) a x).toNat < S3072.size a)
theorem k0_idx447_inb : ∀ (v3212 : IVec S16 32) (k0_hw447 : k0_chk447 v3212), ∀ a x, ((![v3212] : Fin 1 → IVec S16 32) a x).toNat < S3072.size a := fun v3212 k0_hw447 => k0_hw447

def k0_chk448 (v3219 : IVec S16 32) : Prop :=
  (∀ a x, ((![v3219] : Fin 1 → IVec S16 32) a x).toNat < S3072.size a)
theorem k0_idx448_inb : ∀ (v3219 : IVec S16 32) (k0_hw448 : k0_chk448 v3219), ∀ a x, ((![v3219] : Fin 1 → IVec S16 32) a x).toNat < S3072.size a := fun v3219 k0_hw448 => k0_hw448

def k0_chk449 (v3226 : IVec S16 32) : Prop :=
  (∀ a x, ((![v3226] : Fin 1 → IVec S16 32) a x).toNat < S3072.size a)
theorem k0_idx449_inb : ∀ (v3226 : IVec S16 32) (k0_hw449 : k0_chk449 v3226), ∀ a x, ((![v3226] : Fin 1 → IVec S16 32) a x).toNat < S3072.size a := fun v3226 k0_hw449 => k0_hw449

def k0_chk450 (v3233 : IVec S16 32) : Prop :=
  (∀ a x, ((![v3233] : Fin 1 → IVec S16 32) a x).toNat < S3072.size a)
theorem k0_idx450_inb : ∀ (v3233 : IVec S16 32) (k0_hw450 : k0_chk450 v3233), ∀ a x, ((![v3233] : Fin 1 → IVec S16 32) a x).toNat < S3072.size a := fun v3233 k0_hw450 => k0_hw450
@[reducible] def k0_t19_loop : Scf.Loop 32 :=
  let c0_i32_1428 : BitVec 32 := 0#32
  let c200_i32_1429 : BitVec 32 := 200#32
  let v3239 : BitVec 32 := Scalar.addi c0_i32_1428 c200_i32_1429
  let c1_i32_1430 : BitVec 32 := 1#32
  ⟨c0_i32_1428, v3239, c1_i32_1430⟩

def k0_chk451 (v5745 : IVec S16 32) : Prop :=
  (∀ a x, ((![v5745] : Fin 1 → IVec S16 32) a x).toNat < S25600.size a)
theorem k0_idx451_inb : ∀ (v5745 : IVec S16 32) (k0_hw451 : k0_chk451 v5745), ∀ a x, ((![v5745] : Fin 1 → IVec S16 32) a x).toNat < S25600.size a := fun v5745 k0_hw451 => k0_hw451

def k0_chk452 (v3251 : IVec S16 32) : Prop :=
  (∀ a x, ((![v3251] : Fin 1 → IVec S16 32) a x).toNat < S3072.size a)
theorem k0_idx452_inb : ∀ (v3251 : IVec S16 32) (k0_hw452 : k0_chk452 v3251), ∀ a x, ((![v3251] : Fin 1 → IVec S16 32) a x).toNat < S3072.size a := fun v3251 k0_hw452 => k0_hw452

def k0_chk453 (v3258 : IVec S16 32) : Prop :=
  (∀ a x, ((![v3258] : Fin 1 → IVec S16 32) a x).toNat < S3072.size a)
theorem k0_idx453_inb : ∀ (v3258 : IVec S16 32) (k0_hw453 : k0_chk453 v3258), ∀ a x, ((![v3258] : Fin 1 → IVec S16 32) a x).toNat < S3072.size a := fun v3258 k0_hw453 => k0_hw453

def k0_chk454 (v3265 : IVec S16 32) : Prop :=
  (∀ a x, ((![v3265] : Fin 1 → IVec S16 32) a x).toNat < S3072.size a)
theorem k0_idx454_inb : ∀ (v3265 : IVec S16 32) (k0_hw454 : k0_chk454 v3265), ∀ a x, ((![v3265] : Fin 1 → IVec S16 32) a x).toNat < S3072.size a := fun v3265 k0_hw454 => k0_hw454

def k0_chk455 (v3272 : IVec S16 32) : Prop :=
  (∀ a x, ((![v3272] : Fin 1 → IVec S16 32) a x).toNat < S3072.size a)
theorem k0_idx455_inb : ∀ (v3272 : IVec S16 32) (k0_hw455 : k0_chk455 v3272), ∀ a x, ((![v3272] : Fin 1 → IVec S16 32) a x).toNat < S3072.size a := fun v3272 k0_hw455 => k0_hw455

def k0_chk456 (v3279 : IVec S16 32) : Prop :=
  (∀ a x, ((![v3279] : Fin 1 → IVec S16 32) a x).toNat < S3072.size a)
theorem k0_idx456_inb : ∀ (v3279 : IVec S16 32) (k0_hw456 : k0_chk456 v3279), ∀ a x, ((![v3279] : Fin 1 → IVec S16 32) a x).toNat < S3072.size a := fun v3279 k0_hw456 => k0_hw456

def k0_chk457 (v3286 : IVec S16 32) : Prop :=
  (∀ a x, ((![v3286] : Fin 1 → IVec S16 32) a x).toNat < S3072.size a)
theorem k0_idx457_inb : ∀ (v3286 : IVec S16 32) (k0_hw457 : k0_chk457 v3286), ∀ a x, ((![v3286] : Fin 1 → IVec S16 32) a x).toNat < S3072.size a := fun v3286 k0_hw457 => k0_hw457

def k0_chk458 (v3293 : IVec S16 32) : Prop :=
  (∀ a x, ((![v3293] : Fin 1 → IVec S16 32) a x).toNat < S3072.size a)
theorem k0_idx458_inb : ∀ (v3293 : IVec S16 32) (k0_hw458 : k0_chk458 v3293), ∀ a x, ((![v3293] : Fin 1 → IVec S16 32) a x).toNat < S3072.size a := fun v3293 k0_hw458 => k0_hw458

def k0_chk459 (v3300 : IVec S16 32) : Prop :=
  (∀ a x, ((![v3300] : Fin 1 → IVec S16 32) a x).toNat < S3072.size a)
theorem k0_idx459_inb : ∀ (v3300 : IVec S16 32) (k0_hw459 : k0_chk459 v3300), ∀ a x, ((![v3300] : Fin 1 → IVec S16 32) a x).toNat < S3072.size a := fun v3300 k0_hw459 => k0_hw459

def k0_chk460 (v3307 : IVec S16 32) : Prop :=
  (∀ a x, ((![v3307] : Fin 1 → IVec S16 32) a x).toNat < S3072.size a)
theorem k0_idx460_inb : ∀ (v3307 : IVec S16 32) (k0_hw460 : k0_chk460 v3307), ∀ a x, ((![v3307] : Fin 1 → IVec S16 32) a x).toNat < S3072.size a := fun v3307 k0_hw460 => k0_hw460

def k0_chk461 (v3314 : IVec S16 32) : Prop :=
  (∀ a x, ((![v3314] : Fin 1 → IVec S16 32) a x).toNat < S3072.size a)
theorem k0_idx461_inb : ∀ (v3314 : IVec S16 32) (k0_hw461 : k0_chk461 v3314), ∀ a x, ((![v3314] : Fin 1 → IVec S16 32) a x).toNat < S3072.size a := fun v3314 k0_hw461 => k0_hw461

def k0_chk462 (v3321 : IVec S16 32) : Prop :=
  (∀ a x, ((![v3321] : Fin 1 → IVec S16 32) a x).toNat < S3072.size a)
theorem k0_idx462_inb : ∀ (v3321 : IVec S16 32) (k0_hw462 : k0_chk462 v3321), ∀ a x, ((![v3321] : Fin 1 → IVec S16 32) a x).toNat < S3072.size a := fun v3321 k0_hw462 => k0_hw462

def k0_chk463 (v3328 : IVec S16 32) : Prop :=
  (∀ a x, ((![v3328] : Fin 1 → IVec S16 32) a x).toNat < S3072.size a)
theorem k0_idx463_inb : ∀ (v3328 : IVec S16 32) (k0_hw463 : k0_chk463 v3328), ∀ a x, ((![v3328] : Fin 1 → IVec S16 32) a x).toNat < S3072.size a := fun v3328 k0_hw463 => k0_hw463

def k0_chk464 (v3335 : IVec S16 32) : Prop :=
  (∀ a x, ((![v3335] : Fin 1 → IVec S16 32) a x).toNat < S3072.size a)
theorem k0_idx464_inb : ∀ (v3335 : IVec S16 32) (k0_hw464 : k0_chk464 v3335), ∀ a x, ((![v3335] : Fin 1 → IVec S16 32) a x).toNat < S3072.size a := fun v3335 k0_hw464 => k0_hw464

def k0_chk465 (v3342 : IVec S16 32) : Prop :=
  (∀ a x, ((![v3342] : Fin 1 → IVec S16 32) a x).toNat < S3072.size a)
theorem k0_idx465_inb : ∀ (v3342 : IVec S16 32) (k0_hw465 : k0_chk465 v3342), ∀ a x, ((![v3342] : Fin 1 → IVec S16 32) a x).toNat < S3072.size a := fun v3342 k0_hw465 => k0_hw465

def k0_chk466 (v3349 : IVec S16 32) : Prop :=
  (∀ a x, ((![v3349] : Fin 1 → IVec S16 32) a x).toNat < S3072.size a)
theorem k0_idx466_inb : ∀ (v3349 : IVec S16 32) (k0_hw466 : k0_chk466 v3349), ∀ a x, ((![v3349] : Fin 1 → IVec S16 32) a x).toNat < S3072.size a := fun v3349 k0_hw466 => k0_hw466

def k0_chk467 (v3356 : IVec S16 32) : Prop :=
  (∀ a x, ((![v3356] : Fin 1 → IVec S16 32) a x).toNat < S3072.size a)
theorem k0_idx467_inb : ∀ (v3356 : IVec S16 32) (k0_hw467 : k0_chk467 v3356), ∀ a x, ((![v3356] : Fin 1 → IVec S16 32) a x).toNat < S3072.size a := fun v3356 k0_hw467 => k0_hw467

def k0_chk468 (v3363 : IVec S16 32) : Prop :=
  (∀ a x, ((![v3363] : Fin 1 → IVec S16 32) a x).toNat < S3072.size a)
theorem k0_idx468_inb : ∀ (v3363 : IVec S16 32) (k0_hw468 : k0_chk468 v3363), ∀ a x, ((![v3363] : Fin 1 → IVec S16 32) a x).toNat < S3072.size a := fun v3363 k0_hw468 => k0_hw468

def k0_chk469 (v3370 : IVec S16 32) : Prop :=
  (∀ a x, ((![v3370] : Fin 1 → IVec S16 32) a x).toNat < S3072.size a)
theorem k0_idx469_inb : ∀ (v3370 : IVec S16 32) (k0_hw469 : k0_chk469 v3370), ∀ a x, ((![v3370] : Fin 1 → IVec S16 32) a x).toNat < S3072.size a := fun v3370 k0_hw469 => k0_hw469

def k0_chk470 (v3377 : IVec S16 32) : Prop :=
  (∀ a x, ((![v3377] : Fin 1 → IVec S16 32) a x).toNat < S3072.size a)
theorem k0_idx470_inb : ∀ (v3377 : IVec S16 32) (k0_hw470 : k0_chk470 v3377), ∀ a x, ((![v3377] : Fin 1 → IVec S16 32) a x).toNat < S3072.size a := fun v3377 k0_hw470 => k0_hw470

def k0_chk471 (v3384 : IVec S16 32) : Prop :=
  (∀ a x, ((![v3384] : Fin 1 → IVec S16 32) a x).toNat < S3072.size a)
theorem k0_idx471_inb : ∀ (v3384 : IVec S16 32) (k0_hw471 : k0_chk471 v3384), ∀ a x, ((![v3384] : Fin 1 → IVec S16 32) a x).toNat < S3072.size a := fun v3384 k0_hw471 => k0_hw471

def k0_chk472 (v3391 : IVec S16 32) : Prop :=
  (∀ a x, ((![v3391] : Fin 1 → IVec S16 32) a x).toNat < S3072.size a)
theorem k0_idx472_inb : ∀ (v3391 : IVec S16 32) (k0_hw472 : k0_chk472 v3391), ∀ a x, ((![v3391] : Fin 1 → IVec S16 32) a x).toNat < S3072.size a := fun v3391 k0_hw472 => k0_hw472

def k0_chk473 (v3398 : IVec S16 32) : Prop :=
  (∀ a x, ((![v3398] : Fin 1 → IVec S16 32) a x).toNat < S3072.size a)
theorem k0_idx473_inb : ∀ (v3398 : IVec S16 32) (k0_hw473 : k0_chk473 v3398), ∀ a x, ((![v3398] : Fin 1 → IVec S16 32) a x).toNat < S3072.size a := fun v3398 k0_hw473 => k0_hw473

def k0_chk474 (v3405 : IVec S16 32) : Prop :=
  (∀ a x, ((![v3405] : Fin 1 → IVec S16 32) a x).toNat < S3072.size a)
theorem k0_idx474_inb : ∀ (v3405 : IVec S16 32) (k0_hw474 : k0_chk474 v3405), ∀ a x, ((![v3405] : Fin 1 → IVec S16 32) a x).toNat < S3072.size a := fun v3405 k0_hw474 => k0_hw474

def k0_chk475 (v3412 : IVec S16 32) : Prop :=
  (∀ a x, ((![v3412] : Fin 1 → IVec S16 32) a x).toNat < S3072.size a)
theorem k0_idx475_inb : ∀ (v3412 : IVec S16 32) (k0_hw475 : k0_chk475 v3412), ∀ a x, ((![v3412] : Fin 1 → IVec S16 32) a x).toNat < S3072.size a := fun v3412 k0_hw475 => k0_hw475
@[reducible] def k0_t20_loop : Scf.Loop 32 :=
  let c0_i32_1509 : BitVec 32 := 0#32
  let c200_i32_1510 : BitVec 32 := 200#32
  let v3418 : BitVec 32 := Scalar.addi c0_i32_1509 c200_i32_1510
  let c1_i32_1511 : BitVec 32 := 1#32
  ⟨c0_i32_1509, v3418, c1_i32_1511⟩

def k0_chk476 (v5745 : IVec S16 32) : Prop :=
  (∀ a x, ((![v5745] : Fin 1 → IVec S16 32) a x).toNat < S25600.size a)
theorem k0_idx476_inb : ∀ (v5745 : IVec S16 32) (k0_hw476 : k0_chk476 v5745), ∀ a x, ((![v5745] : Fin 1 → IVec S16 32) a x).toNat < S25600.size a := fun v5745 k0_hw476 => k0_hw476

def k0_chk477 (v3430 : IVec S16 32) : Prop :=
  (∀ a x, ((![v3430] : Fin 1 → IVec S16 32) a x).toNat < S3072.size a)
theorem k0_idx477_inb : ∀ (v3430 : IVec S16 32) (k0_hw477 : k0_chk477 v3430), ∀ a x, ((![v3430] : Fin 1 → IVec S16 32) a x).toNat < S3072.size a := fun v3430 k0_hw477 => k0_hw477

def k0_chk478 (v3437 : IVec S16 32) : Prop :=
  (∀ a x, ((![v3437] : Fin 1 → IVec S16 32) a x).toNat < S3072.size a)
theorem k0_idx478_inb : ∀ (v3437 : IVec S16 32) (k0_hw478 : k0_chk478 v3437), ∀ a x, ((![v3437] : Fin 1 → IVec S16 32) a x).toNat < S3072.size a := fun v3437 k0_hw478 => k0_hw478

def k0_chk479 (v3444 : IVec S16 32) : Prop :=
  (∀ a x, ((![v3444] : Fin 1 → IVec S16 32) a x).toNat < S3072.size a)
theorem k0_idx479_inb : ∀ (v3444 : IVec S16 32) (k0_hw479 : k0_chk479 v3444), ∀ a x, ((![v3444] : Fin 1 → IVec S16 32) a x).toNat < S3072.size a := fun v3444 k0_hw479 => k0_hw479

def k0_chk480 (v3451 : IVec S16 32) : Prop :=
  (∀ a x, ((![v3451] : Fin 1 → IVec S16 32) a x).toNat < S3072.size a)
theorem k0_idx480_inb : ∀ (v3451 : IVec S16 32) (k0_hw480 : k0_chk480 v3451), ∀ a x, ((![v3451] : Fin 1 → IVec S16 32) a x).toNat < S3072.size a := fun v3451 k0_hw480 => k0_hw480

def k0_chk481 (v3458 : IVec S16 32) : Prop :=
  (∀ a x, ((![v3458] : Fin 1 → IVec S16 32) a x).toNat < S3072.size a)
theorem k0_idx481_inb : ∀ (v3458 : IVec S16 32) (k0_hw481 : k0_chk481 v3458), ∀ a x, ((![v3458] : Fin 1 → IVec S16 32) a x).toNat < S3072.size a := fun v3458 k0_hw481 => k0_hw481

def k0_chk482 (v3465 : IVec S16 32) : Prop :=
  (∀ a x, ((![v3465] : Fin 1 → IVec S16 32) a x).toNat < S3072.size a)
theorem k0_idx482_inb : ∀ (v3465 : IVec S16 32) (k0_hw482 : k0_chk482 v3465), ∀ a x, ((![v3465] : Fin 1 → IVec S16 32) a x).toNat < S3072.size a := fun v3465 k0_hw482 => k0_hw482

def k0_chk483 (v3472 : IVec S16 32) : Prop :=
  (∀ a x, ((![v3472] : Fin 1 → IVec S16 32) a x).toNat < S3072.size a)
theorem k0_idx483_inb : ∀ (v3472 : IVec S16 32) (k0_hw483 : k0_chk483 v3472), ∀ a x, ((![v3472] : Fin 1 → IVec S16 32) a x).toNat < S3072.size a := fun v3472 k0_hw483 => k0_hw483

def k0_chk484 (v3479 : IVec S16 32) : Prop :=
  (∀ a x, ((![v3479] : Fin 1 → IVec S16 32) a x).toNat < S3072.size a)
theorem k0_idx484_inb : ∀ (v3479 : IVec S16 32) (k0_hw484 : k0_chk484 v3479), ∀ a x, ((![v3479] : Fin 1 → IVec S16 32) a x).toNat < S3072.size a := fun v3479 k0_hw484 => k0_hw484

def k0_chk485 (v3486 : IVec S16 32) : Prop :=
  (∀ a x, ((![v3486] : Fin 1 → IVec S16 32) a x).toNat < S3072.size a)
theorem k0_idx485_inb : ∀ (v3486 : IVec S16 32) (k0_hw485 : k0_chk485 v3486), ∀ a x, ((![v3486] : Fin 1 → IVec S16 32) a x).toNat < S3072.size a := fun v3486 k0_hw485 => k0_hw485

def k0_chk486 (v3493 : IVec S16 32) : Prop :=
  (∀ a x, ((![v3493] : Fin 1 → IVec S16 32) a x).toNat < S3072.size a)
theorem k0_idx486_inb : ∀ (v3493 : IVec S16 32) (k0_hw486 : k0_chk486 v3493), ∀ a x, ((![v3493] : Fin 1 → IVec S16 32) a x).toNat < S3072.size a := fun v3493 k0_hw486 => k0_hw486

def k0_chk487 (v3500 : IVec S16 32) : Prop :=
  (∀ a x, ((![v3500] : Fin 1 → IVec S16 32) a x).toNat < S3072.size a)
theorem k0_idx487_inb : ∀ (v3500 : IVec S16 32) (k0_hw487 : k0_chk487 v3500), ∀ a x, ((![v3500] : Fin 1 → IVec S16 32) a x).toNat < S3072.size a := fun v3500 k0_hw487 => k0_hw487

def k0_chk488 (v3507 : IVec S16 32) : Prop :=
  (∀ a x, ((![v3507] : Fin 1 → IVec S16 32) a x).toNat < S3072.size a)
theorem k0_idx488_inb : ∀ (v3507 : IVec S16 32) (k0_hw488 : k0_chk488 v3507), ∀ a x, ((![v3507] : Fin 1 → IVec S16 32) a x).toNat < S3072.size a := fun v3507 k0_hw488 => k0_hw488

def k0_chk489 (v3514 : IVec S16 32) : Prop :=
  (∀ a x, ((![v3514] : Fin 1 → IVec S16 32) a x).toNat < S3072.size a)
theorem k0_idx489_inb : ∀ (v3514 : IVec S16 32) (k0_hw489 : k0_chk489 v3514), ∀ a x, ((![v3514] : Fin 1 → IVec S16 32) a x).toNat < S3072.size a := fun v3514 k0_hw489 => k0_hw489

def k0_chk490 (v3521 : IVec S16 32) : Prop :=
  (∀ a x, ((![v3521] : Fin 1 → IVec S16 32) a x).toNat < S3072.size a)
theorem k0_idx490_inb : ∀ (v3521 : IVec S16 32) (k0_hw490 : k0_chk490 v3521), ∀ a x, ((![v3521] : Fin 1 → IVec S16 32) a x).toNat < S3072.size a := fun v3521 k0_hw490 => k0_hw490

def k0_chk491 (v3528 : IVec S16 32) : Prop :=
  (∀ a x, ((![v3528] : Fin 1 → IVec S16 32) a x).toNat < S3072.size a)
theorem k0_idx491_inb : ∀ (v3528 : IVec S16 32) (k0_hw491 : k0_chk491 v3528), ∀ a x, ((![v3528] : Fin 1 → IVec S16 32) a x).toNat < S3072.size a := fun v3528 k0_hw491 => k0_hw491

def k0_chk492 (v3535 : IVec S16 32) : Prop :=
  (∀ a x, ((![v3535] : Fin 1 → IVec S16 32) a x).toNat < S3072.size a)
theorem k0_idx492_inb : ∀ (v3535 : IVec S16 32) (k0_hw492 : k0_chk492 v3535), ∀ a x, ((![v3535] : Fin 1 → IVec S16 32) a x).toNat < S3072.size a := fun v3535 k0_hw492 => k0_hw492

def k0_chk493 (v3542 : IVec S16 32) : Prop :=
  (∀ a x, ((![v3542] : Fin 1 → IVec S16 32) a x).toNat < S3072.size a)
theorem k0_idx493_inb : ∀ (v3542 : IVec S16 32) (k0_hw493 : k0_chk493 v3542), ∀ a x, ((![v3542] : Fin 1 → IVec S16 32) a x).toNat < S3072.size a := fun v3542 k0_hw493 => k0_hw493

def k0_chk494 (v3549 : IVec S16 32) : Prop :=
  (∀ a x, ((![v3549] : Fin 1 → IVec S16 32) a x).toNat < S3072.size a)
theorem k0_idx494_inb : ∀ (v3549 : IVec S16 32) (k0_hw494 : k0_chk494 v3549), ∀ a x, ((![v3549] : Fin 1 → IVec S16 32) a x).toNat < S3072.size a := fun v3549 k0_hw494 => k0_hw494

def k0_chk495 (v3556 : IVec S16 32) : Prop :=
  (∀ a x, ((![v3556] : Fin 1 → IVec S16 32) a x).toNat < S3072.size a)
theorem k0_idx495_inb : ∀ (v3556 : IVec S16 32) (k0_hw495 : k0_chk495 v3556), ∀ a x, ((![v3556] : Fin 1 → IVec S16 32) a x).toNat < S3072.size a := fun v3556 k0_hw495 => k0_hw495

def k0_chk496 (v3563 : IVec S16 32) : Prop :=
  (∀ a x, ((![v3563] : Fin 1 → IVec S16 32) a x).toNat < S3072.size a)
theorem k0_idx496_inb : ∀ (v3563 : IVec S16 32) (k0_hw496 : k0_chk496 v3563), ∀ a x, ((![v3563] : Fin 1 → IVec S16 32) a x).toNat < S3072.size a := fun v3563 k0_hw496 => k0_hw496

def k0_chk497 (v3570 : IVec S16 32) : Prop :=
  (∀ a x, ((![v3570] : Fin 1 → IVec S16 32) a x).toNat < S3072.size a)
theorem k0_idx497_inb : ∀ (v3570 : IVec S16 32) (k0_hw497 : k0_chk497 v3570), ∀ a x, ((![v3570] : Fin 1 → IVec S16 32) a x).toNat < S3072.size a := fun v3570 k0_hw497 => k0_hw497

def k0_chk498 (v3577 : IVec S16 32) : Prop :=
  (∀ a x, ((![v3577] : Fin 1 → IVec S16 32) a x).toNat < S3072.size a)
theorem k0_idx498_inb : ∀ (v3577 : IVec S16 32) (k0_hw498 : k0_chk498 v3577), ∀ a x, ((![v3577] : Fin 1 → IVec S16 32) a x).toNat < S3072.size a := fun v3577 k0_hw498 => k0_hw498

def k0_chk499 (v3584 : IVec S16 32) : Prop :=
  (∀ a x, ((![v3584] : Fin 1 → IVec S16 32) a x).toNat < S3072.size a)
theorem k0_idx499_inb : ∀ (v3584 : IVec S16 32) (k0_hw499 : k0_chk499 v3584), ∀ a x, ((![v3584] : Fin 1 → IVec S16 32) a x).toNat < S3072.size a := fun v3584 k0_hw499 => k0_hw499

def k0_chk500 (v3591 : IVec S16 32) : Prop :=
  (∀ a x, ((![v3591] : Fin 1 → IVec S16 32) a x).toNat < S3072.size a)
theorem k0_idx500_inb : ∀ (v3591 : IVec S16 32) (k0_hw500 : k0_chk500 v3591), ∀ a x, ((![v3591] : Fin 1 → IVec S16 32) a x).toNat < S3072.size a := fun v3591 k0_hw500 => k0_hw500
@[reducible] def k0_t21_loop : Scf.Loop 32 :=
  let c0_i32_1590 : BitVec 32 := 0#32
  let c200_i32_1591 : BitVec 32 := 200#32
  let v3597 : BitVec 32 := Scalar.addi c0_i32_1590 c200_i32_1591
  let c1_i32_1592 : BitVec 32 := 1#32
  ⟨c0_i32_1590, v3597, c1_i32_1592⟩

def k0_chk501 (v5745 : IVec S16 32) : Prop :=
  (∀ a x, ((![v5745] : Fin 1 → IVec S16 32) a x).toNat < S25600.size a)
theorem k0_idx501_inb : ∀ (v5745 : IVec S16 32) (k0_hw501 : k0_chk501 v5745), ∀ a x, ((![v5745] : Fin 1 → IVec S16 32) a x).toNat < S25600.size a := fun v5745 k0_hw501 => k0_hw501

def k0_chk502 (v3609 : IVec S16 32) : Prop :=
  (∀ a x, ((![v3609] : Fin 1 → IVec S16 32) a x).toNat < S3072.size a)
theorem k0_idx502_inb : ∀ (v3609 : IVec S16 32) (k0_hw502 : k0_chk502 v3609), ∀ a x, ((![v3609] : Fin 1 → IVec S16 32) a x).toNat < S3072.size a := fun v3609 k0_hw502 => k0_hw502

def k0_chk503 (v3616 : IVec S16 32) : Prop :=
  (∀ a x, ((![v3616] : Fin 1 → IVec S16 32) a x).toNat < S3072.size a)
theorem k0_idx503_inb : ∀ (v3616 : IVec S16 32) (k0_hw503 : k0_chk503 v3616), ∀ a x, ((![v3616] : Fin 1 → IVec S16 32) a x).toNat < S3072.size a := fun v3616 k0_hw503 => k0_hw503

def k0_chk504 (v3623 : IVec S16 32) : Prop :=
  (∀ a x, ((![v3623] : Fin 1 → IVec S16 32) a x).toNat < S3072.size a)
theorem k0_idx504_inb : ∀ (v3623 : IVec S16 32) (k0_hw504 : k0_chk504 v3623), ∀ a x, ((![v3623] : Fin 1 → IVec S16 32) a x).toNat < S3072.size a := fun v3623 k0_hw504 => k0_hw504

def k0_chk505 (v3630 : IVec S16 32) : Prop :=
  (∀ a x, ((![v3630] : Fin 1 → IVec S16 32) a x).toNat < S3072.size a)
theorem k0_idx505_inb : ∀ (v3630 : IVec S16 32) (k0_hw505 : k0_chk505 v3630), ∀ a x, ((![v3630] : Fin 1 → IVec S16 32) a x).toNat < S3072.size a := fun v3630 k0_hw505 => k0_hw505

def k0_chk506 (v3637 : IVec S16 32) : Prop :=
  (∀ a x, ((![v3637] : Fin 1 → IVec S16 32) a x).toNat < S3072.size a)
theorem k0_idx506_inb : ∀ (v3637 : IVec S16 32) (k0_hw506 : k0_chk506 v3637), ∀ a x, ((![v3637] : Fin 1 → IVec S16 32) a x).toNat < S3072.size a := fun v3637 k0_hw506 => k0_hw506

def k0_chk507 (v3644 : IVec S16 32) : Prop :=
  (∀ a x, ((![v3644] : Fin 1 → IVec S16 32) a x).toNat < S3072.size a)
theorem k0_idx507_inb : ∀ (v3644 : IVec S16 32) (k0_hw507 : k0_chk507 v3644), ∀ a x, ((![v3644] : Fin 1 → IVec S16 32) a x).toNat < S3072.size a := fun v3644 k0_hw507 => k0_hw507

def k0_chk508 (v3651 : IVec S16 32) : Prop :=
  (∀ a x, ((![v3651] : Fin 1 → IVec S16 32) a x).toNat < S3072.size a)
theorem k0_idx508_inb : ∀ (v3651 : IVec S16 32) (k0_hw508 : k0_chk508 v3651), ∀ a x, ((![v3651] : Fin 1 → IVec S16 32) a x).toNat < S3072.size a := fun v3651 k0_hw508 => k0_hw508

def k0_chk509 (v3658 : IVec S16 32) : Prop :=
  (∀ a x, ((![v3658] : Fin 1 → IVec S16 32) a x).toNat < S3072.size a)
theorem k0_idx509_inb : ∀ (v3658 : IVec S16 32) (k0_hw509 : k0_chk509 v3658), ∀ a x, ((![v3658] : Fin 1 → IVec S16 32) a x).toNat < S3072.size a := fun v3658 k0_hw509 => k0_hw509

def k0_chk510 (v3665 : IVec S16 32) : Prop :=
  (∀ a x, ((![v3665] : Fin 1 → IVec S16 32) a x).toNat < S3072.size a)
theorem k0_idx510_inb : ∀ (v3665 : IVec S16 32) (k0_hw510 : k0_chk510 v3665), ∀ a x, ((![v3665] : Fin 1 → IVec S16 32) a x).toNat < S3072.size a := fun v3665 k0_hw510 => k0_hw510

def k0_chk511 (v3672 : IVec S16 32) : Prop :=
  (∀ a x, ((![v3672] : Fin 1 → IVec S16 32) a x).toNat < S3072.size a)
theorem k0_idx511_inb : ∀ (v3672 : IVec S16 32) (k0_hw511 : k0_chk511 v3672), ∀ a x, ((![v3672] : Fin 1 → IVec S16 32) a x).toNat < S3072.size a := fun v3672 k0_hw511 => k0_hw511

def k0_chk512 (v3679 : IVec S16 32) : Prop :=
  (∀ a x, ((![v3679] : Fin 1 → IVec S16 32) a x).toNat < S3072.size a)
theorem k0_idx512_inb : ∀ (v3679 : IVec S16 32) (k0_hw512 : k0_chk512 v3679), ∀ a x, ((![v3679] : Fin 1 → IVec S16 32) a x).toNat < S3072.size a := fun v3679 k0_hw512 => k0_hw512

def k0_chk513 (v3686 : IVec S16 32) : Prop :=
  (∀ a x, ((![v3686] : Fin 1 → IVec S16 32) a x).toNat < S3072.size a)
theorem k0_idx513_inb : ∀ (v3686 : IVec S16 32) (k0_hw513 : k0_chk513 v3686), ∀ a x, ((![v3686] : Fin 1 → IVec S16 32) a x).toNat < S3072.size a := fun v3686 k0_hw513 => k0_hw513

def k0_chk514 (v3693 : IVec S16 32) : Prop :=
  (∀ a x, ((![v3693] : Fin 1 → IVec S16 32) a x).toNat < S3072.size a)
theorem k0_idx514_inb : ∀ (v3693 : IVec S16 32) (k0_hw514 : k0_chk514 v3693), ∀ a x, ((![v3693] : Fin 1 → IVec S16 32) a x).toNat < S3072.size a := fun v3693 k0_hw514 => k0_hw514

def k0_chk515 (v3700 : IVec S16 32) : Prop :=
  (∀ a x, ((![v3700] : Fin 1 → IVec S16 32) a x).toNat < S3072.size a)
theorem k0_idx515_inb : ∀ (v3700 : IVec S16 32) (k0_hw515 : k0_chk515 v3700), ∀ a x, ((![v3700] : Fin 1 → IVec S16 32) a x).toNat < S3072.size a := fun v3700 k0_hw515 => k0_hw515

def k0_chk516 (v3707 : IVec S16 32) : Prop :=
  (∀ a x, ((![v3707] : Fin 1 → IVec S16 32) a x).toNat < S3072.size a)
theorem k0_idx516_inb : ∀ (v3707 : IVec S16 32) (k0_hw516 : k0_chk516 v3707), ∀ a x, ((![v3707] : Fin 1 → IVec S16 32) a x).toNat < S3072.size a := fun v3707 k0_hw516 => k0_hw516

def k0_chk517 (v3714 : IVec S16 32) : Prop :=
  (∀ a x, ((![v3714] : Fin 1 → IVec S16 32) a x).toNat < S3072.size a)
theorem k0_idx517_inb : ∀ (v3714 : IVec S16 32) (k0_hw517 : k0_chk517 v3714), ∀ a x, ((![v3714] : Fin 1 → IVec S16 32) a x).toNat < S3072.size a := fun v3714 k0_hw517 => k0_hw517

def k0_chk518 (v3721 : IVec S16 32) : Prop :=
  (∀ a x, ((![v3721] : Fin 1 → IVec S16 32) a x).toNat < S3072.size a)
theorem k0_idx518_inb : ∀ (v3721 : IVec S16 32) (k0_hw518 : k0_chk518 v3721), ∀ a x, ((![v3721] : Fin 1 → IVec S16 32) a x).toNat < S3072.size a := fun v3721 k0_hw518 => k0_hw518

def k0_chk519 (v3728 : IVec S16 32) : Prop :=
  (∀ a x, ((![v3728] : Fin 1 → IVec S16 32) a x).toNat < S3072.size a)
theorem k0_idx519_inb : ∀ (v3728 : IVec S16 32) (k0_hw519 : k0_chk519 v3728), ∀ a x, ((![v3728] : Fin 1 → IVec S16 32) a x).toNat < S3072.size a := fun v3728 k0_hw519 => k0_hw519

def k0_chk520 (v3735 : IVec S16 32) : Prop :=
  (∀ a x, ((![v3735] : Fin 1 → IVec S16 32) a x).toNat < S3072.size a)
theorem k0_idx520_inb : ∀ (v3735 : IVec S16 32) (k0_hw520 : k0_chk520 v3735), ∀ a x, ((![v3735] : Fin 1 → IVec S16 32) a x).toNat < S3072.size a := fun v3735 k0_hw520 => k0_hw520

def k0_chk521 (v3742 : IVec S16 32) : Prop :=
  (∀ a x, ((![v3742] : Fin 1 → IVec S16 32) a x).toNat < S3072.size a)
theorem k0_idx521_inb : ∀ (v3742 : IVec S16 32) (k0_hw521 : k0_chk521 v3742), ∀ a x, ((![v3742] : Fin 1 → IVec S16 32) a x).toNat < S3072.size a := fun v3742 k0_hw521 => k0_hw521

def k0_chk522 (v3749 : IVec S16 32) : Prop :=
  (∀ a x, ((![v3749] : Fin 1 → IVec S16 32) a x).toNat < S3072.size a)
theorem k0_idx522_inb : ∀ (v3749 : IVec S16 32) (k0_hw522 : k0_chk522 v3749), ∀ a x, ((![v3749] : Fin 1 → IVec S16 32) a x).toNat < S3072.size a := fun v3749 k0_hw522 => k0_hw522

def k0_chk523 (v3756 : IVec S16 32) : Prop :=
  (∀ a x, ((![v3756] : Fin 1 → IVec S16 32) a x).toNat < S3072.size a)
theorem k0_idx523_inb : ∀ (v3756 : IVec S16 32) (k0_hw523 : k0_chk523 v3756), ∀ a x, ((![v3756] : Fin 1 → IVec S16 32) a x).toNat < S3072.size a := fun v3756 k0_hw523 => k0_hw523

def k0_chk524 (v3763 : IVec S16 32) : Prop :=
  (∀ a x, ((![v3763] : Fin 1 → IVec S16 32) a x).toNat < S3072.size a)
theorem k0_idx524_inb : ∀ (v3763 : IVec S16 32) (k0_hw524 : k0_chk524 v3763), ∀ a x, ((![v3763] : Fin 1 → IVec S16 32) a x).toNat < S3072.size a := fun v3763 k0_hw524 => k0_hw524

def k0_chk525 (v3770 : IVec S16 32) : Prop :=
  (∀ a x, ((![v3770] : Fin 1 → IVec S16 32) a x).toNat < S3072.size a)
theorem k0_idx525_inb : ∀ (v3770 : IVec S16 32) (k0_hw525 : k0_chk525 v3770), ∀ a x, ((![v3770] : Fin 1 → IVec S16 32) a x).toNat < S3072.size a := fun v3770 k0_hw525 => k0_hw525
@[reducible] def k0_t22_loop : Scf.Loop 32 :=
  let c0_i32_1671 : BitVec 32 := 0#32
  let c200_i32_1672 : BitVec 32 := 200#32
  let v3776 : BitVec 32 := Scalar.addi c0_i32_1671 c200_i32_1672
  let c1_i32_1673 : BitVec 32 := 1#32
  ⟨c0_i32_1671, v3776, c1_i32_1673⟩

def k0_chk526 (v5745 : IVec S16 32) : Prop :=
  (∀ a x, ((![v5745] : Fin 1 → IVec S16 32) a x).toNat < S25600.size a)
theorem k0_idx526_inb : ∀ (v5745 : IVec S16 32) (k0_hw526 : k0_chk526 v5745), ∀ a x, ((![v5745] : Fin 1 → IVec S16 32) a x).toNat < S25600.size a := fun v5745 k0_hw526 => k0_hw526

def k0_chk527 (v3788 : IVec S16 32) : Prop :=
  (∀ a x, ((![v3788] : Fin 1 → IVec S16 32) a x).toNat < S3072.size a)
theorem k0_idx527_inb : ∀ (v3788 : IVec S16 32) (k0_hw527 : k0_chk527 v3788), ∀ a x, ((![v3788] : Fin 1 → IVec S16 32) a x).toNat < S3072.size a := fun v3788 k0_hw527 => k0_hw527

def k0_chk528 (v3795 : IVec S16 32) : Prop :=
  (∀ a x, ((![v3795] : Fin 1 → IVec S16 32) a x).toNat < S3072.size a)
theorem k0_idx528_inb : ∀ (v3795 : IVec S16 32) (k0_hw528 : k0_chk528 v3795), ∀ a x, ((![v3795] : Fin 1 → IVec S16 32) a x).toNat < S3072.size a := fun v3795 k0_hw528 => k0_hw528

def k0_chk529 (v3802 : IVec S16 32) : Prop :=
  (∀ a x, ((![v3802] : Fin 1 → IVec S16 32) a x).toNat < S3072.size a)
theorem k0_idx529_inb : ∀ (v3802 : IVec S16 32) (k0_hw529 : k0_chk529 v3802), ∀ a x, ((![v3802] : Fin 1 → IVec S16 32) a x).toNat < S3072.size a := fun v3802 k0_hw529 => k0_hw529

def k0_chk530 (v3809 : IVec S16 32) : Prop :=
  (∀ a x, ((![v3809] : Fin 1 → IVec S16 32) a x).toNat < S3072.size a)
theorem k0_idx530_inb : ∀ (v3809 : IVec S16 32) (k0_hw530 : k0_chk530 v3809), ∀ a x, ((![v3809] : Fin 1 → IVec S16 32) a x).toNat < S3072.size a := fun v3809 k0_hw530 => k0_hw530

def k0_chk531 (v3816 : IVec S16 32) : Prop :=
  (∀ a x, ((![v3816] : Fin 1 → IVec S16 32) a x).toNat < S3072.size a)
theorem k0_idx531_inb : ∀ (v3816 : IVec S16 32) (k0_hw531 : k0_chk531 v3816), ∀ a x, ((![v3816] : Fin 1 → IVec S16 32) a x).toNat < S3072.size a := fun v3816 k0_hw531 => k0_hw531

def k0_chk532 (v3823 : IVec S16 32) : Prop :=
  (∀ a x, ((![v3823] : Fin 1 → IVec S16 32) a x).toNat < S3072.size a)
theorem k0_idx532_inb : ∀ (v3823 : IVec S16 32) (k0_hw532 : k0_chk532 v3823), ∀ a x, ((![v3823] : Fin 1 → IVec S16 32) a x).toNat < S3072.size a := fun v3823 k0_hw532 => k0_hw532

def k0_chk533 (v3830 : IVec S16 32) : Prop :=
  (∀ a x, ((![v3830] : Fin 1 → IVec S16 32) a x).toNat < S3072.size a)
theorem k0_idx533_inb : ∀ (v3830 : IVec S16 32) (k0_hw533 : k0_chk533 v3830), ∀ a x, ((![v3830] : Fin 1 → IVec S16 32) a x).toNat < S3072.size a := fun v3830 k0_hw533 => k0_hw533

def k0_chk534 (v3837 : IVec S16 32) : Prop :=
  (∀ a x, ((![v3837] : Fin 1 → IVec S16 32) a x).toNat < S3072.size a)
theorem k0_idx534_inb : ∀ (v3837 : IVec S16 32) (k0_hw534 : k0_chk534 v3837), ∀ a x, ((![v3837] : Fin 1 → IVec S16 32) a x).toNat < S3072.size a := fun v3837 k0_hw534 => k0_hw534

def k0_chk535 (v3844 : IVec S16 32) : Prop :=
  (∀ a x, ((![v3844] : Fin 1 → IVec S16 32) a x).toNat < S3072.size a)
theorem k0_idx535_inb : ∀ (v3844 : IVec S16 32) (k0_hw535 : k0_chk535 v3844), ∀ a x, ((![v3844] : Fin 1 → IVec S16 32) a x).toNat < S3072.size a := fun v3844 k0_hw535 => k0_hw535

def k0_chk536 (v3851 : IVec S16 32) : Prop :=
  (∀ a x, ((![v3851] : Fin 1 → IVec S16 32) a x).toNat < S3072.size a)
theorem k0_idx536_inb : ∀ (v3851 : IVec S16 32) (k0_hw536 : k0_chk536 v3851), ∀ a x, ((![v3851] : Fin 1 → IVec S16 32) a x).toNat < S3072.size a := fun v3851 k0_hw536 => k0_hw536

def k0_chk537 (v3858 : IVec S16 32) : Prop :=
  (∀ a x, ((![v3858] : Fin 1 → IVec S16 32) a x).toNat < S3072.size a)
theorem k0_idx537_inb : ∀ (v3858 : IVec S16 32) (k0_hw537 : k0_chk537 v3858), ∀ a x, ((![v3858] : Fin 1 → IVec S16 32) a x).toNat < S3072.size a := fun v3858 k0_hw537 => k0_hw537

def k0_chk538 (v3865 : IVec S16 32) : Prop :=
  (∀ a x, ((![v3865] : Fin 1 → IVec S16 32) a x).toNat < S3072.size a)
theorem k0_idx538_inb : ∀ (v3865 : IVec S16 32) (k0_hw538 : k0_chk538 v3865), ∀ a x, ((![v3865] : Fin 1 → IVec S16 32) a x).toNat < S3072.size a := fun v3865 k0_hw538 => k0_hw538

def k0_chk539 (v3872 : IVec S16 32) : Prop :=
  (∀ a x, ((![v3872] : Fin 1 → IVec S16 32) a x).toNat < S3072.size a)
theorem k0_idx539_inb : ∀ (v3872 : IVec S16 32) (k0_hw539 : k0_chk539 v3872), ∀ a x, ((![v3872] : Fin 1 → IVec S16 32) a x).toNat < S3072.size a := fun v3872 k0_hw539 => k0_hw539

def k0_chk540 (v3879 : IVec S16 32) : Prop :=
  (∀ a x, ((![v3879] : Fin 1 → IVec S16 32) a x).toNat < S3072.size a)
theorem k0_idx540_inb : ∀ (v3879 : IVec S16 32) (k0_hw540 : k0_chk540 v3879), ∀ a x, ((![v3879] : Fin 1 → IVec S16 32) a x).toNat < S3072.size a := fun v3879 k0_hw540 => k0_hw540

def k0_chk541 (v3886 : IVec S16 32) : Prop :=
  (∀ a x, ((![v3886] : Fin 1 → IVec S16 32) a x).toNat < S3072.size a)
theorem k0_idx541_inb : ∀ (v3886 : IVec S16 32) (k0_hw541 : k0_chk541 v3886), ∀ a x, ((![v3886] : Fin 1 → IVec S16 32) a x).toNat < S3072.size a := fun v3886 k0_hw541 => k0_hw541

def k0_chk542 (v3893 : IVec S16 32) : Prop :=
  (∀ a x, ((![v3893] : Fin 1 → IVec S16 32) a x).toNat < S3072.size a)
theorem k0_idx542_inb : ∀ (v3893 : IVec S16 32) (k0_hw542 : k0_chk542 v3893), ∀ a x, ((![v3893] : Fin 1 → IVec S16 32) a x).toNat < S3072.size a := fun v3893 k0_hw542 => k0_hw542

def k0_chk543 (v3900 : IVec S16 32) : Prop :=
  (∀ a x, ((![v3900] : Fin 1 → IVec S16 32) a x).toNat < S3072.size a)
theorem k0_idx543_inb : ∀ (v3900 : IVec S16 32) (k0_hw543 : k0_chk543 v3900), ∀ a x, ((![v3900] : Fin 1 → IVec S16 32) a x).toNat < S3072.size a := fun v3900 k0_hw543 => k0_hw543

def k0_chk544 (v3907 : IVec S16 32) : Prop :=
  (∀ a x, ((![v3907] : Fin 1 → IVec S16 32) a x).toNat < S3072.size a)
theorem k0_idx544_inb : ∀ (v3907 : IVec S16 32) (k0_hw544 : k0_chk544 v3907), ∀ a x, ((![v3907] : Fin 1 → IVec S16 32) a x).toNat < S3072.size a := fun v3907 k0_hw544 => k0_hw544

def k0_chk545 (v3914 : IVec S16 32) : Prop :=
  (∀ a x, ((![v3914] : Fin 1 → IVec S16 32) a x).toNat < S3072.size a)
theorem k0_idx545_inb : ∀ (v3914 : IVec S16 32) (k0_hw545 : k0_chk545 v3914), ∀ a x, ((![v3914] : Fin 1 → IVec S16 32) a x).toNat < S3072.size a := fun v3914 k0_hw545 => k0_hw545

def k0_chk546 (v3921 : IVec S16 32) : Prop :=
  (∀ a x, ((![v3921] : Fin 1 → IVec S16 32) a x).toNat < S3072.size a)
theorem k0_idx546_inb : ∀ (v3921 : IVec S16 32) (k0_hw546 : k0_chk546 v3921), ∀ a x, ((![v3921] : Fin 1 → IVec S16 32) a x).toNat < S3072.size a := fun v3921 k0_hw546 => k0_hw546

def k0_chk547 (v3928 : IVec S16 32) : Prop :=
  (∀ a x, ((![v3928] : Fin 1 → IVec S16 32) a x).toNat < S3072.size a)
theorem k0_idx547_inb : ∀ (v3928 : IVec S16 32) (k0_hw547 : k0_chk547 v3928), ∀ a x, ((![v3928] : Fin 1 → IVec S16 32) a x).toNat < S3072.size a := fun v3928 k0_hw547 => k0_hw547

def k0_chk548 (v3935 : IVec S16 32) : Prop :=
  (∀ a x, ((![v3935] : Fin 1 → IVec S16 32) a x).toNat < S3072.size a)
theorem k0_idx548_inb : ∀ (v3935 : IVec S16 32) (k0_hw548 : k0_chk548 v3935), ∀ a x, ((![v3935] : Fin 1 → IVec S16 32) a x).toNat < S3072.size a := fun v3935 k0_hw548 => k0_hw548

def k0_chk549 (v3942 : IVec S16 32) : Prop :=
  (∀ a x, ((![v3942] : Fin 1 → IVec S16 32) a x).toNat < S3072.size a)
theorem k0_idx549_inb : ∀ (v3942 : IVec S16 32) (k0_hw549 : k0_chk549 v3942), ∀ a x, ((![v3942] : Fin 1 → IVec S16 32) a x).toNat < S3072.size a := fun v3942 k0_hw549 => k0_hw549

def k0_chk550 (v3949 : IVec S16 32) : Prop :=
  (∀ a x, ((![v3949] : Fin 1 → IVec S16 32) a x).toNat < S3072.size a)
theorem k0_idx550_inb : ∀ (v3949 : IVec S16 32) (k0_hw550 : k0_chk550 v3949), ∀ a x, ((![v3949] : Fin 1 → IVec S16 32) a x).toNat < S3072.size a := fun v3949 k0_hw550 => k0_hw550
@[reducible] def k0_t23_loop : Scf.Loop 32 :=
  let c0_i32_1752 : BitVec 32 := 0#32
  let c200_i32_1753 : BitVec 32 := 200#32
  let v3955 : BitVec 32 := Scalar.addi c0_i32_1752 c200_i32_1753
  let c1_i32_1754 : BitVec 32 := 1#32
  ⟨c0_i32_1752, v3955, c1_i32_1754⟩

def k0_chk551 (v5745 : IVec S16 32) : Prop :=
  (∀ a x, ((![v5745] : Fin 1 → IVec S16 32) a x).toNat < S25600.size a)
theorem k0_idx551_inb : ∀ (v5745 : IVec S16 32) (k0_hw551 : k0_chk551 v5745), ∀ a x, ((![v5745] : Fin 1 → IVec S16 32) a x).toNat < S25600.size a := fun v5745 k0_hw551 => k0_hw551

def k0_chk552 (v3967 : IVec S16 32) : Prop :=
  (∀ a x, ((![v3967] : Fin 1 → IVec S16 32) a x).toNat < S3072.size a)
theorem k0_idx552_inb : ∀ (v3967 : IVec S16 32) (k0_hw552 : k0_chk552 v3967), ∀ a x, ((![v3967] : Fin 1 → IVec S16 32) a x).toNat < S3072.size a := fun v3967 k0_hw552 => k0_hw552

def k0_chk553 (v3974 : IVec S16 32) : Prop :=
  (∀ a x, ((![v3974] : Fin 1 → IVec S16 32) a x).toNat < S3072.size a)
theorem k0_idx553_inb : ∀ (v3974 : IVec S16 32) (k0_hw553 : k0_chk553 v3974), ∀ a x, ((![v3974] : Fin 1 → IVec S16 32) a x).toNat < S3072.size a := fun v3974 k0_hw553 => k0_hw553

def k0_chk554 (v3981 : IVec S16 32) : Prop :=
  (∀ a x, ((![v3981] : Fin 1 → IVec S16 32) a x).toNat < S3072.size a)
theorem k0_idx554_inb : ∀ (v3981 : IVec S16 32) (k0_hw554 : k0_chk554 v3981), ∀ a x, ((![v3981] : Fin 1 → IVec S16 32) a x).toNat < S3072.size a := fun v3981 k0_hw554 => k0_hw554

def k0_chk555 (v3988 : IVec S16 32) : Prop :=
  (∀ a x, ((![v3988] : Fin 1 → IVec S16 32) a x).toNat < S3072.size a)
theorem k0_idx555_inb : ∀ (v3988 : IVec S16 32) (k0_hw555 : k0_chk555 v3988), ∀ a x, ((![v3988] : Fin 1 → IVec S16 32) a x).toNat < S3072.size a := fun v3988 k0_hw555 => k0_hw555

def k0_chk556 (v3995 : IVec S16 32) : Prop :=
  (∀ a x, ((![v3995] : Fin 1 → IVec S16 32) a x).toNat < S3072.size a)
theorem k0_idx556_inb : ∀ (v3995 : IVec S16 32) (k0_hw556 : k0_chk556 v3995), ∀ a x, ((![v3995] : Fin 1 → IVec S16 32) a x).toNat < S3072.size a := fun v3995 k0_hw556 => k0_hw556

def k0_chk557 (v4002 : IVec S16 32) : Prop :=
  (∀ a x, ((![v4002] : Fin 1 → IVec S16 32) a x).toNat < S3072.size a)
theorem k0_idx557_inb : ∀ (v4002 : IVec S16 32) (k0_hw557 : k0_chk557 v4002), ∀ a x, ((![v4002] : Fin 1 → IVec S16 32) a x).toNat < S3072.size a := fun v4002 k0_hw557 => k0_hw557

def k0_chk558 (v4009 : IVec S16 32) : Prop :=
  (∀ a x, ((![v4009] : Fin 1 → IVec S16 32) a x).toNat < S3072.size a)
theorem k0_idx558_inb : ∀ (v4009 : IVec S16 32) (k0_hw558 : k0_chk558 v4009), ∀ a x, ((![v4009] : Fin 1 → IVec S16 32) a x).toNat < S3072.size a := fun v4009 k0_hw558 => k0_hw558

def k0_chk559 (v4016 : IVec S16 32) : Prop :=
  (∀ a x, ((![v4016] : Fin 1 → IVec S16 32) a x).toNat < S3072.size a)
theorem k0_idx559_inb : ∀ (v4016 : IVec S16 32) (k0_hw559 : k0_chk559 v4016), ∀ a x, ((![v4016] : Fin 1 → IVec S16 32) a x).toNat < S3072.size a := fun v4016 k0_hw559 => k0_hw559

def k0_chk560 (v4023 : IVec S16 32) : Prop :=
  (∀ a x, ((![v4023] : Fin 1 → IVec S16 32) a x).toNat < S3072.size a)
theorem k0_idx560_inb : ∀ (v4023 : IVec S16 32) (k0_hw560 : k0_chk560 v4023), ∀ a x, ((![v4023] : Fin 1 → IVec S16 32) a x).toNat < S3072.size a := fun v4023 k0_hw560 => k0_hw560

def k0_chk561 (v4030 : IVec S16 32) : Prop :=
  (∀ a x, ((![v4030] : Fin 1 → IVec S16 32) a x).toNat < S3072.size a)
theorem k0_idx561_inb : ∀ (v4030 : IVec S16 32) (k0_hw561 : k0_chk561 v4030), ∀ a x, ((![v4030] : Fin 1 → IVec S16 32) a x).toNat < S3072.size a := fun v4030 k0_hw561 => k0_hw561

def k0_chk562 (v4037 : IVec S16 32) : Prop :=
  (∀ a x, ((![v4037] : Fin 1 → IVec S16 32) a x).toNat < S3072.size a)
theorem k0_idx562_inb : ∀ (v4037 : IVec S16 32) (k0_hw562 : k0_chk562 v4037), ∀ a x, ((![v4037] : Fin 1 → IVec S16 32) a x).toNat < S3072.size a := fun v4037 k0_hw562 => k0_hw562

def k0_chk563 (v4044 : IVec S16 32) : Prop :=
  (∀ a x, ((![v4044] : Fin 1 → IVec S16 32) a x).toNat < S3072.size a)
theorem k0_idx563_inb : ∀ (v4044 : IVec S16 32) (k0_hw563 : k0_chk563 v4044), ∀ a x, ((![v4044] : Fin 1 → IVec S16 32) a x).toNat < S3072.size a := fun v4044 k0_hw563 => k0_hw563

def k0_chk564 (v4051 : IVec S16 32) : Prop :=
  (∀ a x, ((![v4051] : Fin 1 → IVec S16 32) a x).toNat < S3072.size a)
theorem k0_idx564_inb : ∀ (v4051 : IVec S16 32) (k0_hw564 : k0_chk564 v4051), ∀ a x, ((![v4051] : Fin 1 → IVec S16 32) a x).toNat < S3072.size a := fun v4051 k0_hw564 => k0_hw564

def k0_chk565 (v4058 : IVec S16 32) : Prop :=
  (∀ a x, ((![v4058] : Fin 1 → IVec S16 32) a x).toNat < S3072.size a)
theorem k0_idx565_inb : ∀ (v4058 : IVec S16 32) (k0_hw565 : k0_chk565 v4058), ∀ a x, ((![v4058] : Fin 1 → IVec S16 32) a x).toNat < S3072.size a := fun v4058 k0_hw565 => k0_hw565

def k0_chk566 (v4065 : IVec S16 32) : Prop :=
  (∀ a x, ((![v4065] : Fin 1 → IVec S16 32) a x).toNat < S3072.size a)
theorem k0_idx566_inb : ∀ (v4065 : IVec S16 32) (k0_hw566 : k0_chk566 v4065), ∀ a x, ((![v4065] : Fin 1 → IVec S16 32) a x).toNat < S3072.size a := fun v4065 k0_hw566 => k0_hw566

def k0_chk567 (v4072 : IVec S16 32) : Prop :=
  (∀ a x, ((![v4072] : Fin 1 → IVec S16 32) a x).toNat < S3072.size a)
theorem k0_idx567_inb : ∀ (v4072 : IVec S16 32) (k0_hw567 : k0_chk567 v4072), ∀ a x, ((![v4072] : Fin 1 → IVec S16 32) a x).toNat < S3072.size a := fun v4072 k0_hw567 => k0_hw567

def k0_chk568 (v4079 : IVec S16 32) : Prop :=
  (∀ a x, ((![v4079] : Fin 1 → IVec S16 32) a x).toNat < S3072.size a)
theorem k0_idx568_inb : ∀ (v4079 : IVec S16 32) (k0_hw568 : k0_chk568 v4079), ∀ a x, ((![v4079] : Fin 1 → IVec S16 32) a x).toNat < S3072.size a := fun v4079 k0_hw568 => k0_hw568

def k0_chk569 (v4086 : IVec S16 32) : Prop :=
  (∀ a x, ((![v4086] : Fin 1 → IVec S16 32) a x).toNat < S3072.size a)
theorem k0_idx569_inb : ∀ (v4086 : IVec S16 32) (k0_hw569 : k0_chk569 v4086), ∀ a x, ((![v4086] : Fin 1 → IVec S16 32) a x).toNat < S3072.size a := fun v4086 k0_hw569 => k0_hw569

def k0_chk570 (v4093 : IVec S16 32) : Prop :=
  (∀ a x, ((![v4093] : Fin 1 → IVec S16 32) a x).toNat < S3072.size a)
theorem k0_idx570_inb : ∀ (v4093 : IVec S16 32) (k0_hw570 : k0_chk570 v4093), ∀ a x, ((![v4093] : Fin 1 → IVec S16 32) a x).toNat < S3072.size a := fun v4093 k0_hw570 => k0_hw570

def k0_chk571 (v4100 : IVec S16 32) : Prop :=
  (∀ a x, ((![v4100] : Fin 1 → IVec S16 32) a x).toNat < S3072.size a)
theorem k0_idx571_inb : ∀ (v4100 : IVec S16 32) (k0_hw571 : k0_chk571 v4100), ∀ a x, ((![v4100] : Fin 1 → IVec S16 32) a x).toNat < S3072.size a := fun v4100 k0_hw571 => k0_hw571

def k0_chk572 (v4107 : IVec S16 32) : Prop :=
  (∀ a x, ((![v4107] : Fin 1 → IVec S16 32) a x).toNat < S3072.size a)
theorem k0_idx572_inb : ∀ (v4107 : IVec S16 32) (k0_hw572 : k0_chk572 v4107), ∀ a x, ((![v4107] : Fin 1 → IVec S16 32) a x).toNat < S3072.size a := fun v4107 k0_hw572 => k0_hw572

def k0_chk573 (v4114 : IVec S16 32) : Prop :=
  (∀ a x, ((![v4114] : Fin 1 → IVec S16 32) a x).toNat < S3072.size a)
theorem k0_idx573_inb : ∀ (v4114 : IVec S16 32) (k0_hw573 : k0_chk573 v4114), ∀ a x, ((![v4114] : Fin 1 → IVec S16 32) a x).toNat < S3072.size a := fun v4114 k0_hw573 => k0_hw573

def k0_chk574 (v4121 : IVec S16 32) : Prop :=
  (∀ a x, ((![v4121] : Fin 1 → IVec S16 32) a x).toNat < S3072.size a)
theorem k0_idx574_inb : ∀ (v4121 : IVec S16 32) (k0_hw574 : k0_chk574 v4121), ∀ a x, ((![v4121] : Fin 1 → IVec S16 32) a x).toNat < S3072.size a := fun v4121 k0_hw574 => k0_hw574

def k0_chk575 (v4128 : IVec S16 32) : Prop :=
  (∀ a x, ((![v4128] : Fin 1 → IVec S16 32) a x).toNat < S3072.size a)
theorem k0_idx575_inb : ∀ (v4128 : IVec S16 32) (k0_hw575 : k0_chk575 v4128), ∀ a x, ((![v4128] : Fin 1 → IVec S16 32) a x).toNat < S3072.size a := fun v4128 k0_hw575 => k0_hw575
@[reducible] def k0_t24_loop : Scf.Loop 32 :=
  let c0_i32_1833 : BitVec 32 := 0#32
  let c200_i32_1834 : BitVec 32 := 200#32
  let v4134 : BitVec 32 := Scalar.addi c0_i32_1833 c200_i32_1834
  let c1_i32_1835 : BitVec 32 := 1#32
  ⟨c0_i32_1833, v4134, c1_i32_1835⟩

def k0_chk576 (v5745 : IVec S16 32) : Prop :=
  (∀ a x, ((![v5745] : Fin 1 → IVec S16 32) a x).toNat < S25600.size a)
theorem k0_idx576_inb : ∀ (v5745 : IVec S16 32) (k0_hw576 : k0_chk576 v5745), ∀ a x, ((![v5745] : Fin 1 → IVec S16 32) a x).toNat < S25600.size a := fun v5745 k0_hw576 => k0_hw576

def k0_chk577 (v4146 : IVec S16 32) : Prop :=
  (∀ a x, ((![v4146] : Fin 1 → IVec S16 32) a x).toNat < S3072.size a)
theorem k0_idx577_inb : ∀ (v4146 : IVec S16 32) (k0_hw577 : k0_chk577 v4146), ∀ a x, ((![v4146] : Fin 1 → IVec S16 32) a x).toNat < S3072.size a := fun v4146 k0_hw577 => k0_hw577

def k0_chk578 (v4153 : IVec S16 32) : Prop :=
  (∀ a x, ((![v4153] : Fin 1 → IVec S16 32) a x).toNat < S3072.size a)
theorem k0_idx578_inb : ∀ (v4153 : IVec S16 32) (k0_hw578 : k0_chk578 v4153), ∀ a x, ((![v4153] : Fin 1 → IVec S16 32) a x).toNat < S3072.size a := fun v4153 k0_hw578 => k0_hw578

def k0_chk579 (v4160 : IVec S16 32) : Prop :=
  (∀ a x, ((![v4160] : Fin 1 → IVec S16 32) a x).toNat < S3072.size a)
theorem k0_idx579_inb : ∀ (v4160 : IVec S16 32) (k0_hw579 : k0_chk579 v4160), ∀ a x, ((![v4160] : Fin 1 → IVec S16 32) a x).toNat < S3072.size a := fun v4160 k0_hw579 => k0_hw579

def k0_chk580 (v4167 : IVec S16 32) : Prop :=
  (∀ a x, ((![v4167] : Fin 1 → IVec S16 32) a x).toNat < S3072.size a)
theorem k0_idx580_inb : ∀ (v4167 : IVec S16 32) (k0_hw580 : k0_chk580 v4167), ∀ a x, ((![v4167] : Fin 1 → IVec S16 32) a x).toNat < S3072.size a := fun v4167 k0_hw580 => k0_hw580

def k0_chk581 (v4174 : IVec S16 32) : Prop :=
  (∀ a x, ((![v4174] : Fin 1 → IVec S16 32) a x).toNat < S3072.size a)
theorem k0_idx581_inb : ∀ (v4174 : IVec S16 32) (k0_hw581 : k0_chk581 v4174), ∀ a x, ((![v4174] : Fin 1 → IVec S16 32) a x).toNat < S3072.size a := fun v4174 k0_hw581 => k0_hw581

def k0_chk582 (v4181 : IVec S16 32) : Prop :=
  (∀ a x, ((![v4181] : Fin 1 → IVec S16 32) a x).toNat < S3072.size a)
theorem k0_idx582_inb : ∀ (v4181 : IVec S16 32) (k0_hw582 : k0_chk582 v4181), ∀ a x, ((![v4181] : Fin 1 → IVec S16 32) a x).toNat < S3072.size a := fun v4181 k0_hw582 => k0_hw582

def k0_chk583 (v4188 : IVec S16 32) : Prop :=
  (∀ a x, ((![v4188] : Fin 1 → IVec S16 32) a x).toNat < S3072.size a)
theorem k0_idx583_inb : ∀ (v4188 : IVec S16 32) (k0_hw583 : k0_chk583 v4188), ∀ a x, ((![v4188] : Fin 1 → IVec S16 32) a x).toNat < S3072.size a := fun v4188 k0_hw583 => k0_hw583

def k0_chk584 (v4195 : IVec S16 32) : Prop :=
  (∀ a x, ((![v4195] : Fin 1 → IVec S16 32) a x).toNat < S3072.size a)
theorem k0_idx584_inb : ∀ (v4195 : IVec S16 32) (k0_hw584 : k0_chk584 v4195), ∀ a x, ((![v4195] : Fin 1 → IVec S16 32) a x).toNat < S3072.size a := fun v4195 k0_hw584 => k0_hw584

def k0_chk585 (v4202 : IVec S16 32) : Prop :=
  (∀ a x, ((![v4202] : Fin 1 → IVec S16 32) a x).toNat < S3072.size a)
theorem k0_idx585_inb : ∀ (v4202 : IVec S16 32) (k0_hw585 : k0_chk585 v4202), ∀ a x, ((![v4202] : Fin 1 → IVec S16 32) a x).toNat < S3072.size a := fun v4202 k0_hw585 => k0_hw585

def k0_chk586 (v4209 : IVec S16 32) : Prop :=
  (∀ a x, ((![v4209] : Fin 1 → IVec S16 32) a x).toNat < S3072.size a)
theorem k0_idx586_inb : ∀ (v4209 : IVec S16 32) (k0_hw586 : k0_chk586 v4209), ∀ a x, ((![v4209] : Fin 1 → IVec S16 32) a x).toNat < S3072.size a := fun v4209 k0_hw586 => k0_hw586

def k0_chk587 (v4216 : IVec S16 32) : Prop :=
  (∀ a x, ((![v4216] : Fin 1 → IVec S16 32) a x).toNat < S3072.size a)
theorem k0_idx587_inb : ∀ (v4216 : IVec S16 32) (k0_hw587 : k0_chk587 v4216), ∀ a x, ((![v4216] : Fin 1 → IVec S16 32) a x).toNat < S3072.size a := fun v4216 k0_hw587 => k0_hw587

def k0_chk588 (v4223 : IVec S16 32) : Prop :=
  (∀ a x, ((![v4223] : Fin 1 → IVec S16 32) a x).toNat < S3072.size a)
theorem k0_idx588_inb : ∀ (v4223 : IVec S16 32) (k0_hw588 : k0_chk588 v4223), ∀ a x, ((![v4223] : Fin 1 → IVec S16 32) a x).toNat < S3072.size a := fun v4223 k0_hw588 => k0_hw588

def k0_chk589 (v4230 : IVec S16 32) : Prop :=
  (∀ a x, ((![v4230] : Fin 1 → IVec S16 32) a x).toNat < S3072.size a)
theorem k0_idx589_inb : ∀ (v4230 : IVec S16 32) (k0_hw589 : k0_chk589 v4230), ∀ a x, ((![v4230] : Fin 1 → IVec S16 32) a x).toNat < S3072.size a := fun v4230 k0_hw589 => k0_hw589

def k0_chk590 (v4237 : IVec S16 32) : Prop :=
  (∀ a x, ((![v4237] : Fin 1 → IVec S16 32) a x).toNat < S3072.size a)
theorem k0_idx590_inb : ∀ (v4237 : IVec S16 32) (k0_hw590 : k0_chk590 v4237), ∀ a x, ((![v4237] : Fin 1 → IVec S16 32) a x).toNat < S3072.size a := fun v4237 k0_hw590 => k0_hw590

def k0_chk591 (v4244 : IVec S16 32) : Prop :=
  (∀ a x, ((![v4244] : Fin 1 → IVec S16 32) a x).toNat < S3072.size a)
theorem k0_idx591_inb : ∀ (v4244 : IVec S16 32) (k0_hw591 : k0_chk591 v4244), ∀ a x, ((![v4244] : Fin 1 → IVec S16 32) a x).toNat < S3072.size a := fun v4244 k0_hw591 => k0_hw591

def k0_chk592 (v4251 : IVec S16 32) : Prop :=
  (∀ a x, ((![v4251] : Fin 1 → IVec S16 32) a x).toNat < S3072.size a)
theorem k0_idx592_inb : ∀ (v4251 : IVec S16 32) (k0_hw592 : k0_chk592 v4251), ∀ a x, ((![v4251] : Fin 1 → IVec S16 32) a x).toNat < S3072.size a := fun v4251 k0_hw592 => k0_hw592

def k0_chk593 (v4258 : IVec S16 32) : Prop :=
  (∀ a x, ((![v4258] : Fin 1 → IVec S16 32) a x).toNat < S3072.size a)
theorem k0_idx593_inb : ∀ (v4258 : IVec S16 32) (k0_hw593 : k0_chk593 v4258), ∀ a x, ((![v4258] : Fin 1 → IVec S16 32) a x).toNat < S3072.size a := fun v4258 k0_hw593 => k0_hw593

def k0_chk594 (v4265 : IVec S16 32) : Prop :=
  (∀ a x, ((![v4265] : Fin 1 → IVec S16 32) a x).toNat < S3072.size a)
theorem k0_idx594_inb : ∀ (v4265 : IVec S16 32) (k0_hw594 : k0_chk594 v4265), ∀ a x, ((![v4265] : Fin 1 → IVec S16 32) a x).toNat < S3072.size a := fun v4265 k0_hw594 => k0_hw594

def k0_chk595 (v4272 : IVec S16 32) : Prop :=
  (∀ a x, ((![v4272] : Fin 1 → IVec S16 32) a x).toNat < S3072.size a)
theorem k0_idx595_inb : ∀ (v4272 : IVec S16 32) (k0_hw595 : k0_chk595 v4272), ∀ a x, ((![v4272] : Fin 1 → IVec S16 32) a x).toNat < S3072.size a := fun v4272 k0_hw595 => k0_hw595

def k0_chk596 (v4279 : IVec S16 32) : Prop :=
  (∀ a x, ((![v4279] : Fin 1 → IVec S16 32) a x).toNat < S3072.size a)
theorem k0_idx596_inb : ∀ (v4279 : IVec S16 32) (k0_hw596 : k0_chk596 v4279), ∀ a x, ((![v4279] : Fin 1 → IVec S16 32) a x).toNat < S3072.size a := fun v4279 k0_hw596 => k0_hw596

def k0_chk597 (v4286 : IVec S16 32) : Prop :=
  (∀ a x, ((![v4286] : Fin 1 → IVec S16 32) a x).toNat < S3072.size a)
theorem k0_idx597_inb : ∀ (v4286 : IVec S16 32) (k0_hw597 : k0_chk597 v4286), ∀ a x, ((![v4286] : Fin 1 → IVec S16 32) a x).toNat < S3072.size a := fun v4286 k0_hw597 => k0_hw597

def k0_chk598 (v4293 : IVec S16 32) : Prop :=
  (∀ a x, ((![v4293] : Fin 1 → IVec S16 32) a x).toNat < S3072.size a)
theorem k0_idx598_inb : ∀ (v4293 : IVec S16 32) (k0_hw598 : k0_chk598 v4293), ∀ a x, ((![v4293] : Fin 1 → IVec S16 32) a x).toNat < S3072.size a := fun v4293 k0_hw598 => k0_hw598

def k0_chk599 (v4300 : IVec S16 32) : Prop :=
  (∀ a x, ((![v4300] : Fin 1 → IVec S16 32) a x).toNat < S3072.size a)
theorem k0_idx599_inb : ∀ (v4300 : IVec S16 32) (k0_hw599 : k0_chk599 v4300), ∀ a x, ((![v4300] : Fin 1 → IVec S16 32) a x).toNat < S3072.size a := fun v4300 k0_hw599 => k0_hw599

def k0_chk600 (v4307 : IVec S16 32) : Prop :=
  (∀ a x, ((![v4307] : Fin 1 → IVec S16 32) a x).toNat < S3072.size a)
theorem k0_idx600_inb : ∀ (v4307 : IVec S16 32) (k0_hw600 : k0_chk600 v4307), ∀ a x, ((![v4307] : Fin 1 → IVec S16 32) a x).toNat < S3072.size a := fun v4307 k0_hw600 => k0_hw600
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c256_i32 : BitVec 32 := 256#32
  let v2874 : BitVec 32 := Scalar.addi v3 c256_i32
  let c24_i32_1911 : BitVec 32 := 24#32
  let v4308 : BitVec 32 := Scalar.muli v2874 c24_i32_1911
  ![v4308.toNat]
def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c384_i32_1912 : BitVec 32 := 384#32
  let v4309 : BitVec 32 := Scalar.addi v3 c384_i32_1912
  let c200_i32_1913 : BitVec 32 := 200#32
  let v4310 : BitVec 32 := Scalar.muli v4309 c200_i32_1913
  ![v4310.toNat]
@[reducible] def k0_t25_loop : Scf.Loop 32 :=
  let c0_i32_1917 : BitVec 32 := 0#32
  let c200_i32_1918 : BitVec 32 := 200#32
  let v4316 : BitVec 32 := Scalar.addi c0_i32_1917 c200_i32_1918
  let c1_i32_1919 : BitVec 32 := 1#32
  ⟨c0_i32_1917, v4316, c1_i32_1919⟩

def k0_chk601 (v5745 : IVec S16 32) : Prop :=
  (∀ a x, ((![v5745] : Fin 1 → IVec S16 32) a x).toNat < S25600.size a)
theorem k0_idx601_inb : ∀ (v5745 : IVec S16 32) (k0_hw601 : k0_chk601 v5745), ∀ a x, ((![v5745] : Fin 1 → IVec S16 32) a x).toNat < S25600.size a := fun v5745 k0_hw601 => k0_hw601

def k0_chk602 (v4328 : IVec S16 32) : Prop :=
  (∀ a x, ((![v4328] : Fin 1 → IVec S16 32) a x).toNat < S3072.size a)
theorem k0_idx602_inb : ∀ (v4328 : IVec S16 32) (k0_hw602 : k0_chk602 v4328), ∀ a x, ((![v4328] : Fin 1 → IVec S16 32) a x).toNat < S3072.size a := fun v4328 k0_hw602 => k0_hw602

def k0_chk603 (v4335 : IVec S16 32) : Prop :=
  (∀ a x, ((![v4335] : Fin 1 → IVec S16 32) a x).toNat < S3072.size a)
theorem k0_idx603_inb : ∀ (v4335 : IVec S16 32) (k0_hw603 : k0_chk603 v4335), ∀ a x, ((![v4335] : Fin 1 → IVec S16 32) a x).toNat < S3072.size a := fun v4335 k0_hw603 => k0_hw603

def k0_chk604 (v4342 : IVec S16 32) : Prop :=
  (∀ a x, ((![v4342] : Fin 1 → IVec S16 32) a x).toNat < S3072.size a)
theorem k0_idx604_inb : ∀ (v4342 : IVec S16 32) (k0_hw604 : k0_chk604 v4342), ∀ a x, ((![v4342] : Fin 1 → IVec S16 32) a x).toNat < S3072.size a := fun v4342 k0_hw604 => k0_hw604

def k0_chk605 (v4349 : IVec S16 32) : Prop :=
  (∀ a x, ((![v4349] : Fin 1 → IVec S16 32) a x).toNat < S3072.size a)
theorem k0_idx605_inb : ∀ (v4349 : IVec S16 32) (k0_hw605 : k0_chk605 v4349), ∀ a x, ((![v4349] : Fin 1 → IVec S16 32) a x).toNat < S3072.size a := fun v4349 k0_hw605 => k0_hw605

def k0_chk606 (v4356 : IVec S16 32) : Prop :=
  (∀ a x, ((![v4356] : Fin 1 → IVec S16 32) a x).toNat < S3072.size a)
theorem k0_idx606_inb : ∀ (v4356 : IVec S16 32) (k0_hw606 : k0_chk606 v4356), ∀ a x, ((![v4356] : Fin 1 → IVec S16 32) a x).toNat < S3072.size a := fun v4356 k0_hw606 => k0_hw606

def k0_chk607 (v4363 : IVec S16 32) : Prop :=
  (∀ a x, ((![v4363] : Fin 1 → IVec S16 32) a x).toNat < S3072.size a)
theorem k0_idx607_inb : ∀ (v4363 : IVec S16 32) (k0_hw607 : k0_chk607 v4363), ∀ a x, ((![v4363] : Fin 1 → IVec S16 32) a x).toNat < S3072.size a := fun v4363 k0_hw607 => k0_hw607

def k0_chk608 (v4370 : IVec S16 32) : Prop :=
  (∀ a x, ((![v4370] : Fin 1 → IVec S16 32) a x).toNat < S3072.size a)
theorem k0_idx608_inb : ∀ (v4370 : IVec S16 32) (k0_hw608 : k0_chk608 v4370), ∀ a x, ((![v4370] : Fin 1 → IVec S16 32) a x).toNat < S3072.size a := fun v4370 k0_hw608 => k0_hw608

def k0_chk609 (v4377 : IVec S16 32) : Prop :=
  (∀ a x, ((![v4377] : Fin 1 → IVec S16 32) a x).toNat < S3072.size a)
theorem k0_idx609_inb : ∀ (v4377 : IVec S16 32) (k0_hw609 : k0_chk609 v4377), ∀ a x, ((![v4377] : Fin 1 → IVec S16 32) a x).toNat < S3072.size a := fun v4377 k0_hw609 => k0_hw609

def k0_chk610 (v4384 : IVec S16 32) : Prop :=
  (∀ a x, ((![v4384] : Fin 1 → IVec S16 32) a x).toNat < S3072.size a)
theorem k0_idx610_inb : ∀ (v4384 : IVec S16 32) (k0_hw610 : k0_chk610 v4384), ∀ a x, ((![v4384] : Fin 1 → IVec S16 32) a x).toNat < S3072.size a := fun v4384 k0_hw610 => k0_hw610

def k0_chk611 (v4391 : IVec S16 32) : Prop :=
  (∀ a x, ((![v4391] : Fin 1 → IVec S16 32) a x).toNat < S3072.size a)
theorem k0_idx611_inb : ∀ (v4391 : IVec S16 32) (k0_hw611 : k0_chk611 v4391), ∀ a x, ((![v4391] : Fin 1 → IVec S16 32) a x).toNat < S3072.size a := fun v4391 k0_hw611 => k0_hw611

def k0_chk612 (v4398 : IVec S16 32) : Prop :=
  (∀ a x, ((![v4398] : Fin 1 → IVec S16 32) a x).toNat < S3072.size a)
theorem k0_idx612_inb : ∀ (v4398 : IVec S16 32) (k0_hw612 : k0_chk612 v4398), ∀ a x, ((![v4398] : Fin 1 → IVec S16 32) a x).toNat < S3072.size a := fun v4398 k0_hw612 => k0_hw612

def k0_chk613 (v4405 : IVec S16 32) : Prop :=
  (∀ a x, ((![v4405] : Fin 1 → IVec S16 32) a x).toNat < S3072.size a)
theorem k0_idx613_inb : ∀ (v4405 : IVec S16 32) (k0_hw613 : k0_chk613 v4405), ∀ a x, ((![v4405] : Fin 1 → IVec S16 32) a x).toNat < S3072.size a := fun v4405 k0_hw613 => k0_hw613

def k0_chk614 (v4412 : IVec S16 32) : Prop :=
  (∀ a x, ((![v4412] : Fin 1 → IVec S16 32) a x).toNat < S3072.size a)
theorem k0_idx614_inb : ∀ (v4412 : IVec S16 32) (k0_hw614 : k0_chk614 v4412), ∀ a x, ((![v4412] : Fin 1 → IVec S16 32) a x).toNat < S3072.size a := fun v4412 k0_hw614 => k0_hw614

def k0_chk615 (v4419 : IVec S16 32) : Prop :=
  (∀ a x, ((![v4419] : Fin 1 → IVec S16 32) a x).toNat < S3072.size a)
theorem k0_idx615_inb : ∀ (v4419 : IVec S16 32) (k0_hw615 : k0_chk615 v4419), ∀ a x, ((![v4419] : Fin 1 → IVec S16 32) a x).toNat < S3072.size a := fun v4419 k0_hw615 => k0_hw615

def k0_chk616 (v4426 : IVec S16 32) : Prop :=
  (∀ a x, ((![v4426] : Fin 1 → IVec S16 32) a x).toNat < S3072.size a)
theorem k0_idx616_inb : ∀ (v4426 : IVec S16 32) (k0_hw616 : k0_chk616 v4426), ∀ a x, ((![v4426] : Fin 1 → IVec S16 32) a x).toNat < S3072.size a := fun v4426 k0_hw616 => k0_hw616

def k0_chk617 (v4433 : IVec S16 32) : Prop :=
  (∀ a x, ((![v4433] : Fin 1 → IVec S16 32) a x).toNat < S3072.size a)
theorem k0_idx617_inb : ∀ (v4433 : IVec S16 32) (k0_hw617 : k0_chk617 v4433), ∀ a x, ((![v4433] : Fin 1 → IVec S16 32) a x).toNat < S3072.size a := fun v4433 k0_hw617 => k0_hw617

def k0_chk618 (v4440 : IVec S16 32) : Prop :=
  (∀ a x, ((![v4440] : Fin 1 → IVec S16 32) a x).toNat < S3072.size a)
theorem k0_idx618_inb : ∀ (v4440 : IVec S16 32) (k0_hw618 : k0_chk618 v4440), ∀ a x, ((![v4440] : Fin 1 → IVec S16 32) a x).toNat < S3072.size a := fun v4440 k0_hw618 => k0_hw618

def k0_chk619 (v4447 : IVec S16 32) : Prop :=
  (∀ a x, ((![v4447] : Fin 1 → IVec S16 32) a x).toNat < S3072.size a)
theorem k0_idx619_inb : ∀ (v4447 : IVec S16 32) (k0_hw619 : k0_chk619 v4447), ∀ a x, ((![v4447] : Fin 1 → IVec S16 32) a x).toNat < S3072.size a := fun v4447 k0_hw619 => k0_hw619

def k0_chk620 (v4454 : IVec S16 32) : Prop :=
  (∀ a x, ((![v4454] : Fin 1 → IVec S16 32) a x).toNat < S3072.size a)
theorem k0_idx620_inb : ∀ (v4454 : IVec S16 32) (k0_hw620 : k0_chk620 v4454), ∀ a x, ((![v4454] : Fin 1 → IVec S16 32) a x).toNat < S3072.size a := fun v4454 k0_hw620 => k0_hw620

def k0_chk621 (v4461 : IVec S16 32) : Prop :=
  (∀ a x, ((![v4461] : Fin 1 → IVec S16 32) a x).toNat < S3072.size a)
theorem k0_idx621_inb : ∀ (v4461 : IVec S16 32) (k0_hw621 : k0_chk621 v4461), ∀ a x, ((![v4461] : Fin 1 → IVec S16 32) a x).toNat < S3072.size a := fun v4461 k0_hw621 => k0_hw621

def k0_chk622 (v4468 : IVec S16 32) : Prop :=
  (∀ a x, ((![v4468] : Fin 1 → IVec S16 32) a x).toNat < S3072.size a)
theorem k0_idx622_inb : ∀ (v4468 : IVec S16 32) (k0_hw622 : k0_chk622 v4468), ∀ a x, ((![v4468] : Fin 1 → IVec S16 32) a x).toNat < S3072.size a := fun v4468 k0_hw622 => k0_hw622

def k0_chk623 (v4475 : IVec S16 32) : Prop :=
  (∀ a x, ((![v4475] : Fin 1 → IVec S16 32) a x).toNat < S3072.size a)
theorem k0_idx623_inb : ∀ (v4475 : IVec S16 32) (k0_hw623 : k0_chk623 v4475), ∀ a x, ((![v4475] : Fin 1 → IVec S16 32) a x).toNat < S3072.size a := fun v4475 k0_hw623 => k0_hw623

def k0_chk624 (v4482 : IVec S16 32) : Prop :=
  (∀ a x, ((![v4482] : Fin 1 → IVec S16 32) a x).toNat < S3072.size a)
theorem k0_idx624_inb : ∀ (v4482 : IVec S16 32) (k0_hw624 : k0_chk624 v4482), ∀ a x, ((![v4482] : Fin 1 → IVec S16 32) a x).toNat < S3072.size a := fun v4482 k0_hw624 => k0_hw624

def k0_chk625 (v4489 : IVec S16 32) : Prop :=
  (∀ a x, ((![v4489] : Fin 1 → IVec S16 32) a x).toNat < S3072.size a)
theorem k0_idx625_inb : ∀ (v4489 : IVec S16 32) (k0_hw625 : k0_chk625 v4489), ∀ a x, ((![v4489] : Fin 1 → IVec S16 32) a x).toNat < S3072.size a := fun v4489 k0_hw625 => k0_hw625
@[reducible] def k0_t26_loop : Scf.Loop 32 :=
  let c0_i32_1998 : BitVec 32 := 0#32
  let c200_i32_1999 : BitVec 32 := 200#32
  let v4495 : BitVec 32 := Scalar.addi c0_i32_1998 c200_i32_1999
  let c1_i32_2000 : BitVec 32 := 1#32
  ⟨c0_i32_1998, v4495, c1_i32_2000⟩

def k0_chk626 (v5745 : IVec S16 32) : Prop :=
  (∀ a x, ((![v5745] : Fin 1 → IVec S16 32) a x).toNat < S25600.size a)
theorem k0_idx626_inb : ∀ (v5745 : IVec S16 32) (k0_hw626 : k0_chk626 v5745), ∀ a x, ((![v5745] : Fin 1 → IVec S16 32) a x).toNat < S25600.size a := fun v5745 k0_hw626 => k0_hw626

def k0_chk627 (v4507 : IVec S16 32) : Prop :=
  (∀ a x, ((![v4507] : Fin 1 → IVec S16 32) a x).toNat < S3072.size a)
theorem k0_idx627_inb : ∀ (v4507 : IVec S16 32) (k0_hw627 : k0_chk627 v4507), ∀ a x, ((![v4507] : Fin 1 → IVec S16 32) a x).toNat < S3072.size a := fun v4507 k0_hw627 => k0_hw627

def k0_chk628 (v4514 : IVec S16 32) : Prop :=
  (∀ a x, ((![v4514] : Fin 1 → IVec S16 32) a x).toNat < S3072.size a)
theorem k0_idx628_inb : ∀ (v4514 : IVec S16 32) (k0_hw628 : k0_chk628 v4514), ∀ a x, ((![v4514] : Fin 1 → IVec S16 32) a x).toNat < S3072.size a := fun v4514 k0_hw628 => k0_hw628

def k0_chk629 (v4521 : IVec S16 32) : Prop :=
  (∀ a x, ((![v4521] : Fin 1 → IVec S16 32) a x).toNat < S3072.size a)
theorem k0_idx629_inb : ∀ (v4521 : IVec S16 32) (k0_hw629 : k0_chk629 v4521), ∀ a x, ((![v4521] : Fin 1 → IVec S16 32) a x).toNat < S3072.size a := fun v4521 k0_hw629 => k0_hw629

def k0_chk630 (v4528 : IVec S16 32) : Prop :=
  (∀ a x, ((![v4528] : Fin 1 → IVec S16 32) a x).toNat < S3072.size a)
theorem k0_idx630_inb : ∀ (v4528 : IVec S16 32) (k0_hw630 : k0_chk630 v4528), ∀ a x, ((![v4528] : Fin 1 → IVec S16 32) a x).toNat < S3072.size a := fun v4528 k0_hw630 => k0_hw630

def k0_chk631 (v4535 : IVec S16 32) : Prop :=
  (∀ a x, ((![v4535] : Fin 1 → IVec S16 32) a x).toNat < S3072.size a)
theorem k0_idx631_inb : ∀ (v4535 : IVec S16 32) (k0_hw631 : k0_chk631 v4535), ∀ a x, ((![v4535] : Fin 1 → IVec S16 32) a x).toNat < S3072.size a := fun v4535 k0_hw631 => k0_hw631

def k0_chk632 (v4542 : IVec S16 32) : Prop :=
  (∀ a x, ((![v4542] : Fin 1 → IVec S16 32) a x).toNat < S3072.size a)
theorem k0_idx632_inb : ∀ (v4542 : IVec S16 32) (k0_hw632 : k0_chk632 v4542), ∀ a x, ((![v4542] : Fin 1 → IVec S16 32) a x).toNat < S3072.size a := fun v4542 k0_hw632 => k0_hw632

def k0_chk633 (v4549 : IVec S16 32) : Prop :=
  (∀ a x, ((![v4549] : Fin 1 → IVec S16 32) a x).toNat < S3072.size a)
theorem k0_idx633_inb : ∀ (v4549 : IVec S16 32) (k0_hw633 : k0_chk633 v4549), ∀ a x, ((![v4549] : Fin 1 → IVec S16 32) a x).toNat < S3072.size a := fun v4549 k0_hw633 => k0_hw633

def k0_chk634 (v4556 : IVec S16 32) : Prop :=
  (∀ a x, ((![v4556] : Fin 1 → IVec S16 32) a x).toNat < S3072.size a)
theorem k0_idx634_inb : ∀ (v4556 : IVec S16 32) (k0_hw634 : k0_chk634 v4556), ∀ a x, ((![v4556] : Fin 1 → IVec S16 32) a x).toNat < S3072.size a := fun v4556 k0_hw634 => k0_hw634

def k0_chk635 (v4563 : IVec S16 32) : Prop :=
  (∀ a x, ((![v4563] : Fin 1 → IVec S16 32) a x).toNat < S3072.size a)
theorem k0_idx635_inb : ∀ (v4563 : IVec S16 32) (k0_hw635 : k0_chk635 v4563), ∀ a x, ((![v4563] : Fin 1 → IVec S16 32) a x).toNat < S3072.size a := fun v4563 k0_hw635 => k0_hw635

def k0_chk636 (v4570 : IVec S16 32) : Prop :=
  (∀ a x, ((![v4570] : Fin 1 → IVec S16 32) a x).toNat < S3072.size a)
theorem k0_idx636_inb : ∀ (v4570 : IVec S16 32) (k0_hw636 : k0_chk636 v4570), ∀ a x, ((![v4570] : Fin 1 → IVec S16 32) a x).toNat < S3072.size a := fun v4570 k0_hw636 => k0_hw636

def k0_chk637 (v4577 : IVec S16 32) : Prop :=
  (∀ a x, ((![v4577] : Fin 1 → IVec S16 32) a x).toNat < S3072.size a)
theorem k0_idx637_inb : ∀ (v4577 : IVec S16 32) (k0_hw637 : k0_chk637 v4577), ∀ a x, ((![v4577] : Fin 1 → IVec S16 32) a x).toNat < S3072.size a := fun v4577 k0_hw637 => k0_hw637

def k0_chk638 (v4584 : IVec S16 32) : Prop :=
  (∀ a x, ((![v4584] : Fin 1 → IVec S16 32) a x).toNat < S3072.size a)
theorem k0_idx638_inb : ∀ (v4584 : IVec S16 32) (k0_hw638 : k0_chk638 v4584), ∀ a x, ((![v4584] : Fin 1 → IVec S16 32) a x).toNat < S3072.size a := fun v4584 k0_hw638 => k0_hw638

def k0_chk639 (v4591 : IVec S16 32) : Prop :=
  (∀ a x, ((![v4591] : Fin 1 → IVec S16 32) a x).toNat < S3072.size a)
theorem k0_idx639_inb : ∀ (v4591 : IVec S16 32) (k0_hw639 : k0_chk639 v4591), ∀ a x, ((![v4591] : Fin 1 → IVec S16 32) a x).toNat < S3072.size a := fun v4591 k0_hw639 => k0_hw639

def k0_chk640 (v4598 : IVec S16 32) : Prop :=
  (∀ a x, ((![v4598] : Fin 1 → IVec S16 32) a x).toNat < S3072.size a)
theorem k0_idx640_inb : ∀ (v4598 : IVec S16 32) (k0_hw640 : k0_chk640 v4598), ∀ a x, ((![v4598] : Fin 1 → IVec S16 32) a x).toNat < S3072.size a := fun v4598 k0_hw640 => k0_hw640

def k0_chk641 (v4605 : IVec S16 32) : Prop :=
  (∀ a x, ((![v4605] : Fin 1 → IVec S16 32) a x).toNat < S3072.size a)
theorem k0_idx641_inb : ∀ (v4605 : IVec S16 32) (k0_hw641 : k0_chk641 v4605), ∀ a x, ((![v4605] : Fin 1 → IVec S16 32) a x).toNat < S3072.size a := fun v4605 k0_hw641 => k0_hw641

def k0_chk642 (v4612 : IVec S16 32) : Prop :=
  (∀ a x, ((![v4612] : Fin 1 → IVec S16 32) a x).toNat < S3072.size a)
theorem k0_idx642_inb : ∀ (v4612 : IVec S16 32) (k0_hw642 : k0_chk642 v4612), ∀ a x, ((![v4612] : Fin 1 → IVec S16 32) a x).toNat < S3072.size a := fun v4612 k0_hw642 => k0_hw642

def k0_chk643 (v4619 : IVec S16 32) : Prop :=
  (∀ a x, ((![v4619] : Fin 1 → IVec S16 32) a x).toNat < S3072.size a)
theorem k0_idx643_inb : ∀ (v4619 : IVec S16 32) (k0_hw643 : k0_chk643 v4619), ∀ a x, ((![v4619] : Fin 1 → IVec S16 32) a x).toNat < S3072.size a := fun v4619 k0_hw643 => k0_hw643

def k0_chk644 (v4626 : IVec S16 32) : Prop :=
  (∀ a x, ((![v4626] : Fin 1 → IVec S16 32) a x).toNat < S3072.size a)
theorem k0_idx644_inb : ∀ (v4626 : IVec S16 32) (k0_hw644 : k0_chk644 v4626), ∀ a x, ((![v4626] : Fin 1 → IVec S16 32) a x).toNat < S3072.size a := fun v4626 k0_hw644 => k0_hw644

def k0_chk645 (v4633 : IVec S16 32) : Prop :=
  (∀ a x, ((![v4633] : Fin 1 → IVec S16 32) a x).toNat < S3072.size a)
theorem k0_idx645_inb : ∀ (v4633 : IVec S16 32) (k0_hw645 : k0_chk645 v4633), ∀ a x, ((![v4633] : Fin 1 → IVec S16 32) a x).toNat < S3072.size a := fun v4633 k0_hw645 => k0_hw645

def k0_chk646 (v4640 : IVec S16 32) : Prop :=
  (∀ a x, ((![v4640] : Fin 1 → IVec S16 32) a x).toNat < S3072.size a)
theorem k0_idx646_inb : ∀ (v4640 : IVec S16 32) (k0_hw646 : k0_chk646 v4640), ∀ a x, ((![v4640] : Fin 1 → IVec S16 32) a x).toNat < S3072.size a := fun v4640 k0_hw646 => k0_hw646

def k0_chk647 (v4647 : IVec S16 32) : Prop :=
  (∀ a x, ((![v4647] : Fin 1 → IVec S16 32) a x).toNat < S3072.size a)
theorem k0_idx647_inb : ∀ (v4647 : IVec S16 32) (k0_hw647 : k0_chk647 v4647), ∀ a x, ((![v4647] : Fin 1 → IVec S16 32) a x).toNat < S3072.size a := fun v4647 k0_hw647 => k0_hw647

def k0_chk648 (v4654 : IVec S16 32) : Prop :=
  (∀ a x, ((![v4654] : Fin 1 → IVec S16 32) a x).toNat < S3072.size a)
theorem k0_idx648_inb : ∀ (v4654 : IVec S16 32) (k0_hw648 : k0_chk648 v4654), ∀ a x, ((![v4654] : Fin 1 → IVec S16 32) a x).toNat < S3072.size a := fun v4654 k0_hw648 => k0_hw648

def k0_chk649 (v4661 : IVec S16 32) : Prop :=
  (∀ a x, ((![v4661] : Fin 1 → IVec S16 32) a x).toNat < S3072.size a)
theorem k0_idx649_inb : ∀ (v4661 : IVec S16 32) (k0_hw649 : k0_chk649 v4661), ∀ a x, ((![v4661] : Fin 1 → IVec S16 32) a x).toNat < S3072.size a := fun v4661 k0_hw649 => k0_hw649

def k0_chk650 (v4668 : IVec S16 32) : Prop :=
  (∀ a x, ((![v4668] : Fin 1 → IVec S16 32) a x).toNat < S3072.size a)
theorem k0_idx650_inb : ∀ (v4668 : IVec S16 32) (k0_hw650 : k0_chk650 v4668), ∀ a x, ((![v4668] : Fin 1 → IVec S16 32) a x).toNat < S3072.size a := fun v4668 k0_hw650 => k0_hw650
@[reducible] def k0_t27_loop : Scf.Loop 32 :=
  let c0_i32_2079 : BitVec 32 := 0#32
  let c200_i32_2080 : BitVec 32 := 200#32
  let v4674 : BitVec 32 := Scalar.addi c0_i32_2079 c200_i32_2080
  let c1_i32_2081 : BitVec 32 := 1#32
  ⟨c0_i32_2079, v4674, c1_i32_2081⟩

def k0_chk651 (v5745 : IVec S16 32) : Prop :=
  (∀ a x, ((![v5745] : Fin 1 → IVec S16 32) a x).toNat < S25600.size a)
theorem k0_idx651_inb : ∀ (v5745 : IVec S16 32) (k0_hw651 : k0_chk651 v5745), ∀ a x, ((![v5745] : Fin 1 → IVec S16 32) a x).toNat < S25600.size a := fun v5745 k0_hw651 => k0_hw651

def k0_chk652 (v4686 : IVec S16 32) : Prop :=
  (∀ a x, ((![v4686] : Fin 1 → IVec S16 32) a x).toNat < S3072.size a)
theorem k0_idx652_inb : ∀ (v4686 : IVec S16 32) (k0_hw652 : k0_chk652 v4686), ∀ a x, ((![v4686] : Fin 1 → IVec S16 32) a x).toNat < S3072.size a := fun v4686 k0_hw652 => k0_hw652

def k0_chk653 (v4693 : IVec S16 32) : Prop :=
  (∀ a x, ((![v4693] : Fin 1 → IVec S16 32) a x).toNat < S3072.size a)
theorem k0_idx653_inb : ∀ (v4693 : IVec S16 32) (k0_hw653 : k0_chk653 v4693), ∀ a x, ((![v4693] : Fin 1 → IVec S16 32) a x).toNat < S3072.size a := fun v4693 k0_hw653 => k0_hw653

def k0_chk654 (v4700 : IVec S16 32) : Prop :=
  (∀ a x, ((![v4700] : Fin 1 → IVec S16 32) a x).toNat < S3072.size a)
theorem k0_idx654_inb : ∀ (v4700 : IVec S16 32) (k0_hw654 : k0_chk654 v4700), ∀ a x, ((![v4700] : Fin 1 → IVec S16 32) a x).toNat < S3072.size a := fun v4700 k0_hw654 => k0_hw654

def k0_chk655 (v4707 : IVec S16 32) : Prop :=
  (∀ a x, ((![v4707] : Fin 1 → IVec S16 32) a x).toNat < S3072.size a)
theorem k0_idx655_inb : ∀ (v4707 : IVec S16 32) (k0_hw655 : k0_chk655 v4707), ∀ a x, ((![v4707] : Fin 1 → IVec S16 32) a x).toNat < S3072.size a := fun v4707 k0_hw655 => k0_hw655

def k0_chk656 (v4714 : IVec S16 32) : Prop :=
  (∀ a x, ((![v4714] : Fin 1 → IVec S16 32) a x).toNat < S3072.size a)
theorem k0_idx656_inb : ∀ (v4714 : IVec S16 32) (k0_hw656 : k0_chk656 v4714), ∀ a x, ((![v4714] : Fin 1 → IVec S16 32) a x).toNat < S3072.size a := fun v4714 k0_hw656 => k0_hw656

def k0_chk657 (v4721 : IVec S16 32) : Prop :=
  (∀ a x, ((![v4721] : Fin 1 → IVec S16 32) a x).toNat < S3072.size a)
theorem k0_idx657_inb : ∀ (v4721 : IVec S16 32) (k0_hw657 : k0_chk657 v4721), ∀ a x, ((![v4721] : Fin 1 → IVec S16 32) a x).toNat < S3072.size a := fun v4721 k0_hw657 => k0_hw657

def k0_chk658 (v4728 : IVec S16 32) : Prop :=
  (∀ a x, ((![v4728] : Fin 1 → IVec S16 32) a x).toNat < S3072.size a)
theorem k0_idx658_inb : ∀ (v4728 : IVec S16 32) (k0_hw658 : k0_chk658 v4728), ∀ a x, ((![v4728] : Fin 1 → IVec S16 32) a x).toNat < S3072.size a := fun v4728 k0_hw658 => k0_hw658

def k0_chk659 (v4735 : IVec S16 32) : Prop :=
  (∀ a x, ((![v4735] : Fin 1 → IVec S16 32) a x).toNat < S3072.size a)
theorem k0_idx659_inb : ∀ (v4735 : IVec S16 32) (k0_hw659 : k0_chk659 v4735), ∀ a x, ((![v4735] : Fin 1 → IVec S16 32) a x).toNat < S3072.size a := fun v4735 k0_hw659 => k0_hw659

def k0_chk660 (v4742 : IVec S16 32) : Prop :=
  (∀ a x, ((![v4742] : Fin 1 → IVec S16 32) a x).toNat < S3072.size a)
theorem k0_idx660_inb : ∀ (v4742 : IVec S16 32) (k0_hw660 : k0_chk660 v4742), ∀ a x, ((![v4742] : Fin 1 → IVec S16 32) a x).toNat < S3072.size a := fun v4742 k0_hw660 => k0_hw660

def k0_chk661 (v4749 : IVec S16 32) : Prop :=
  (∀ a x, ((![v4749] : Fin 1 → IVec S16 32) a x).toNat < S3072.size a)
theorem k0_idx661_inb : ∀ (v4749 : IVec S16 32) (k0_hw661 : k0_chk661 v4749), ∀ a x, ((![v4749] : Fin 1 → IVec S16 32) a x).toNat < S3072.size a := fun v4749 k0_hw661 => k0_hw661

def k0_chk662 (v4756 : IVec S16 32) : Prop :=
  (∀ a x, ((![v4756] : Fin 1 → IVec S16 32) a x).toNat < S3072.size a)
theorem k0_idx662_inb : ∀ (v4756 : IVec S16 32) (k0_hw662 : k0_chk662 v4756), ∀ a x, ((![v4756] : Fin 1 → IVec S16 32) a x).toNat < S3072.size a := fun v4756 k0_hw662 => k0_hw662

def k0_chk663 (v4763 : IVec S16 32) : Prop :=
  (∀ a x, ((![v4763] : Fin 1 → IVec S16 32) a x).toNat < S3072.size a)
theorem k0_idx663_inb : ∀ (v4763 : IVec S16 32) (k0_hw663 : k0_chk663 v4763), ∀ a x, ((![v4763] : Fin 1 → IVec S16 32) a x).toNat < S3072.size a := fun v4763 k0_hw663 => k0_hw663

def k0_chk664 (v4770 : IVec S16 32) : Prop :=
  (∀ a x, ((![v4770] : Fin 1 → IVec S16 32) a x).toNat < S3072.size a)
theorem k0_idx664_inb : ∀ (v4770 : IVec S16 32) (k0_hw664 : k0_chk664 v4770), ∀ a x, ((![v4770] : Fin 1 → IVec S16 32) a x).toNat < S3072.size a := fun v4770 k0_hw664 => k0_hw664

def k0_chk665 (v4777 : IVec S16 32) : Prop :=
  (∀ a x, ((![v4777] : Fin 1 → IVec S16 32) a x).toNat < S3072.size a)
theorem k0_idx665_inb : ∀ (v4777 : IVec S16 32) (k0_hw665 : k0_chk665 v4777), ∀ a x, ((![v4777] : Fin 1 → IVec S16 32) a x).toNat < S3072.size a := fun v4777 k0_hw665 => k0_hw665

def k0_chk666 (v4784 : IVec S16 32) : Prop :=
  (∀ a x, ((![v4784] : Fin 1 → IVec S16 32) a x).toNat < S3072.size a)
theorem k0_idx666_inb : ∀ (v4784 : IVec S16 32) (k0_hw666 : k0_chk666 v4784), ∀ a x, ((![v4784] : Fin 1 → IVec S16 32) a x).toNat < S3072.size a := fun v4784 k0_hw666 => k0_hw666

def k0_chk667 (v4791 : IVec S16 32) : Prop :=
  (∀ a x, ((![v4791] : Fin 1 → IVec S16 32) a x).toNat < S3072.size a)
theorem k0_idx667_inb : ∀ (v4791 : IVec S16 32) (k0_hw667 : k0_chk667 v4791), ∀ a x, ((![v4791] : Fin 1 → IVec S16 32) a x).toNat < S3072.size a := fun v4791 k0_hw667 => k0_hw667

def k0_chk668 (v4798 : IVec S16 32) : Prop :=
  (∀ a x, ((![v4798] : Fin 1 → IVec S16 32) a x).toNat < S3072.size a)
theorem k0_idx668_inb : ∀ (v4798 : IVec S16 32) (k0_hw668 : k0_chk668 v4798), ∀ a x, ((![v4798] : Fin 1 → IVec S16 32) a x).toNat < S3072.size a := fun v4798 k0_hw668 => k0_hw668

def k0_chk669 (v4805 : IVec S16 32) : Prop :=
  (∀ a x, ((![v4805] : Fin 1 → IVec S16 32) a x).toNat < S3072.size a)
theorem k0_idx669_inb : ∀ (v4805 : IVec S16 32) (k0_hw669 : k0_chk669 v4805), ∀ a x, ((![v4805] : Fin 1 → IVec S16 32) a x).toNat < S3072.size a := fun v4805 k0_hw669 => k0_hw669

def k0_chk670 (v4812 : IVec S16 32) : Prop :=
  (∀ a x, ((![v4812] : Fin 1 → IVec S16 32) a x).toNat < S3072.size a)
theorem k0_idx670_inb : ∀ (v4812 : IVec S16 32) (k0_hw670 : k0_chk670 v4812), ∀ a x, ((![v4812] : Fin 1 → IVec S16 32) a x).toNat < S3072.size a := fun v4812 k0_hw670 => k0_hw670

def k0_chk671 (v4819 : IVec S16 32) : Prop :=
  (∀ a x, ((![v4819] : Fin 1 → IVec S16 32) a x).toNat < S3072.size a)
theorem k0_idx671_inb : ∀ (v4819 : IVec S16 32) (k0_hw671 : k0_chk671 v4819), ∀ a x, ((![v4819] : Fin 1 → IVec S16 32) a x).toNat < S3072.size a := fun v4819 k0_hw671 => k0_hw671

def k0_chk672 (v4826 : IVec S16 32) : Prop :=
  (∀ a x, ((![v4826] : Fin 1 → IVec S16 32) a x).toNat < S3072.size a)
theorem k0_idx672_inb : ∀ (v4826 : IVec S16 32) (k0_hw672 : k0_chk672 v4826), ∀ a x, ((![v4826] : Fin 1 → IVec S16 32) a x).toNat < S3072.size a := fun v4826 k0_hw672 => k0_hw672

def k0_chk673 (v4833 : IVec S16 32) : Prop :=
  (∀ a x, ((![v4833] : Fin 1 → IVec S16 32) a x).toNat < S3072.size a)
theorem k0_idx673_inb : ∀ (v4833 : IVec S16 32) (k0_hw673 : k0_chk673 v4833), ∀ a x, ((![v4833] : Fin 1 → IVec S16 32) a x).toNat < S3072.size a := fun v4833 k0_hw673 => k0_hw673

def k0_chk674 (v4840 : IVec S16 32) : Prop :=
  (∀ a x, ((![v4840] : Fin 1 → IVec S16 32) a x).toNat < S3072.size a)
theorem k0_idx674_inb : ∀ (v4840 : IVec S16 32) (k0_hw674 : k0_chk674 v4840), ∀ a x, ((![v4840] : Fin 1 → IVec S16 32) a x).toNat < S3072.size a := fun v4840 k0_hw674 => k0_hw674

def k0_chk675 (v4847 : IVec S16 32) : Prop :=
  (∀ a x, ((![v4847] : Fin 1 → IVec S16 32) a x).toNat < S3072.size a)
theorem k0_idx675_inb : ∀ (v4847 : IVec S16 32) (k0_hw675 : k0_chk675 v4847), ∀ a x, ((![v4847] : Fin 1 → IVec S16 32) a x).toNat < S3072.size a := fun v4847 k0_hw675 => k0_hw675
@[reducible] def k0_t28_loop : Scf.Loop 32 :=
  let c0_i32_2160 : BitVec 32 := 0#32
  let c200_i32_2161 : BitVec 32 := 200#32
  let v4853 : BitVec 32 := Scalar.addi c0_i32_2160 c200_i32_2161
  let c1_i32_2162 : BitVec 32 := 1#32
  ⟨c0_i32_2160, v4853, c1_i32_2162⟩

def k0_chk676 (v5745 : IVec S16 32) : Prop :=
  (∀ a x, ((![v5745] : Fin 1 → IVec S16 32) a x).toNat < S25600.size a)
theorem k0_idx676_inb : ∀ (v5745 : IVec S16 32) (k0_hw676 : k0_chk676 v5745), ∀ a x, ((![v5745] : Fin 1 → IVec S16 32) a x).toNat < S25600.size a := fun v5745 k0_hw676 => k0_hw676

def k0_chk677 (v4865 : IVec S16 32) : Prop :=
  (∀ a x, ((![v4865] : Fin 1 → IVec S16 32) a x).toNat < S3072.size a)
theorem k0_idx677_inb : ∀ (v4865 : IVec S16 32) (k0_hw677 : k0_chk677 v4865), ∀ a x, ((![v4865] : Fin 1 → IVec S16 32) a x).toNat < S3072.size a := fun v4865 k0_hw677 => k0_hw677

def k0_chk678 (v4872 : IVec S16 32) : Prop :=
  (∀ a x, ((![v4872] : Fin 1 → IVec S16 32) a x).toNat < S3072.size a)
theorem k0_idx678_inb : ∀ (v4872 : IVec S16 32) (k0_hw678 : k0_chk678 v4872), ∀ a x, ((![v4872] : Fin 1 → IVec S16 32) a x).toNat < S3072.size a := fun v4872 k0_hw678 => k0_hw678

def k0_chk679 (v4879 : IVec S16 32) : Prop :=
  (∀ a x, ((![v4879] : Fin 1 → IVec S16 32) a x).toNat < S3072.size a)
theorem k0_idx679_inb : ∀ (v4879 : IVec S16 32) (k0_hw679 : k0_chk679 v4879), ∀ a x, ((![v4879] : Fin 1 → IVec S16 32) a x).toNat < S3072.size a := fun v4879 k0_hw679 => k0_hw679

def k0_chk680 (v4886 : IVec S16 32) : Prop :=
  (∀ a x, ((![v4886] : Fin 1 → IVec S16 32) a x).toNat < S3072.size a)
theorem k0_idx680_inb : ∀ (v4886 : IVec S16 32) (k0_hw680 : k0_chk680 v4886), ∀ a x, ((![v4886] : Fin 1 → IVec S16 32) a x).toNat < S3072.size a := fun v4886 k0_hw680 => k0_hw680

def k0_chk681 (v4893 : IVec S16 32) : Prop :=
  (∀ a x, ((![v4893] : Fin 1 → IVec S16 32) a x).toNat < S3072.size a)
theorem k0_idx681_inb : ∀ (v4893 : IVec S16 32) (k0_hw681 : k0_chk681 v4893), ∀ a x, ((![v4893] : Fin 1 → IVec S16 32) a x).toNat < S3072.size a := fun v4893 k0_hw681 => k0_hw681

def k0_chk682 (v4900 : IVec S16 32) : Prop :=
  (∀ a x, ((![v4900] : Fin 1 → IVec S16 32) a x).toNat < S3072.size a)
theorem k0_idx682_inb : ∀ (v4900 : IVec S16 32) (k0_hw682 : k0_chk682 v4900), ∀ a x, ((![v4900] : Fin 1 → IVec S16 32) a x).toNat < S3072.size a := fun v4900 k0_hw682 => k0_hw682

def k0_chk683 (v4907 : IVec S16 32) : Prop :=
  (∀ a x, ((![v4907] : Fin 1 → IVec S16 32) a x).toNat < S3072.size a)
theorem k0_idx683_inb : ∀ (v4907 : IVec S16 32) (k0_hw683 : k0_chk683 v4907), ∀ a x, ((![v4907] : Fin 1 → IVec S16 32) a x).toNat < S3072.size a := fun v4907 k0_hw683 => k0_hw683

def k0_chk684 (v4914 : IVec S16 32) : Prop :=
  (∀ a x, ((![v4914] : Fin 1 → IVec S16 32) a x).toNat < S3072.size a)
theorem k0_idx684_inb : ∀ (v4914 : IVec S16 32) (k0_hw684 : k0_chk684 v4914), ∀ a x, ((![v4914] : Fin 1 → IVec S16 32) a x).toNat < S3072.size a := fun v4914 k0_hw684 => k0_hw684

def k0_chk685 (v4921 : IVec S16 32) : Prop :=
  (∀ a x, ((![v4921] : Fin 1 → IVec S16 32) a x).toNat < S3072.size a)
theorem k0_idx685_inb : ∀ (v4921 : IVec S16 32) (k0_hw685 : k0_chk685 v4921), ∀ a x, ((![v4921] : Fin 1 → IVec S16 32) a x).toNat < S3072.size a := fun v4921 k0_hw685 => k0_hw685

def k0_chk686 (v4928 : IVec S16 32) : Prop :=
  (∀ a x, ((![v4928] : Fin 1 → IVec S16 32) a x).toNat < S3072.size a)
theorem k0_idx686_inb : ∀ (v4928 : IVec S16 32) (k0_hw686 : k0_chk686 v4928), ∀ a x, ((![v4928] : Fin 1 → IVec S16 32) a x).toNat < S3072.size a := fun v4928 k0_hw686 => k0_hw686

def k0_chk687 (v4935 : IVec S16 32) : Prop :=
  (∀ a x, ((![v4935] : Fin 1 → IVec S16 32) a x).toNat < S3072.size a)
theorem k0_idx687_inb : ∀ (v4935 : IVec S16 32) (k0_hw687 : k0_chk687 v4935), ∀ a x, ((![v4935] : Fin 1 → IVec S16 32) a x).toNat < S3072.size a := fun v4935 k0_hw687 => k0_hw687

def k0_chk688 (v4942 : IVec S16 32) : Prop :=
  (∀ a x, ((![v4942] : Fin 1 → IVec S16 32) a x).toNat < S3072.size a)
theorem k0_idx688_inb : ∀ (v4942 : IVec S16 32) (k0_hw688 : k0_chk688 v4942), ∀ a x, ((![v4942] : Fin 1 → IVec S16 32) a x).toNat < S3072.size a := fun v4942 k0_hw688 => k0_hw688

def k0_chk689 (v4949 : IVec S16 32) : Prop :=
  (∀ a x, ((![v4949] : Fin 1 → IVec S16 32) a x).toNat < S3072.size a)
theorem k0_idx689_inb : ∀ (v4949 : IVec S16 32) (k0_hw689 : k0_chk689 v4949), ∀ a x, ((![v4949] : Fin 1 → IVec S16 32) a x).toNat < S3072.size a := fun v4949 k0_hw689 => k0_hw689

def k0_chk690 (v4956 : IVec S16 32) : Prop :=
  (∀ a x, ((![v4956] : Fin 1 → IVec S16 32) a x).toNat < S3072.size a)
theorem k0_idx690_inb : ∀ (v4956 : IVec S16 32) (k0_hw690 : k0_chk690 v4956), ∀ a x, ((![v4956] : Fin 1 → IVec S16 32) a x).toNat < S3072.size a := fun v4956 k0_hw690 => k0_hw690

def k0_chk691 (v4963 : IVec S16 32) : Prop :=
  (∀ a x, ((![v4963] : Fin 1 → IVec S16 32) a x).toNat < S3072.size a)
theorem k0_idx691_inb : ∀ (v4963 : IVec S16 32) (k0_hw691 : k0_chk691 v4963), ∀ a x, ((![v4963] : Fin 1 → IVec S16 32) a x).toNat < S3072.size a := fun v4963 k0_hw691 => k0_hw691

def k0_chk692 (v4970 : IVec S16 32) : Prop :=
  (∀ a x, ((![v4970] : Fin 1 → IVec S16 32) a x).toNat < S3072.size a)
theorem k0_idx692_inb : ∀ (v4970 : IVec S16 32) (k0_hw692 : k0_chk692 v4970), ∀ a x, ((![v4970] : Fin 1 → IVec S16 32) a x).toNat < S3072.size a := fun v4970 k0_hw692 => k0_hw692

def k0_chk693 (v4977 : IVec S16 32) : Prop :=
  (∀ a x, ((![v4977] : Fin 1 → IVec S16 32) a x).toNat < S3072.size a)
theorem k0_idx693_inb : ∀ (v4977 : IVec S16 32) (k0_hw693 : k0_chk693 v4977), ∀ a x, ((![v4977] : Fin 1 → IVec S16 32) a x).toNat < S3072.size a := fun v4977 k0_hw693 => k0_hw693

def k0_chk694 (v4984 : IVec S16 32) : Prop :=
  (∀ a x, ((![v4984] : Fin 1 → IVec S16 32) a x).toNat < S3072.size a)
theorem k0_idx694_inb : ∀ (v4984 : IVec S16 32) (k0_hw694 : k0_chk694 v4984), ∀ a x, ((![v4984] : Fin 1 → IVec S16 32) a x).toNat < S3072.size a := fun v4984 k0_hw694 => k0_hw694

def k0_chk695 (v4991 : IVec S16 32) : Prop :=
  (∀ a x, ((![v4991] : Fin 1 → IVec S16 32) a x).toNat < S3072.size a)
theorem k0_idx695_inb : ∀ (v4991 : IVec S16 32) (k0_hw695 : k0_chk695 v4991), ∀ a x, ((![v4991] : Fin 1 → IVec S16 32) a x).toNat < S3072.size a := fun v4991 k0_hw695 => k0_hw695

def k0_chk696 (v4998 : IVec S16 32) : Prop :=
  (∀ a x, ((![v4998] : Fin 1 → IVec S16 32) a x).toNat < S3072.size a)
theorem k0_idx696_inb : ∀ (v4998 : IVec S16 32) (k0_hw696 : k0_chk696 v4998), ∀ a x, ((![v4998] : Fin 1 → IVec S16 32) a x).toNat < S3072.size a := fun v4998 k0_hw696 => k0_hw696

def k0_chk697 (v5005 : IVec S16 32) : Prop :=
  (∀ a x, ((![v5005] : Fin 1 → IVec S16 32) a x).toNat < S3072.size a)
theorem k0_idx697_inb : ∀ (v5005 : IVec S16 32) (k0_hw697 : k0_chk697 v5005), ∀ a x, ((![v5005] : Fin 1 → IVec S16 32) a x).toNat < S3072.size a := fun v5005 k0_hw697 => k0_hw697

def k0_chk698 (v5012 : IVec S16 32) : Prop :=
  (∀ a x, ((![v5012] : Fin 1 → IVec S16 32) a x).toNat < S3072.size a)
theorem k0_idx698_inb : ∀ (v5012 : IVec S16 32) (k0_hw698 : k0_chk698 v5012), ∀ a x, ((![v5012] : Fin 1 → IVec S16 32) a x).toNat < S3072.size a := fun v5012 k0_hw698 => k0_hw698

def k0_chk699 (v5019 : IVec S16 32) : Prop :=
  (∀ a x, ((![v5019] : Fin 1 → IVec S16 32) a x).toNat < S3072.size a)
theorem k0_idx699_inb : ∀ (v5019 : IVec S16 32) (k0_hw699 : k0_chk699 v5019), ∀ a x, ((![v5019] : Fin 1 → IVec S16 32) a x).toNat < S3072.size a := fun v5019 k0_hw699 => k0_hw699

def k0_chk700 (v5026 : IVec S16 32) : Prop :=
  (∀ a x, ((![v5026] : Fin 1 → IVec S16 32) a x).toNat < S3072.size a)
theorem k0_idx700_inb : ∀ (v5026 : IVec S16 32) (k0_hw700 : k0_chk700 v5026), ∀ a x, ((![v5026] : Fin 1 → IVec S16 32) a x).toNat < S3072.size a := fun v5026 k0_hw700 => k0_hw700
@[reducible] def k0_t29_loop : Scf.Loop 32 :=
  let c0_i32_2241 : BitVec 32 := 0#32
  let c200_i32_2242 : BitVec 32 := 200#32
  let v5032 : BitVec 32 := Scalar.addi c0_i32_2241 c200_i32_2242
  let c1_i32_2243 : BitVec 32 := 1#32
  ⟨c0_i32_2241, v5032, c1_i32_2243⟩

def k0_chk701 (v5745 : IVec S16 32) : Prop :=
  (∀ a x, ((![v5745] : Fin 1 → IVec S16 32) a x).toNat < S25600.size a)
theorem k0_idx701_inb : ∀ (v5745 : IVec S16 32) (k0_hw701 : k0_chk701 v5745), ∀ a x, ((![v5745] : Fin 1 → IVec S16 32) a x).toNat < S25600.size a := fun v5745 k0_hw701 => k0_hw701

def k0_chk702 (v5044 : IVec S16 32) : Prop :=
  (∀ a x, ((![v5044] : Fin 1 → IVec S16 32) a x).toNat < S3072.size a)
theorem k0_idx702_inb : ∀ (v5044 : IVec S16 32) (k0_hw702 : k0_chk702 v5044), ∀ a x, ((![v5044] : Fin 1 → IVec S16 32) a x).toNat < S3072.size a := fun v5044 k0_hw702 => k0_hw702

def k0_chk703 (v5051 : IVec S16 32) : Prop :=
  (∀ a x, ((![v5051] : Fin 1 → IVec S16 32) a x).toNat < S3072.size a)
theorem k0_idx703_inb : ∀ (v5051 : IVec S16 32) (k0_hw703 : k0_chk703 v5051), ∀ a x, ((![v5051] : Fin 1 → IVec S16 32) a x).toNat < S3072.size a := fun v5051 k0_hw703 => k0_hw703

def k0_chk704 (v5058 : IVec S16 32) : Prop :=
  (∀ a x, ((![v5058] : Fin 1 → IVec S16 32) a x).toNat < S3072.size a)
theorem k0_idx704_inb : ∀ (v5058 : IVec S16 32) (k0_hw704 : k0_chk704 v5058), ∀ a x, ((![v5058] : Fin 1 → IVec S16 32) a x).toNat < S3072.size a := fun v5058 k0_hw704 => k0_hw704

def k0_chk705 (v5065 : IVec S16 32) : Prop :=
  (∀ a x, ((![v5065] : Fin 1 → IVec S16 32) a x).toNat < S3072.size a)
theorem k0_idx705_inb : ∀ (v5065 : IVec S16 32) (k0_hw705 : k0_chk705 v5065), ∀ a x, ((![v5065] : Fin 1 → IVec S16 32) a x).toNat < S3072.size a := fun v5065 k0_hw705 => k0_hw705

def k0_chk706 (v5072 : IVec S16 32) : Prop :=
  (∀ a x, ((![v5072] : Fin 1 → IVec S16 32) a x).toNat < S3072.size a)
theorem k0_idx706_inb : ∀ (v5072 : IVec S16 32) (k0_hw706 : k0_chk706 v5072), ∀ a x, ((![v5072] : Fin 1 → IVec S16 32) a x).toNat < S3072.size a := fun v5072 k0_hw706 => k0_hw706

def k0_chk707 (v5079 : IVec S16 32) : Prop :=
  (∀ a x, ((![v5079] : Fin 1 → IVec S16 32) a x).toNat < S3072.size a)
theorem k0_idx707_inb : ∀ (v5079 : IVec S16 32) (k0_hw707 : k0_chk707 v5079), ∀ a x, ((![v5079] : Fin 1 → IVec S16 32) a x).toNat < S3072.size a := fun v5079 k0_hw707 => k0_hw707

def k0_chk708 (v5086 : IVec S16 32) : Prop :=
  (∀ a x, ((![v5086] : Fin 1 → IVec S16 32) a x).toNat < S3072.size a)
theorem k0_idx708_inb : ∀ (v5086 : IVec S16 32) (k0_hw708 : k0_chk708 v5086), ∀ a x, ((![v5086] : Fin 1 → IVec S16 32) a x).toNat < S3072.size a := fun v5086 k0_hw708 => k0_hw708

def k0_chk709 (v5093 : IVec S16 32) : Prop :=
  (∀ a x, ((![v5093] : Fin 1 → IVec S16 32) a x).toNat < S3072.size a)
theorem k0_idx709_inb : ∀ (v5093 : IVec S16 32) (k0_hw709 : k0_chk709 v5093), ∀ a x, ((![v5093] : Fin 1 → IVec S16 32) a x).toNat < S3072.size a := fun v5093 k0_hw709 => k0_hw709

def k0_chk710 (v5100 : IVec S16 32) : Prop :=
  (∀ a x, ((![v5100] : Fin 1 → IVec S16 32) a x).toNat < S3072.size a)
theorem k0_idx710_inb : ∀ (v5100 : IVec S16 32) (k0_hw710 : k0_chk710 v5100), ∀ a x, ((![v5100] : Fin 1 → IVec S16 32) a x).toNat < S3072.size a := fun v5100 k0_hw710 => k0_hw710

def k0_chk711 (v5107 : IVec S16 32) : Prop :=
  (∀ a x, ((![v5107] : Fin 1 → IVec S16 32) a x).toNat < S3072.size a)
theorem k0_idx711_inb : ∀ (v5107 : IVec S16 32) (k0_hw711 : k0_chk711 v5107), ∀ a x, ((![v5107] : Fin 1 → IVec S16 32) a x).toNat < S3072.size a := fun v5107 k0_hw711 => k0_hw711

def k0_chk712 (v5114 : IVec S16 32) : Prop :=
  (∀ a x, ((![v5114] : Fin 1 → IVec S16 32) a x).toNat < S3072.size a)
theorem k0_idx712_inb : ∀ (v5114 : IVec S16 32) (k0_hw712 : k0_chk712 v5114), ∀ a x, ((![v5114] : Fin 1 → IVec S16 32) a x).toNat < S3072.size a := fun v5114 k0_hw712 => k0_hw712

def k0_chk713 (v5121 : IVec S16 32) : Prop :=
  (∀ a x, ((![v5121] : Fin 1 → IVec S16 32) a x).toNat < S3072.size a)
theorem k0_idx713_inb : ∀ (v5121 : IVec S16 32) (k0_hw713 : k0_chk713 v5121), ∀ a x, ((![v5121] : Fin 1 → IVec S16 32) a x).toNat < S3072.size a := fun v5121 k0_hw713 => k0_hw713

def k0_chk714 (v5128 : IVec S16 32) : Prop :=
  (∀ a x, ((![v5128] : Fin 1 → IVec S16 32) a x).toNat < S3072.size a)
theorem k0_idx714_inb : ∀ (v5128 : IVec S16 32) (k0_hw714 : k0_chk714 v5128), ∀ a x, ((![v5128] : Fin 1 → IVec S16 32) a x).toNat < S3072.size a := fun v5128 k0_hw714 => k0_hw714

def k0_chk715 (v5135 : IVec S16 32) : Prop :=
  (∀ a x, ((![v5135] : Fin 1 → IVec S16 32) a x).toNat < S3072.size a)
theorem k0_idx715_inb : ∀ (v5135 : IVec S16 32) (k0_hw715 : k0_chk715 v5135), ∀ a x, ((![v5135] : Fin 1 → IVec S16 32) a x).toNat < S3072.size a := fun v5135 k0_hw715 => k0_hw715

def k0_chk716 (v5142 : IVec S16 32) : Prop :=
  (∀ a x, ((![v5142] : Fin 1 → IVec S16 32) a x).toNat < S3072.size a)
theorem k0_idx716_inb : ∀ (v5142 : IVec S16 32) (k0_hw716 : k0_chk716 v5142), ∀ a x, ((![v5142] : Fin 1 → IVec S16 32) a x).toNat < S3072.size a := fun v5142 k0_hw716 => k0_hw716

def k0_chk717 (v5149 : IVec S16 32) : Prop :=
  (∀ a x, ((![v5149] : Fin 1 → IVec S16 32) a x).toNat < S3072.size a)
theorem k0_idx717_inb : ∀ (v5149 : IVec S16 32) (k0_hw717 : k0_chk717 v5149), ∀ a x, ((![v5149] : Fin 1 → IVec S16 32) a x).toNat < S3072.size a := fun v5149 k0_hw717 => k0_hw717

def k0_chk718 (v5156 : IVec S16 32) : Prop :=
  (∀ a x, ((![v5156] : Fin 1 → IVec S16 32) a x).toNat < S3072.size a)
theorem k0_idx718_inb : ∀ (v5156 : IVec S16 32) (k0_hw718 : k0_chk718 v5156), ∀ a x, ((![v5156] : Fin 1 → IVec S16 32) a x).toNat < S3072.size a := fun v5156 k0_hw718 => k0_hw718

def k0_chk719 (v5163 : IVec S16 32) : Prop :=
  (∀ a x, ((![v5163] : Fin 1 → IVec S16 32) a x).toNat < S3072.size a)
theorem k0_idx719_inb : ∀ (v5163 : IVec S16 32) (k0_hw719 : k0_chk719 v5163), ∀ a x, ((![v5163] : Fin 1 → IVec S16 32) a x).toNat < S3072.size a := fun v5163 k0_hw719 => k0_hw719

def k0_chk720 (v5170 : IVec S16 32) : Prop :=
  (∀ a x, ((![v5170] : Fin 1 → IVec S16 32) a x).toNat < S3072.size a)
theorem k0_idx720_inb : ∀ (v5170 : IVec S16 32) (k0_hw720 : k0_chk720 v5170), ∀ a x, ((![v5170] : Fin 1 → IVec S16 32) a x).toNat < S3072.size a := fun v5170 k0_hw720 => k0_hw720

def k0_chk721 (v5177 : IVec S16 32) : Prop :=
  (∀ a x, ((![v5177] : Fin 1 → IVec S16 32) a x).toNat < S3072.size a)
theorem k0_idx721_inb : ∀ (v5177 : IVec S16 32) (k0_hw721 : k0_chk721 v5177), ∀ a x, ((![v5177] : Fin 1 → IVec S16 32) a x).toNat < S3072.size a := fun v5177 k0_hw721 => k0_hw721

def k0_chk722 (v5184 : IVec S16 32) : Prop :=
  (∀ a x, ((![v5184] : Fin 1 → IVec S16 32) a x).toNat < S3072.size a)
theorem k0_idx722_inb : ∀ (v5184 : IVec S16 32) (k0_hw722 : k0_chk722 v5184), ∀ a x, ((![v5184] : Fin 1 → IVec S16 32) a x).toNat < S3072.size a := fun v5184 k0_hw722 => k0_hw722

def k0_chk723 (v5191 : IVec S16 32) : Prop :=
  (∀ a x, ((![v5191] : Fin 1 → IVec S16 32) a x).toNat < S3072.size a)
theorem k0_idx723_inb : ∀ (v5191 : IVec S16 32) (k0_hw723 : k0_chk723 v5191), ∀ a x, ((![v5191] : Fin 1 → IVec S16 32) a x).toNat < S3072.size a := fun v5191 k0_hw723 => k0_hw723

def k0_chk724 (v5198 : IVec S16 32) : Prop :=
  (∀ a x, ((![v5198] : Fin 1 → IVec S16 32) a x).toNat < S3072.size a)
theorem k0_idx724_inb : ∀ (v5198 : IVec S16 32) (k0_hw724 : k0_chk724 v5198), ∀ a x, ((![v5198] : Fin 1 → IVec S16 32) a x).toNat < S3072.size a := fun v5198 k0_hw724 => k0_hw724

def k0_chk725 (v5205 : IVec S16 32) : Prop :=
  (∀ a x, ((![v5205] : Fin 1 → IVec S16 32) a x).toNat < S3072.size a)
theorem k0_idx725_inb : ∀ (v5205 : IVec S16 32) (k0_hw725 : k0_chk725 v5205), ∀ a x, ((![v5205] : Fin 1 → IVec S16 32) a x).toNat < S3072.size a := fun v5205 k0_hw725 => k0_hw725
@[reducible] def k0_t30_loop : Scf.Loop 32 :=
  let c0_i32_2322 : BitVec 32 := 0#32
  let c200_i32_2323 : BitVec 32 := 200#32
  let v5211 : BitVec 32 := Scalar.addi c0_i32_2322 c200_i32_2323
  let c1_i32_2324 : BitVec 32 := 1#32
  ⟨c0_i32_2322, v5211, c1_i32_2324⟩

def k0_chk726 (v5745 : IVec S16 32) : Prop :=
  (∀ a x, ((![v5745] : Fin 1 → IVec S16 32) a x).toNat < S25600.size a)
theorem k0_idx726_inb : ∀ (v5745 : IVec S16 32) (k0_hw726 : k0_chk726 v5745), ∀ a x, ((![v5745] : Fin 1 → IVec S16 32) a x).toNat < S25600.size a := fun v5745 k0_hw726 => k0_hw726

def k0_chk727 (v5223 : IVec S16 32) : Prop :=
  (∀ a x, ((![v5223] : Fin 1 → IVec S16 32) a x).toNat < S3072.size a)
theorem k0_idx727_inb : ∀ (v5223 : IVec S16 32) (k0_hw727 : k0_chk727 v5223), ∀ a x, ((![v5223] : Fin 1 → IVec S16 32) a x).toNat < S3072.size a := fun v5223 k0_hw727 => k0_hw727

def k0_chk728 (v5230 : IVec S16 32) : Prop :=
  (∀ a x, ((![v5230] : Fin 1 → IVec S16 32) a x).toNat < S3072.size a)
theorem k0_idx728_inb : ∀ (v5230 : IVec S16 32) (k0_hw728 : k0_chk728 v5230), ∀ a x, ((![v5230] : Fin 1 → IVec S16 32) a x).toNat < S3072.size a := fun v5230 k0_hw728 => k0_hw728

def k0_chk729 (v5237 : IVec S16 32) : Prop :=
  (∀ a x, ((![v5237] : Fin 1 → IVec S16 32) a x).toNat < S3072.size a)
theorem k0_idx729_inb : ∀ (v5237 : IVec S16 32) (k0_hw729 : k0_chk729 v5237), ∀ a x, ((![v5237] : Fin 1 → IVec S16 32) a x).toNat < S3072.size a := fun v5237 k0_hw729 => k0_hw729

def k0_chk730 (v5244 : IVec S16 32) : Prop :=
  (∀ a x, ((![v5244] : Fin 1 → IVec S16 32) a x).toNat < S3072.size a)
theorem k0_idx730_inb : ∀ (v5244 : IVec S16 32) (k0_hw730 : k0_chk730 v5244), ∀ a x, ((![v5244] : Fin 1 → IVec S16 32) a x).toNat < S3072.size a := fun v5244 k0_hw730 => k0_hw730

def k0_chk731 (v5251 : IVec S16 32) : Prop :=
  (∀ a x, ((![v5251] : Fin 1 → IVec S16 32) a x).toNat < S3072.size a)
theorem k0_idx731_inb : ∀ (v5251 : IVec S16 32) (k0_hw731 : k0_chk731 v5251), ∀ a x, ((![v5251] : Fin 1 → IVec S16 32) a x).toNat < S3072.size a := fun v5251 k0_hw731 => k0_hw731

def k0_chk732 (v5258 : IVec S16 32) : Prop :=
  (∀ a x, ((![v5258] : Fin 1 → IVec S16 32) a x).toNat < S3072.size a)
theorem k0_idx732_inb : ∀ (v5258 : IVec S16 32) (k0_hw732 : k0_chk732 v5258), ∀ a x, ((![v5258] : Fin 1 → IVec S16 32) a x).toNat < S3072.size a := fun v5258 k0_hw732 => k0_hw732

def k0_chk733 (v5265 : IVec S16 32) : Prop :=
  (∀ a x, ((![v5265] : Fin 1 → IVec S16 32) a x).toNat < S3072.size a)
theorem k0_idx733_inb : ∀ (v5265 : IVec S16 32) (k0_hw733 : k0_chk733 v5265), ∀ a x, ((![v5265] : Fin 1 → IVec S16 32) a x).toNat < S3072.size a := fun v5265 k0_hw733 => k0_hw733

def k0_chk734 (v5272 : IVec S16 32) : Prop :=
  (∀ a x, ((![v5272] : Fin 1 → IVec S16 32) a x).toNat < S3072.size a)
theorem k0_idx734_inb : ∀ (v5272 : IVec S16 32) (k0_hw734 : k0_chk734 v5272), ∀ a x, ((![v5272] : Fin 1 → IVec S16 32) a x).toNat < S3072.size a := fun v5272 k0_hw734 => k0_hw734

def k0_chk735 (v5279 : IVec S16 32) : Prop :=
  (∀ a x, ((![v5279] : Fin 1 → IVec S16 32) a x).toNat < S3072.size a)
theorem k0_idx735_inb : ∀ (v5279 : IVec S16 32) (k0_hw735 : k0_chk735 v5279), ∀ a x, ((![v5279] : Fin 1 → IVec S16 32) a x).toNat < S3072.size a := fun v5279 k0_hw735 => k0_hw735

def k0_chk736 (v5286 : IVec S16 32) : Prop :=
  (∀ a x, ((![v5286] : Fin 1 → IVec S16 32) a x).toNat < S3072.size a)
theorem k0_idx736_inb : ∀ (v5286 : IVec S16 32) (k0_hw736 : k0_chk736 v5286), ∀ a x, ((![v5286] : Fin 1 → IVec S16 32) a x).toNat < S3072.size a := fun v5286 k0_hw736 => k0_hw736

def k0_chk737 (v5293 : IVec S16 32) : Prop :=
  (∀ a x, ((![v5293] : Fin 1 → IVec S16 32) a x).toNat < S3072.size a)
theorem k0_idx737_inb : ∀ (v5293 : IVec S16 32) (k0_hw737 : k0_chk737 v5293), ∀ a x, ((![v5293] : Fin 1 → IVec S16 32) a x).toNat < S3072.size a := fun v5293 k0_hw737 => k0_hw737

def k0_chk738 (v5300 : IVec S16 32) : Prop :=
  (∀ a x, ((![v5300] : Fin 1 → IVec S16 32) a x).toNat < S3072.size a)
theorem k0_idx738_inb : ∀ (v5300 : IVec S16 32) (k0_hw738 : k0_chk738 v5300), ∀ a x, ((![v5300] : Fin 1 → IVec S16 32) a x).toNat < S3072.size a := fun v5300 k0_hw738 => k0_hw738

def k0_chk739 (v5307 : IVec S16 32) : Prop :=
  (∀ a x, ((![v5307] : Fin 1 → IVec S16 32) a x).toNat < S3072.size a)
theorem k0_idx739_inb : ∀ (v5307 : IVec S16 32) (k0_hw739 : k0_chk739 v5307), ∀ a x, ((![v5307] : Fin 1 → IVec S16 32) a x).toNat < S3072.size a := fun v5307 k0_hw739 => k0_hw739

def k0_chk740 (v5314 : IVec S16 32) : Prop :=
  (∀ a x, ((![v5314] : Fin 1 → IVec S16 32) a x).toNat < S3072.size a)
theorem k0_idx740_inb : ∀ (v5314 : IVec S16 32) (k0_hw740 : k0_chk740 v5314), ∀ a x, ((![v5314] : Fin 1 → IVec S16 32) a x).toNat < S3072.size a := fun v5314 k0_hw740 => k0_hw740

def k0_chk741 (v5321 : IVec S16 32) : Prop :=
  (∀ a x, ((![v5321] : Fin 1 → IVec S16 32) a x).toNat < S3072.size a)
theorem k0_idx741_inb : ∀ (v5321 : IVec S16 32) (k0_hw741 : k0_chk741 v5321), ∀ a x, ((![v5321] : Fin 1 → IVec S16 32) a x).toNat < S3072.size a := fun v5321 k0_hw741 => k0_hw741

def k0_chk742 (v5328 : IVec S16 32) : Prop :=
  (∀ a x, ((![v5328] : Fin 1 → IVec S16 32) a x).toNat < S3072.size a)
theorem k0_idx742_inb : ∀ (v5328 : IVec S16 32) (k0_hw742 : k0_chk742 v5328), ∀ a x, ((![v5328] : Fin 1 → IVec S16 32) a x).toNat < S3072.size a := fun v5328 k0_hw742 => k0_hw742

def k0_chk743 (v5335 : IVec S16 32) : Prop :=
  (∀ a x, ((![v5335] : Fin 1 → IVec S16 32) a x).toNat < S3072.size a)
theorem k0_idx743_inb : ∀ (v5335 : IVec S16 32) (k0_hw743 : k0_chk743 v5335), ∀ a x, ((![v5335] : Fin 1 → IVec S16 32) a x).toNat < S3072.size a := fun v5335 k0_hw743 => k0_hw743

def k0_chk744 (v5342 : IVec S16 32) : Prop :=
  (∀ a x, ((![v5342] : Fin 1 → IVec S16 32) a x).toNat < S3072.size a)
theorem k0_idx744_inb : ∀ (v5342 : IVec S16 32) (k0_hw744 : k0_chk744 v5342), ∀ a x, ((![v5342] : Fin 1 → IVec S16 32) a x).toNat < S3072.size a := fun v5342 k0_hw744 => k0_hw744

def k0_chk745 (v5349 : IVec S16 32) : Prop :=
  (∀ a x, ((![v5349] : Fin 1 → IVec S16 32) a x).toNat < S3072.size a)
theorem k0_idx745_inb : ∀ (v5349 : IVec S16 32) (k0_hw745 : k0_chk745 v5349), ∀ a x, ((![v5349] : Fin 1 → IVec S16 32) a x).toNat < S3072.size a := fun v5349 k0_hw745 => k0_hw745

def k0_chk746 (v5356 : IVec S16 32) : Prop :=
  (∀ a x, ((![v5356] : Fin 1 → IVec S16 32) a x).toNat < S3072.size a)
theorem k0_idx746_inb : ∀ (v5356 : IVec S16 32) (k0_hw746 : k0_chk746 v5356), ∀ a x, ((![v5356] : Fin 1 → IVec S16 32) a x).toNat < S3072.size a := fun v5356 k0_hw746 => k0_hw746

def k0_chk747 (v5363 : IVec S16 32) : Prop :=
  (∀ a x, ((![v5363] : Fin 1 → IVec S16 32) a x).toNat < S3072.size a)
theorem k0_idx747_inb : ∀ (v5363 : IVec S16 32) (k0_hw747 : k0_chk747 v5363), ∀ a x, ((![v5363] : Fin 1 → IVec S16 32) a x).toNat < S3072.size a := fun v5363 k0_hw747 => k0_hw747

def k0_chk748 (v5370 : IVec S16 32) : Prop :=
  (∀ a x, ((![v5370] : Fin 1 → IVec S16 32) a x).toNat < S3072.size a)
theorem k0_idx748_inb : ∀ (v5370 : IVec S16 32) (k0_hw748 : k0_chk748 v5370), ∀ a x, ((![v5370] : Fin 1 → IVec S16 32) a x).toNat < S3072.size a := fun v5370 k0_hw748 => k0_hw748

def k0_chk749 (v5377 : IVec S16 32) : Prop :=
  (∀ a x, ((![v5377] : Fin 1 → IVec S16 32) a x).toNat < S3072.size a)
theorem k0_idx749_inb : ∀ (v5377 : IVec S16 32) (k0_hw749 : k0_chk749 v5377), ∀ a x, ((![v5377] : Fin 1 → IVec S16 32) a x).toNat < S3072.size a := fun v5377 k0_hw749 => k0_hw749

def k0_chk750 (v5384 : IVec S16 32) : Prop :=
  (∀ a x, ((![v5384] : Fin 1 → IVec S16 32) a x).toNat < S3072.size a)
theorem k0_idx750_inb : ∀ (v5384 : IVec S16 32) (k0_hw750 : k0_chk750 v5384), ∀ a x, ((![v5384] : Fin 1 → IVec S16 32) a x).toNat < S3072.size a := fun v5384 k0_hw750 => k0_hw750
@[reducible] def k0_t31_loop : Scf.Loop 32 :=
  let c0_i32_2403 : BitVec 32 := 0#32
  let c200_i32_2404 : BitVec 32 := 200#32
  let v5390 : BitVec 32 := Scalar.addi c0_i32_2403 c200_i32_2404
  let c1_i32_2405 : BitVec 32 := 1#32
  ⟨c0_i32_2403, v5390, c1_i32_2405⟩

def k0_chk751 (v5745 : IVec S16 32) : Prop :=
  (∀ a x, ((![v5745] : Fin 1 → IVec S16 32) a x).toNat < S25600.size a)
theorem k0_idx751_inb : ∀ (v5745 : IVec S16 32) (k0_hw751 : k0_chk751 v5745), ∀ a x, ((![v5745] : Fin 1 → IVec S16 32) a x).toNat < S25600.size a := fun v5745 k0_hw751 => k0_hw751

def k0_chk752 (v5402 : IVec S16 32) : Prop :=
  (∀ a x, ((![v5402] : Fin 1 → IVec S16 32) a x).toNat < S3072.size a)
theorem k0_idx752_inb : ∀ (v5402 : IVec S16 32) (k0_hw752 : k0_chk752 v5402), ∀ a x, ((![v5402] : Fin 1 → IVec S16 32) a x).toNat < S3072.size a := fun v5402 k0_hw752 => k0_hw752

def k0_chk753 (v5409 : IVec S16 32) : Prop :=
  (∀ a x, ((![v5409] : Fin 1 → IVec S16 32) a x).toNat < S3072.size a)
theorem k0_idx753_inb : ∀ (v5409 : IVec S16 32) (k0_hw753 : k0_chk753 v5409), ∀ a x, ((![v5409] : Fin 1 → IVec S16 32) a x).toNat < S3072.size a := fun v5409 k0_hw753 => k0_hw753

def k0_chk754 (v5416 : IVec S16 32) : Prop :=
  (∀ a x, ((![v5416] : Fin 1 → IVec S16 32) a x).toNat < S3072.size a)
theorem k0_idx754_inb : ∀ (v5416 : IVec S16 32) (k0_hw754 : k0_chk754 v5416), ∀ a x, ((![v5416] : Fin 1 → IVec S16 32) a x).toNat < S3072.size a := fun v5416 k0_hw754 => k0_hw754

def k0_chk755 (v5423 : IVec S16 32) : Prop :=
  (∀ a x, ((![v5423] : Fin 1 → IVec S16 32) a x).toNat < S3072.size a)
theorem k0_idx755_inb : ∀ (v5423 : IVec S16 32) (k0_hw755 : k0_chk755 v5423), ∀ a x, ((![v5423] : Fin 1 → IVec S16 32) a x).toNat < S3072.size a := fun v5423 k0_hw755 => k0_hw755

def k0_chk756 (v5430 : IVec S16 32) : Prop :=
  (∀ a x, ((![v5430] : Fin 1 → IVec S16 32) a x).toNat < S3072.size a)
theorem k0_idx756_inb : ∀ (v5430 : IVec S16 32) (k0_hw756 : k0_chk756 v5430), ∀ a x, ((![v5430] : Fin 1 → IVec S16 32) a x).toNat < S3072.size a := fun v5430 k0_hw756 => k0_hw756

def k0_chk757 (v5437 : IVec S16 32) : Prop :=
  (∀ a x, ((![v5437] : Fin 1 → IVec S16 32) a x).toNat < S3072.size a)
theorem k0_idx757_inb : ∀ (v5437 : IVec S16 32) (k0_hw757 : k0_chk757 v5437), ∀ a x, ((![v5437] : Fin 1 → IVec S16 32) a x).toNat < S3072.size a := fun v5437 k0_hw757 => k0_hw757

def k0_chk758 (v5444 : IVec S16 32) : Prop :=
  (∀ a x, ((![v5444] : Fin 1 → IVec S16 32) a x).toNat < S3072.size a)
theorem k0_idx758_inb : ∀ (v5444 : IVec S16 32) (k0_hw758 : k0_chk758 v5444), ∀ a x, ((![v5444] : Fin 1 → IVec S16 32) a x).toNat < S3072.size a := fun v5444 k0_hw758 => k0_hw758

def k0_chk759 (v5451 : IVec S16 32) : Prop :=
  (∀ a x, ((![v5451] : Fin 1 → IVec S16 32) a x).toNat < S3072.size a)
theorem k0_idx759_inb : ∀ (v5451 : IVec S16 32) (k0_hw759 : k0_chk759 v5451), ∀ a x, ((![v5451] : Fin 1 → IVec S16 32) a x).toNat < S3072.size a := fun v5451 k0_hw759 => k0_hw759

def k0_chk760 (v5458 : IVec S16 32) : Prop :=
  (∀ a x, ((![v5458] : Fin 1 → IVec S16 32) a x).toNat < S3072.size a)
theorem k0_idx760_inb : ∀ (v5458 : IVec S16 32) (k0_hw760 : k0_chk760 v5458), ∀ a x, ((![v5458] : Fin 1 → IVec S16 32) a x).toNat < S3072.size a := fun v5458 k0_hw760 => k0_hw760

def k0_chk761 (v5465 : IVec S16 32) : Prop :=
  (∀ a x, ((![v5465] : Fin 1 → IVec S16 32) a x).toNat < S3072.size a)
theorem k0_idx761_inb : ∀ (v5465 : IVec S16 32) (k0_hw761 : k0_chk761 v5465), ∀ a x, ((![v5465] : Fin 1 → IVec S16 32) a x).toNat < S3072.size a := fun v5465 k0_hw761 => k0_hw761

def k0_chk762 (v5472 : IVec S16 32) : Prop :=
  (∀ a x, ((![v5472] : Fin 1 → IVec S16 32) a x).toNat < S3072.size a)
theorem k0_idx762_inb : ∀ (v5472 : IVec S16 32) (k0_hw762 : k0_chk762 v5472), ∀ a x, ((![v5472] : Fin 1 → IVec S16 32) a x).toNat < S3072.size a := fun v5472 k0_hw762 => k0_hw762

def k0_chk763 (v5479 : IVec S16 32) : Prop :=
  (∀ a x, ((![v5479] : Fin 1 → IVec S16 32) a x).toNat < S3072.size a)
theorem k0_idx763_inb : ∀ (v5479 : IVec S16 32) (k0_hw763 : k0_chk763 v5479), ∀ a x, ((![v5479] : Fin 1 → IVec S16 32) a x).toNat < S3072.size a := fun v5479 k0_hw763 => k0_hw763

def k0_chk764 (v5486 : IVec S16 32) : Prop :=
  (∀ a x, ((![v5486] : Fin 1 → IVec S16 32) a x).toNat < S3072.size a)
theorem k0_idx764_inb : ∀ (v5486 : IVec S16 32) (k0_hw764 : k0_chk764 v5486), ∀ a x, ((![v5486] : Fin 1 → IVec S16 32) a x).toNat < S3072.size a := fun v5486 k0_hw764 => k0_hw764

def k0_chk765 (v5493 : IVec S16 32) : Prop :=
  (∀ a x, ((![v5493] : Fin 1 → IVec S16 32) a x).toNat < S3072.size a)
theorem k0_idx765_inb : ∀ (v5493 : IVec S16 32) (k0_hw765 : k0_chk765 v5493), ∀ a x, ((![v5493] : Fin 1 → IVec S16 32) a x).toNat < S3072.size a := fun v5493 k0_hw765 => k0_hw765

def k0_chk766 (v5500 : IVec S16 32) : Prop :=
  (∀ a x, ((![v5500] : Fin 1 → IVec S16 32) a x).toNat < S3072.size a)
theorem k0_idx766_inb : ∀ (v5500 : IVec S16 32) (k0_hw766 : k0_chk766 v5500), ∀ a x, ((![v5500] : Fin 1 → IVec S16 32) a x).toNat < S3072.size a := fun v5500 k0_hw766 => k0_hw766

def k0_chk767 (v5507 : IVec S16 32) : Prop :=
  (∀ a x, ((![v5507] : Fin 1 → IVec S16 32) a x).toNat < S3072.size a)
theorem k0_idx767_inb : ∀ (v5507 : IVec S16 32) (k0_hw767 : k0_chk767 v5507), ∀ a x, ((![v5507] : Fin 1 → IVec S16 32) a x).toNat < S3072.size a := fun v5507 k0_hw767 => k0_hw767

def k0_chk768 (v5514 : IVec S16 32) : Prop :=
  (∀ a x, ((![v5514] : Fin 1 → IVec S16 32) a x).toNat < S3072.size a)
theorem k0_idx768_inb : ∀ (v5514 : IVec S16 32) (k0_hw768 : k0_chk768 v5514), ∀ a x, ((![v5514] : Fin 1 → IVec S16 32) a x).toNat < S3072.size a := fun v5514 k0_hw768 => k0_hw768

def k0_chk769 (v5521 : IVec S16 32) : Prop :=
  (∀ a x, ((![v5521] : Fin 1 → IVec S16 32) a x).toNat < S3072.size a)
theorem k0_idx769_inb : ∀ (v5521 : IVec S16 32) (k0_hw769 : k0_chk769 v5521), ∀ a x, ((![v5521] : Fin 1 → IVec S16 32) a x).toNat < S3072.size a := fun v5521 k0_hw769 => k0_hw769

def k0_chk770 (v5528 : IVec S16 32) : Prop :=
  (∀ a x, ((![v5528] : Fin 1 → IVec S16 32) a x).toNat < S3072.size a)
theorem k0_idx770_inb : ∀ (v5528 : IVec S16 32) (k0_hw770 : k0_chk770 v5528), ∀ a x, ((![v5528] : Fin 1 → IVec S16 32) a x).toNat < S3072.size a := fun v5528 k0_hw770 => k0_hw770

def k0_chk771 (v5535 : IVec S16 32) : Prop :=
  (∀ a x, ((![v5535] : Fin 1 → IVec S16 32) a x).toNat < S3072.size a)
theorem k0_idx771_inb : ∀ (v5535 : IVec S16 32) (k0_hw771 : k0_chk771 v5535), ∀ a x, ((![v5535] : Fin 1 → IVec S16 32) a x).toNat < S3072.size a := fun v5535 k0_hw771 => k0_hw771

def k0_chk772 (v5542 : IVec S16 32) : Prop :=
  (∀ a x, ((![v5542] : Fin 1 → IVec S16 32) a x).toNat < S3072.size a)
theorem k0_idx772_inb : ∀ (v5542 : IVec S16 32) (k0_hw772 : k0_chk772 v5542), ∀ a x, ((![v5542] : Fin 1 → IVec S16 32) a x).toNat < S3072.size a := fun v5542 k0_hw772 => k0_hw772

def k0_chk773 (v5549 : IVec S16 32) : Prop :=
  (∀ a x, ((![v5549] : Fin 1 → IVec S16 32) a x).toNat < S3072.size a)
theorem k0_idx773_inb : ∀ (v5549 : IVec S16 32) (k0_hw773 : k0_chk773 v5549), ∀ a x, ((![v5549] : Fin 1 → IVec S16 32) a x).toNat < S3072.size a := fun v5549 k0_hw773 => k0_hw773

def k0_chk774 (v5556 : IVec S16 32) : Prop :=
  (∀ a x, ((![v5556] : Fin 1 → IVec S16 32) a x).toNat < S3072.size a)
theorem k0_idx774_inb : ∀ (v5556 : IVec S16 32) (k0_hw774 : k0_chk774 v5556), ∀ a x, ((![v5556] : Fin 1 → IVec S16 32) a x).toNat < S3072.size a := fun v5556 k0_hw774 => k0_hw774

def k0_chk775 (v5563 : IVec S16 32) : Prop :=
  (∀ a x, ((![v5563] : Fin 1 → IVec S16 32) a x).toNat < S3072.size a)
theorem k0_idx775_inb : ∀ (v5563 : IVec S16 32) (k0_hw775 : k0_chk775 v5563), ∀ a x, ((![v5563] : Fin 1 → IVec S16 32) a x).toNat < S3072.size a := fun v5563 k0_hw775 => k0_hw775
@[reducible] def k0_t32_loop : Scf.Loop 32 :=
  let c0_i32_2484 : BitVec 32 := 0#32
  let c200_i32_2485 : BitVec 32 := 200#32
  let v5569 : BitVec 32 := Scalar.addi c0_i32_2484 c200_i32_2485
  let c1_i32_2486 : BitVec 32 := 1#32
  ⟨c0_i32_2484, v5569, c1_i32_2486⟩

def k0_chk776 (v5745 : IVec S16 32) : Prop :=
  (∀ a x, ((![v5745] : Fin 1 → IVec S16 32) a x).toNat < S25600.size a)
theorem k0_idx776_inb : ∀ (v5745 : IVec S16 32) (k0_hw776 : k0_chk776 v5745), ∀ a x, ((![v5745] : Fin 1 → IVec S16 32) a x).toNat < S25600.size a := fun v5745 k0_hw776 => k0_hw776

def k0_chk777 (v5581 : IVec S16 32) : Prop :=
  (∀ a x, ((![v5581] : Fin 1 → IVec S16 32) a x).toNat < S3072.size a)
theorem k0_idx777_inb : ∀ (v5581 : IVec S16 32) (k0_hw777 : k0_chk777 v5581), ∀ a x, ((![v5581] : Fin 1 → IVec S16 32) a x).toNat < S3072.size a := fun v5581 k0_hw777 => k0_hw777

def k0_chk778 (v5588 : IVec S16 32) : Prop :=
  (∀ a x, ((![v5588] : Fin 1 → IVec S16 32) a x).toNat < S3072.size a)
theorem k0_idx778_inb : ∀ (v5588 : IVec S16 32) (k0_hw778 : k0_chk778 v5588), ∀ a x, ((![v5588] : Fin 1 → IVec S16 32) a x).toNat < S3072.size a := fun v5588 k0_hw778 => k0_hw778

def k0_chk779 (v5595 : IVec S16 32) : Prop :=
  (∀ a x, ((![v5595] : Fin 1 → IVec S16 32) a x).toNat < S3072.size a)
theorem k0_idx779_inb : ∀ (v5595 : IVec S16 32) (k0_hw779 : k0_chk779 v5595), ∀ a x, ((![v5595] : Fin 1 → IVec S16 32) a x).toNat < S3072.size a := fun v5595 k0_hw779 => k0_hw779

def k0_chk780 (v5602 : IVec S16 32) : Prop :=
  (∀ a x, ((![v5602] : Fin 1 → IVec S16 32) a x).toNat < S3072.size a)
theorem k0_idx780_inb : ∀ (v5602 : IVec S16 32) (k0_hw780 : k0_chk780 v5602), ∀ a x, ((![v5602] : Fin 1 → IVec S16 32) a x).toNat < S3072.size a := fun v5602 k0_hw780 => k0_hw780

def k0_chk781 (v5609 : IVec S16 32) : Prop :=
  (∀ a x, ((![v5609] : Fin 1 → IVec S16 32) a x).toNat < S3072.size a)
theorem k0_idx781_inb : ∀ (v5609 : IVec S16 32) (k0_hw781 : k0_chk781 v5609), ∀ a x, ((![v5609] : Fin 1 → IVec S16 32) a x).toNat < S3072.size a := fun v5609 k0_hw781 => k0_hw781

def k0_chk782 (v5616 : IVec S16 32) : Prop :=
  (∀ a x, ((![v5616] : Fin 1 → IVec S16 32) a x).toNat < S3072.size a)
theorem k0_idx782_inb : ∀ (v5616 : IVec S16 32) (k0_hw782 : k0_chk782 v5616), ∀ a x, ((![v5616] : Fin 1 → IVec S16 32) a x).toNat < S3072.size a := fun v5616 k0_hw782 => k0_hw782

def k0_chk783 (v5623 : IVec S16 32) : Prop :=
  (∀ a x, ((![v5623] : Fin 1 → IVec S16 32) a x).toNat < S3072.size a)
theorem k0_idx783_inb : ∀ (v5623 : IVec S16 32) (k0_hw783 : k0_chk783 v5623), ∀ a x, ((![v5623] : Fin 1 → IVec S16 32) a x).toNat < S3072.size a := fun v5623 k0_hw783 => k0_hw783

def k0_chk784 (v5630 : IVec S16 32) : Prop :=
  (∀ a x, ((![v5630] : Fin 1 → IVec S16 32) a x).toNat < S3072.size a)
theorem k0_idx784_inb : ∀ (v5630 : IVec S16 32) (k0_hw784 : k0_chk784 v5630), ∀ a x, ((![v5630] : Fin 1 → IVec S16 32) a x).toNat < S3072.size a := fun v5630 k0_hw784 => k0_hw784

def k0_chk785 (v5637 : IVec S16 32) : Prop :=
  (∀ a x, ((![v5637] : Fin 1 → IVec S16 32) a x).toNat < S3072.size a)
theorem k0_idx785_inb : ∀ (v5637 : IVec S16 32) (k0_hw785 : k0_chk785 v5637), ∀ a x, ((![v5637] : Fin 1 → IVec S16 32) a x).toNat < S3072.size a := fun v5637 k0_hw785 => k0_hw785

def k0_chk786 (v5644 : IVec S16 32) : Prop :=
  (∀ a x, ((![v5644] : Fin 1 → IVec S16 32) a x).toNat < S3072.size a)
theorem k0_idx786_inb : ∀ (v5644 : IVec S16 32) (k0_hw786 : k0_chk786 v5644), ∀ a x, ((![v5644] : Fin 1 → IVec S16 32) a x).toNat < S3072.size a := fun v5644 k0_hw786 => k0_hw786

def k0_chk787 (v5651 : IVec S16 32) : Prop :=
  (∀ a x, ((![v5651] : Fin 1 → IVec S16 32) a x).toNat < S3072.size a)
theorem k0_idx787_inb : ∀ (v5651 : IVec S16 32) (k0_hw787 : k0_chk787 v5651), ∀ a x, ((![v5651] : Fin 1 → IVec S16 32) a x).toNat < S3072.size a := fun v5651 k0_hw787 => k0_hw787

def k0_chk788 (v5658 : IVec S16 32) : Prop :=
  (∀ a x, ((![v5658] : Fin 1 → IVec S16 32) a x).toNat < S3072.size a)
theorem k0_idx788_inb : ∀ (v5658 : IVec S16 32) (k0_hw788 : k0_chk788 v5658), ∀ a x, ((![v5658] : Fin 1 → IVec S16 32) a x).toNat < S3072.size a := fun v5658 k0_hw788 => k0_hw788

def k0_chk789 (v5665 : IVec S16 32) : Prop :=
  (∀ a x, ((![v5665] : Fin 1 → IVec S16 32) a x).toNat < S3072.size a)
theorem k0_idx789_inb : ∀ (v5665 : IVec S16 32) (k0_hw789 : k0_chk789 v5665), ∀ a x, ((![v5665] : Fin 1 → IVec S16 32) a x).toNat < S3072.size a := fun v5665 k0_hw789 => k0_hw789

def k0_chk790 (v5672 : IVec S16 32) : Prop :=
  (∀ a x, ((![v5672] : Fin 1 → IVec S16 32) a x).toNat < S3072.size a)
theorem k0_idx790_inb : ∀ (v5672 : IVec S16 32) (k0_hw790 : k0_chk790 v5672), ∀ a x, ((![v5672] : Fin 1 → IVec S16 32) a x).toNat < S3072.size a := fun v5672 k0_hw790 => k0_hw790

def k0_chk791 (v5679 : IVec S16 32) : Prop :=
  (∀ a x, ((![v5679] : Fin 1 → IVec S16 32) a x).toNat < S3072.size a)
theorem k0_idx791_inb : ∀ (v5679 : IVec S16 32) (k0_hw791 : k0_chk791 v5679), ∀ a x, ((![v5679] : Fin 1 → IVec S16 32) a x).toNat < S3072.size a := fun v5679 k0_hw791 => k0_hw791

def k0_chk792 (v5686 : IVec S16 32) : Prop :=
  (∀ a x, ((![v5686] : Fin 1 → IVec S16 32) a x).toNat < S3072.size a)
theorem k0_idx792_inb : ∀ (v5686 : IVec S16 32) (k0_hw792 : k0_chk792 v5686), ∀ a x, ((![v5686] : Fin 1 → IVec S16 32) a x).toNat < S3072.size a := fun v5686 k0_hw792 => k0_hw792

def k0_chk793 (v5693 : IVec S16 32) : Prop :=
  (∀ a x, ((![v5693] : Fin 1 → IVec S16 32) a x).toNat < S3072.size a)
theorem k0_idx793_inb : ∀ (v5693 : IVec S16 32) (k0_hw793 : k0_chk793 v5693), ∀ a x, ((![v5693] : Fin 1 → IVec S16 32) a x).toNat < S3072.size a := fun v5693 k0_hw793 => k0_hw793

def k0_chk794 (v5700 : IVec S16 32) : Prop :=
  (∀ a x, ((![v5700] : Fin 1 → IVec S16 32) a x).toNat < S3072.size a)
theorem k0_idx794_inb : ∀ (v5700 : IVec S16 32) (k0_hw794 : k0_chk794 v5700), ∀ a x, ((![v5700] : Fin 1 → IVec S16 32) a x).toNat < S3072.size a := fun v5700 k0_hw794 => k0_hw794

def k0_chk795 (v5707 : IVec S16 32) : Prop :=
  (∀ a x, ((![v5707] : Fin 1 → IVec S16 32) a x).toNat < S3072.size a)
theorem k0_idx795_inb : ∀ (v5707 : IVec S16 32) (k0_hw795 : k0_chk795 v5707), ∀ a x, ((![v5707] : Fin 1 → IVec S16 32) a x).toNat < S3072.size a := fun v5707 k0_hw795 => k0_hw795

def k0_chk796 (v5714 : IVec S16 32) : Prop :=
  (∀ a x, ((![v5714] : Fin 1 → IVec S16 32) a x).toNat < S3072.size a)
theorem k0_idx796_inb : ∀ (v5714 : IVec S16 32) (k0_hw796 : k0_chk796 v5714), ∀ a x, ((![v5714] : Fin 1 → IVec S16 32) a x).toNat < S3072.size a := fun v5714 k0_hw796 => k0_hw796

def k0_chk797 (v5721 : IVec S16 32) : Prop :=
  (∀ a x, ((![v5721] : Fin 1 → IVec S16 32) a x).toNat < S3072.size a)
theorem k0_idx797_inb : ∀ (v5721 : IVec S16 32) (k0_hw797 : k0_chk797 v5721), ∀ a x, ((![v5721] : Fin 1 → IVec S16 32) a x).toNat < S3072.size a := fun v5721 k0_hw797 => k0_hw797

def k0_chk798 (v5728 : IVec S16 32) : Prop :=
  (∀ a x, ((![v5728] : Fin 1 → IVec S16 32) a x).toNat < S3072.size a)
theorem k0_idx798_inb : ∀ (v5728 : IVec S16 32) (k0_hw798 : k0_chk798 v5728), ∀ a x, ((![v5728] : Fin 1 → IVec S16 32) a x).toNat < S3072.size a := fun v5728 k0_hw798 => k0_hw798

def k0_chk799 (v5735 : IVec S16 32) : Prop :=
  (∀ a x, ((![v5735] : Fin 1 → IVec S16 32) a x).toNat < S3072.size a)
theorem k0_idx799_inb : ∀ (v5735 : IVec S16 32) (k0_hw799 : k0_chk799 v5735), ∀ a x, ((![v5735] : Fin 1 → IVec S16 32) a x).toNat < S3072.size a := fun v5735 k0_hw799 => k0_hw799

def k0_chk800 (v5742 : IVec S16 32) : Prop :=
  (∀ a x, ((![v5742] : Fin 1 → IVec S16 32) a x).toNat < S3072.size a)
theorem k0_idx800_inb : ∀ (v5742 : IVec S16 32) (k0_hw800 : k0_chk800 v5742), ∀ a x, ((![v5742] : Fin 1 → IVec S16 32) a x).toNat < S3072.size a := fun v5742 k0_hw800 => k0_hw800
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c384_i32_1912 : BitVec 32 := 384#32
  let v4309 : BitVec 32 := Scalar.addi v3 c384_i32_1912
  let c24_i32_2562 : BitVec 32 := 24#32
  let v5743 : BitVec 32 := Scalar.muli v4309 c24_i32_2562
  ![v5743.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S_ : Shape := ⟨0, ![]⟩
abbrev S16384 : Shape := ⟨1, ![16384]⟩
abbrev S16384x1 : Shape := ⟨2, ![16384, 1]⟩
abbrev S1 : Shape := ⟨1, ![1]⟩
abbrev S16384x200x1 : Shape := ⟨3, ![16384, 200, 1]⟩
abbrev S1x1x24 : Shape := ⟨3, ![1, 1, 24]⟩
abbrev S16384x200x24 : Shape := ⟨3, ![16384, 200, 24]⟩
abbrev S16384x24 : Shape := ⟨2, ![16384, 24]⟩

abbrev nBuf : Space → Nat
  | .hbm => 39
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S16384x200, .i1⟩
  | .hbm, ⟨2, _⟩ => ⟨S_, .i1⟩
  | .hbm, ⟨3, _⟩ => ⟨S16384, .i1⟩
  | .hbm, ⟨4, _⟩ => ⟨S16384x1, .i1⟩
  | .hbm, ⟨5, _⟩ => ⟨S16384, .i1⟩
  | .hbm, ⟨6, _⟩ => ⟨S16384, .i1⟩
  | .hbm, ⟨7, _⟩ => ⟨S16384, .i1⟩
  | .hbm, ⟨8, _⟩ => ⟨S_, .i32⟩
  | .hbm, ⟨9, _⟩ => ⟨S1, .i32⟩
  | .hbm, ⟨10, _⟩ => ⟨S16384x200, .i1⟩
  | .hbm, ⟨11, _⟩ => ⟨S_, .i32⟩
  | .hbm, ⟨12, _⟩ => ⟨S16384x200, .i32⟩
  | .hbm, ⟨13, _⟩ => ⟨S16384x200, .i1⟩
  | .hbm, ⟨14, _⟩ => ⟨S16384x200, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S16384x200, .i32⟩
  | .hbm, ⟨19, _⟩ => ⟨S16384x200, .i32⟩
  | .hbm, ⟨20, _⟩ => ⟨S_, .i32⟩
  | .hbm, ⟨21, _⟩ => ⟨S16384x200, .i32⟩
  | .hbm, ⟨22, _⟩ => ⟨S16384x200, .i32⟩
  | .hbm, ⟨23, _⟩ => ⟨S16384x200x1, .i32⟩
  | .hbm, ⟨24, _⟩ => ⟨S1x1x24, .i32⟩
  | .hbm, ⟨25, _⟩ => ⟨S16384x200x24, .i32⟩
  | .hbm, ⟨26, _⟩ => ⟨S16384x200x24, .i32⟩
  | .hbm, ⟨27, _⟩ => ⟨S16384x200x24, .i1⟩
  | .hbm, ⟨28, _⟩ => ⟨S16384x200x24, .f32⟩
  | .hbm, ⟨29, _⟩ => ⟨S16384x200, .f32⟩
  | .hbm, ⟨30, _⟩ => ⟨S16384x200x1, .f32⟩
  | .hbm, ⟨31, _⟩ => ⟨S16384x200x24, .f32⟩
  | .hbm, ⟨32, _⟩ => ⟨S16384x200x24, .f32⟩
  | .hbm, ⟨33, _⟩ => ⟨S_, .f32⟩
  | .hbm, ⟨34, _⟩ => ⟨S16384x24, .f32⟩
  | .hbm, ⟨35, _⟩ => ⟨S_, .f32⟩
  | .hbm, ⟨36, _⟩ => ⟨S16384x24, .f32⟩
  | .hbm, ⟨37, _⟩ => ⟨S16384x24, .i1⟩
  | .hbm, ⟨38, _⟩ => ⟨S16384x24, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩

abbrev nD : Nat := 1
abbrev τ : Topo := Topo.v7x

variable {F : FTy → Type} [FloatOps F]
-- ==== Proof.Values.lean ====
/-
  What the kernel computes, in closed form. Row `r` of the tokens gives a bit mask (`rowBits`): bit `t` is set when the
  row holds token `t`. Element `(r, k)` of the result is bit `k` of that mask, as a float (`result`). The task computes
  the masks sixteen rows at a time, a row per lane, and writes them out a column at a time; the lemmas here say which
  element each lane's index names, and what an indexed store leaves.
-/
module

public import proofs.«01_k».proof.Proof.Gen.KernelIdeal

@[expose] public section

noncomputable section

namespace Cert.Proof.Tokens

open Cert.KernelIdeal Cert.KernelIdeal.Gen
open Idealize.ShloMosaic Idealize.SL.Sem

variable {F : FTy → Type} [FloatOps F]

/-! ## The closed form -/

/-- Word `n` of the token array, zero past its end. -/
def tok (X : IVec S3276800 32) (n : Nat) : BitVec 32 := if h : n < 3276800 then X (fun a => ⟨n, by obtain rfl : a = 0 := Subsingleton.elim _ _; exact h⟩) else 0#32

/-- The first `l` tokens of row `r`, as a bit mask. -/
def prefixBits (X : IVec S3276800 32) (r l : Nat) : BitVec 32 :=
  (List.range l).foldl (fun acc j => IntOp.ori acc (IntOp.shli .vector 1#32 (tok X (r * 200 + j)))) 0#32

/-- Row `r`'s tokens as a bit mask. -/
def rowBits (X : IVec S3276800 32) (r : Nat) : BitVec 32 := prefixBits X r 200

theorem prefixBits_succ (X : IVec S3276800 32) (r l : Nat) :
    prefixBits X r (l + 1) = IntOp.ori (prefixBits X r l) (IntOp.shli .vector 1#32 (tok X (r * 200 + l))) := by
  simp only [prefixBits, List.range_succ, List.foldl_append, List.foldl_cons, List.foldl_nil]

/-- Bit `k` of a mask, as a float. -/
def cell (b : BitVec 32) (k : Nat) : F .f32 :=
  FloatOps.sitofp .f32 (IntOp.andi (IntOp.shrsi .vector b (BitVec.ofNat 32 k)) 1#32)

/-- The result array, flat: twenty-four columns a row. -/
def result (X : IVec S3276800 32) : FVec F S393216 .f32 := fun p => cell (rowBits X ((p 0).val / 24)) ((p 0).val % 24)

/-! ## One chunk: 128 rows, as a task holds it -/

/-- Chunk `n`'s tokens. -/
def chunkTokens (X : IVec S3276800 32) (n : Nat) : IVec S25600 32 := fun p => tok X (25600 * n + (p 0).val)

/-- The bit masks of the sixteen rows of group `g` of chunk `n`, a row a lane. -/
def groupBits (X : IVec S3276800 32) (n g : Nat) : IVec S16 32 := fun x => rowBits X (128 * n + 16 * g + (x 0).val)

/-- The block of results holds chunk `n`'s values in all rows before group `g` and in `g`'s first `k` columns. -/
def Filled (X : IVec S3276800 32) (n g k : Nat) (f : FVec F S3072 .f32) : Prop :=
  ∀ p : S3072.Idx, (p 0).val / 384 < g ∨ ((p 0).val / 384 = g ∧ (p 0).val % 24 < k) →
    f p = cell (rowBits X (128 * n + (p 0).val / 24)) ((p 0).val % 24)

/-- A group whose twenty-four columns are written is done. -/
theorem Filled.next {X : IVec S3276800 32} {n g : Nat} {f : FVec F S3072 .f32} (h : Filled X n g 24 f) :
    Filled X n (g + 1) 0 f := fun p hp => h p (by omega)

theorem Filled.none (X : IVec S3276800 32) (n : Nat) (f : FVec F S3072 .f32) : Filled X n 0 0 f :=
  fun p hp => absurd hp (by omega)

/-! ## The lanes' indices -/

/-- The sixteen lanes' numbers. -/
def lanes : IVec S16 32 := iota .scVector S16 32 [0] iota_S16_d0_w32_scVector

/-- The lanes' positions in the block of results for column `k` of group `g`. -/
def colIdx (g k : Nat) : IVec S16 32 :=
  addi (addi (muli lanes (broadcast S16 24#32)) (broadcast S16 (BitVec.ofNat 32 (384 * g)))) (broadcast S16 (BitVec.ofNat 32 k))

/-- The lanes' positions in the block of tokens for token `l` of group `g`. -/
def tokIdx (g l : Nat) : IVec S16 32 :=
  addi (addi (muli lanes (broadcast S16 200#32)) (broadcast S16 (BitVec.ofNat 32 (3200 * g))))
    (broadcast S16 (Scf.iv 0#32 1#32 l))

/-- Column `k` of the lanes' bit masks, as a float. -/
def colVal (bits : IVec S16 32) (k : Nat) : FVec F S16 .f32 :=
  sitofp .f32 (andi (shrsi bits (broadcast S16 (BitVec.ofNat 32 k))) (broadcast S16 1#32))

theorem lane_lt (x : S16.Idx) : (x 0).val < 16 := (x 0).isLt

theorem lanes_apply (x : S16.Idx) : lanes x = BitVec.ofNat 32 (x 0).val := by
  show BitVec.ofNat 32 (0 * 16 + (x 0).val) = _
  rw [Nat.zero_mul, Nat.zero_add]

/-- Lane `x` writes column `k` of group `g` at the group's start, plus its row's, plus `k`. -/
theorem colIdx_toNat {g k : Nat} (hg : g < 8) (hk : k < 24) (x : S16.Idx) :
    (colIdx g k x).toNat = 384 * g + 24 * (x 0).val + k := by
  have hx := lane_lt x
  show (lanes x * 24#32 + BitVec.ofNat 32 (384 * g) + BitVec.ofNat 32 k).toNat = _
  rw [lanes_apply]
  simp only [BitVec.toNat_add, BitVec.toNat_mul, BitVec.toNat_ofNat]
  omega

/-- Lane `x` reads token `l` of group `g` at the group's start, plus its row's, plus `l`. -/
theorem tokIdx_toNat {g l : Nat} (hg : g < 8) (hl : l < 200) (x : S16.Idx) :
    (tokIdx g l x).toNat = 3200 * g + 200 * (x 0).val + l := by
  have hx := lane_lt x
  show (lanes x * 200#32 + BitVec.ofNat 32 (3200 * g) + (0#32 + BitVec.ofNat 32 l * 1#32)).toNat = _
  rw [lanes_apply]
  simp only [BitVec.toNat_add, BitVec.toNat_mul, BitVec.toNat_ofNat]
  omega

/-- The indices of a store are inside the block of results. -/
def ColOk (g k : Nat) : Prop := ∀ a x, ((![colIdx g k] : Fin 1 → IVec S16 32) a x).toNat < S3072.size a

theorem colOk {g k : Nat} (hg : g < 8) (hk : k < 24) : ColOk g k := by
  intro a x
  obtain rfl : a = 0 := Subsingleton.elim _ _
  have hx := lane_lt x
  show (colIdx g k x).toNat < 3072
  rw [colIdx_toNat hg hk]; omega

/-- The indices of a load are inside the block of tokens. -/
theorem tokOk {g l : Nat} (hg : g < 8) (hl : l < 200) : k0_chk1 (tokIdx g l) := by
  intro a x
  obtain rfl : a = 0 := Subsingleton.elim _ _
  have hx := lane_lt x
  show (tokIdx g l x).toNat < 25600
  rw [tokIdx_toNat hg hl]; omega

theorem colVal_apply (bits : IVec S16 32) (k : Nat) (x : S16.Idx) : (colVal bits k : FVec F S16 .f32) x = cell (bits x) k := rfl

/-! ## The loads and stores -/

/-- Adding token `l` of each lane's row to the masks of the first `l` gives the masks of the first `l + 1`. -/
theorem token_step (X : IVec S3276800 32) (n : Nat) {g l : Nat} (hg : g < 8) (hl : l < 200)
    (h : ∀ a x, ((![tokIdx g l] : Fin 1 → IVec S16 32) a x).toNat < S25600.size a) :
    ori (fun x => prefixBits X (128 * n + 16 * g + (x 0).val) l)
        (shli (broadcast S16 1#32) (loadIdx (F := F) (e := .i32) (chunkTokens X n) ![tokIdx g l] h))
      = fun x : S16.Idx => prefixBits X (128 * n + 16 * g + (x 0).val) (l + 1) := by
  funext x
  rw [prefixBits_succ]
  show IntOp.ori _ (IntOp.shli .vector 1#32 (tok X (25600 * n + (tokIdx g l x).toNat))) = _
  rw [tokIdx_toNat hg hl]
  congr 3
  omega

/-- Folding steps each of which either sets place `p` to `t` (when it `hits`) or leaves it: `p` holds `t` at the end if
    it held it at the start or some step hits it. -/
theorem fold_holds {ι α β : Type} (step : (α → β) → ι → (α → β)) (p : α) (t : β) (hits : ι → Prop)
    (h₁ : ∀ g k, hits k → step g k p = t) (h₂ : ∀ g k, ¬ hits k → step g k p = g p) (ks : List ι) (f : α → β)
    (hit : f p = t ∨ ∃ k ∈ ks, hits k) : ks.foldl step f p = t := by
  induction ks generalizing f with
  | nil =>
      rcases hit with hf | ⟨k, hk, _⟩
      · exact hf
      · exact absurd hk List.not_mem_nil
  | cons k ks ih =>
      rw [List.foldl_cons]
      refine ih _ ?_
      by_cases hk : hits k
      · exact .inl (h₁ f k hk)
      · rcases hit with hf | ⟨k', hk', hp⟩
        · exact .inl ((h₂ f k hk).trans hf)
        · rcases List.mem_cons.mp hk' with rfl | hk'
          · exact absurd hp hk
          · exact .inr ⟨k', hk', hp⟩

/-- After an indexed store of all lanes, an element that some lane names, or that held `t` before, holds `t`, if every
    lane that names it writes `t`. -/
theorem storeIdx_holds {s : Shape} {e : EltTy} {d : Fin 1 → Nat} (f : Vec F s e) (idxs : Fin s.rank → IVec ⟨1, d⟩ 32)
    (v : Vec F ⟨1, d⟩ e) (h : ∀ a x, (idxs a x).toNat < s.size a) (p : s.Idx) (t : Elt F e)
    (hv : ∀ x, (∀ a, (p a).val = (idxs a x).toNat) → v x = t)
    (hit : f p = t ∨ ∃ k : Fin (d 0), ∀ a, (p a).val = (idxs a (Shape.ofLane k)).toNat) :
    storeIdx f idxs v (fun _ => 1#1) false h p = t := by
  unfold storeIdx
  refine fold_holds _ p t (fun k => ∀ a, (p a).val = (idxs a (Shape.ofLane k)).toNat) ?_ ?_ _ f
    (hit.imp_right fun ⟨k, hk⟩ => ⟨k, List.mem_finRange k, hk⟩)
  · intro g k hk
    dsimp only
    rw [if_pos (show (1#1 : BitVec 1) = 1 from rfl)]
    exact (if_pos hk).trans (hv _ hk)
  · intro g k hk
    dsimp only
    rw [if_pos (show (1#1 : BitVec 1) = 1 from rfl)]
    exact if_neg hk

/-- After the store of column `k` of group `g`, the block of results holds one column more. -/
theorem store_step (X : IVec S3276800 32) (n : Nat) {g k : Nat} (hg : g < 8) (hk : k < 24) {f : FVec F S3072 .f32}
    (hf : Filled X n g k f) (h : ∀ a x, ((![colIdx g k] : Fin 1 → IVec S16 32) a x).toNat < S3072.size a) :
    Filled X n g (k + 1)
      (storeIdx (F := F) (s := S3072) (e := .f32) f ![colIdx g k] (colVal (groupBits X n g) k) (fun _ => 1#1) false h) := by
  intro p hp
  have hlen : (p 0).val < 3072 := (p 0).isLt
  refine storeIdx_holds (s := S3072) (e := .f32) f _ _ h p _ ?_ ?_
  · intro x hx
    have hx0 := lane_lt x
    have e : (p 0).val = 384 * g + 24 * (x 0).val + k := (hx 0).trans (colIdx_toNat hg hk x)
    rw [colVal_apply]
    show cell (rowBits X (128 * n + 16 * g + (x 0).val)) k = _
    rw [show 128 * n + 16 * g + (x 0).val = 128 * n + (p 0).val / 24 by omega, show k = (p 0).val % 24 by omega]
  · by_cases hpk : (p 0).val / 384 < g ∨ ((p 0).val / 384 = g ∧ (p 0).val % 24 < k)
    · exact .inl (hf p hpk)
    · right
      refine ⟨⟨(p 0).val % 384 / 24, show _ < 16 by omega⟩, fun a => ?_⟩
      obtain rfl : a = 0 := Subsingleton.elim _ _
      refine Eq.trans ?_ (colIdx_toNat hg hk _).symm
      show (p 0).val = 384 * g + 24 * ((p 0).val % 384 / 24) + k
      omega

/-! ## The chunks' places in the arrays -/

/-- The tokens of chunk `n`, as a set of places of the token array. -/
def tokSet (n : Nat) : Finset S3276800.Idx := Finset.univ.filter fun p => (p 0).val / 25600 = n
/-- The results of chunk `n`, as a set of places of the result array. -/
def outSet (n : Nat) : Finset S393216.Idx := Finset.univ.filter fun p => (p 0).val / 3072 = n

/-- The number of chunk `c` of the task at `i`: four chunks a task, the core number counting fastest. -/
def chunkNo (i : grid0.Coords) (c : Nat) : Nat := 4 * (2 * (i 1).val + (i 0).val) + c

/-- Where chunk `c`'s tokens start, as the task at `i` computes it. -/
def inOff (i : grid0.Coords) (c : Nat) : Fin 1 → Nat :=
  ![(Scalar.muli (Scalar.addi (Scalar.muli (Scalar.addi (Scalar.muli (BitVec.ofNat 32 (i 1).val) 2#32) (BitVec.ofNat 32 (i 0).val)) 512#32)
    (BitVec.ofNat 32 (128 * c))) 200#32).toNat]

/-- Where chunk `c`'s results start, as the task at `i` computes it. -/
def outOff (i : grid0.Coords) (c : Nat) : Fin 1 → Nat :=
  ![(Scalar.muli (Scalar.addi (Scalar.muli (Scalar.addi (Scalar.muli (BitVec.ofNat 32 (i 1).val) 2#32) (BitVec.ofNat 32 (i 0).val)) 512#32)
    (BitVec.ofNat 32 (128 * c))) 24#32).toNat]

theorem core_lt (i : grid0.Coords) : (i 0).val < 2 := (i 0).isLt
theorem tile_lt (i : grid0.Coords) : (i 1).val < 16 := (i 1).isLt

theorem inOff_eq (i : grid0.Coords) {c : Nat} (hc : c < 4) : inOff i c 0 = 25600 * chunkNo i c := by
  have h0 := core_lt i
  have h1 := tile_lt i
  show ((((BitVec.ofNat 32 (i 1).val * 2#32 + BitVec.ofNat 32 (i 0).val) * 512#32) + BitVec.ofNat 32 (128 * c)) * 200#32).toNat = _
  unfold chunkNo
  simp only [BitVec.toNat_add, BitVec.toNat_mul, BitVec.toNat_ofNat]
  omega

theorem outOff_eq (i : grid0.Coords) {c : Nat} (hc : c < 4) : outOff i c 0 = 3072 * chunkNo i c := by
  have h0 := core_lt i
  have h1 := tile_lt i
  show ((((BitVec.ofNat 32 (i 1).val * 2#32 + BitVec.ofNat 32 (i 0).val) * 512#32) + BitVec.ofNat 32 (128 * c)) * 24#32).toNat = _
  unfold chunkNo
  simp only [BitVec.toNat_add, BitVec.toNat_mul, BitVec.toNat_ofNat]
  omega

theorem mem_tokSet {n : Nat} {p : S3276800.Idx} : p ∈ tokSet n ↔ (p 0).val / 25600 = n := by simp [tokSet]
theorem mem_outSet {n : Nat} {p : S393216.Idx} : p ∈ outSet n ↔ (p 0).val / 3072 = n := by simp [outSet]

/-- The block of tokens the task fetches is chunk `n`'s. -/
theorem in_set {off : Fin 1 → Nat} {n : Nat} (ho : off 0 = 25600 * n) (h : ∀ a, off a + S25600.size a ≤ S3276800.size a) :
    (Rect.unit (s := S3276800) off S25600.size h).set = tokSet n := by
  ext p
  rw [Rect.mem_set_unit, mem_tokSet]
  constructor
  · intro hp
    have := hp 0
    rw [ho] at this
    have h2 : S25600.size 0 = 25600 := rfl
    omega
  · intro hp a
    obtain rfl : a = 0 := Subsingleton.elim _ _
    have h2 : S25600.size 0 = 25600 := rfl
    rw [ho]
    omega

/-- The block of results the task writes is chunk `n`'s. -/
theorem out_set {off : Fin 1 → Nat} {n : Nat} (ho : off 0 = 3072 * n) (h : ∀ a, off a + S3072.size a ≤ S393216.size a) :
    (Rect.unit (s := S393216) off S3072.size h).set = outSet n := by
  ext p
  rw [Rect.mem_set_unit, mem_outSet]
  constructor
  · intro hp
    have := hp 0
    rw [ho] at this
    have h2 : S3072.size 0 = 3072 := rfl
    omega
  · intro hp a
    obtain rfl : a = 0 := Subsingleton.elim _ _
    have h2 : S3072.size 0 = 3072 := rfl
    rw [ho]
    omega

end Cert.Proof.Tokens

end
-- ==== Proof.Steps.lean ====
/-
  One task, step by step. A task stands at one of a few kinds of places (`Pos`); at each it holds a state of its own
  (`Inv`): its four chunks of the token array, its four chunks of the result array (those done holding their results),
  its two scratch blocks and its semaphores, less what a transfer under way holds. Each operation of the body leads
  from one place to the next (`Lead`): the two transfers and their waits, the loop over a row's tokens, the stores of
  the columns and the checks before them.
-/
module

public import proofs.«01_k».proof.Proof.Values
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic

@[expose] public section

noncomputable section

namespace Cert.Proof.Tokens

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The resource algebra: the handshakes' rounds beside the transfers' counters -/

abbrev 𝒱₀ : Variants := Variants.none
abbrev UH : Type := URounds (GSem nD τ sig) ℕ
abbrev UU : Type := UH × Counters

local notation "𝕄" => MT nD τ sig (HIx 1) (Elt F) ℕ UU ℕ

/-! ## The buffers and the semaphores -/

abbrev xV : Memref sig .scVector .hbm S3276800 .i32 := Memref.whole main_v0_scv
abbrev oV : Memref sig .scVector .hbm S393216 .f32 := Memref.whole main_v1_scv
abbrev sT : Memref sig .scVector .vmem S25600 .i32 := Memref.whole cc0_scratch0
abbrev sO : Memref sig .scVector .vmem S3072 .f32 := Memref.whole cc0_scratch1

/-- The semaphore of chunk `c`'s fetch. -/
def inSem : Nat → DmaSems sig S_
  | 0 => cc0_scoped0 | 1 => cc0_scoped2 | 2 => cc0_scoped4 | _ => cc0_scoped6
/-- The semaphore of chunk `c`'s write-out. -/
def outSem : Nat → DmaSems sig S_
  | 0 => cc0_scoped1 | 1 => cc0_scoped3 | 2 => cc0_scoped5 | _ => cc0_scoped7

theorem inSem_scoped (c : Nat) : (SemLoc.dma (inSem c).sem : SemLoc sig).isScoped .scVector = true := by
  unfold inSem; split <;> decide
theorem outSem_scoped (c : Nat) : (SemLoc.dma (outSem c).sem : SemLoc sig).isScoped .scVector = true := by
  unfold outSem; split <;> decide

/-- What a fetch and a write-out credit their semaphores. -/
abbrev NI : ℕ := (sT : Memref sig .scVector .vmem S25600 .i32).view.dmaCredit
abbrev NO : ℕ := sig.dmaCredit .scVector (Kind.scVector.table .hbm) (main_v1_scv : Ref sig .scVector).idx S3072 .f32
theorem NI_pos : 0 < NI := View.dmaCredit_pos _ (by decide)
theorem NO_pos : 0 < NO := sig.dmaCredit_pos _ _ _ _ _ (by decide)

/-- A block of the token array, and one of the result array. -/
abbrev xBlk (off : Fin 1 → Nat) (h : ∀ a, off a + S25600.size a ≤ S3276800.size a) (h' : ∀ a, (Rect.unit (s := S3276800) off S25600.size h).stride a = 1) :=
  (xV : Memref sig .scVector .hbm S3276800 .i32).slice (Rect.unit (s := S3276800) off S25600.size h) h'
abbrev oBlk (off : Fin 1 → Nat) (h : ∀ a, off a + S3072.size a ≤ S393216.size a) (h' : ∀ a, (Rect.unit (s := S393216) off S3072.size h).stride a = 1) :=
  (oV : Memref sig .scVector .hbm S393216 .f32).slice (Rect.unit (s := S393216) off S3072.size h) h'

theorem xBlk_set {off : Fin 1 → Nat} {n : Nat} (ho : off 0 = 25600 * n) (h h') : (xBlk off h h').view.set = tokSet n := by
  show ((View.whole (main_v0_scv : Ref sig .scVector)).slice (Rect.unit (s := S3276800) off S25600.size h)).set = _
  rw [View.set_slice]; exact Finset.map_refl.trans (in_set ho h)
theorem oBlk_set {off : Fin 1 → Nat} {n : Nat} (ho : off 0 = 3072 * n) (h h') : (oBlk off h h').view.set = outSet n := by
  show ((View.whole (main_v1_scv : Ref sig .scVector)).slice (Rect.unit (s := S393216) off S3072.size h)).set = _
  rw [View.set_slice]; exact Finset.map_refl.trans (out_set ho h)

/-- What a fetch of chunk `n` reads is the chunk's tokens. -/
theorem xBlk_read (X : IVec S3276800 32) {off : Fin 1 → Nat} {n : Nat} (ho : off 0 = 25600 * n) (h h') :
    (xBlk off h h').view.read (Elt F) X = chunkTokens X n := by
  funext p
  refine (View.read_apply _ _).trans ((cast_eq _ _).trans ?_)
  have hp : (p 0).val < 25600 := (p 0).isLt
  have hb := h 0
  rw [ho] at hb
  have hb' : 25600 * n + 25600 ≤ 3276800 := hb
  unfold chunkTokens tok
  rw [dif_pos (by omega)]
  refine congrArg X ?_
  funext a; apply Fin.ext
  obtain rfl : a = (0 : Fin 1) := Subsingleton.elim (α := Fin 1) _ _
  show off 0 + 1 * (p 0).val = 25600 * n + (p 0).val
  rw [ho, Nat.one_mul]

/-- A write-out of chunk `n`'s filled block leaves the results in the chunk's places. -/
theorem oBlk_write (X : IVec S3276800 32) (O₀ : FVec F S393216 .f32) {f : FVec F S3072 .f32} {off : Fin 1 → Nat} {n : Nat}
    (ho : off 0 = 3072 * n) (h h') (hf : Filled X n 8 0 f) :
    ∀ p ∈ outSet n, (oBlk off h h').view.write (Elt F) O₀ f Finset.univ p = result X p := by
  intro p hp
  rw [mem_outSet] at hp
  have hemb : (oBlk off h h').view.emb (fun a => (⟨(p 0).val - 3072 * n, by
      obtain rfl : a = 0 := Subsingleton.elim _ _
      show _ < 3072; omega⟩ : Fin (S3072.size a))) = p := by
    funext a; apply Fin.ext
    obtain rfl : a = (0 : Fin 1) := Subsingleton.elim (α := Fin 1) _ _
    show off 0 + 1 * ((p 0).val - 3072 * n) = (p 0).val
    rw [ho]; omega
  rw [← hemb]
  refine (View.write_emb_of_mem _ _ (Finset.mem_univ _)).trans ((cast_eq _ _).trans ?_)
  rw [hemb, hf _ (.inl (show ((p 0).val - 3072 * n) / 384 < 8 by omega))]
  show cell (rowBits X (128 * n + ((p 0).val - 3072 * n) / 24)) (((p 0).val - 3072 * n) % 24) = cell _ _
  rw [show 128 * n + ((p 0).val - 3072 * n) / 24 = (p 0).val / 24 by omega, show ((p 0).val - 3072 * n) % 24 = (p 0).val % 24 by omega]

/-! ## The places of a task and what it holds there -/

/-- The programs of the task at grid point `i`. -/
abbrev TP (F : FTy → Type) [FloatOps F] (i : grid0.Coords) (α : Type) : Type 1 :=
  Prog (TpuEff nD τ sig (Elt F) Λ₀ (.scVector ((i 0).castLE hcore0) ((i 1).castLE hsub0))) α

/-- Where a task stands: between chunks, `c` of them done; waiting for chunk `c`'s tokens; with `g` groups of chunk
    `c` begun and `k` columns of the last of them written (none begun: all of them); waiting for its results' copy. -/
inductive Pos
  | idle (c : Nat) | fetching (c : Nat) | mid (c g k : Nat) | writing (c : Nat)

section Task

variable (d : Dev nD) (i : grid0.Coords) (X : IVec S3276800 32) (O₀ : FVec F S393216 .f32)
  (O : CellTallies nD τ sig (HIx 1)) (W : Waits sig (HIx 1))

/-- The tile that runs the task. -/
abbrev thr : Thread nD τ := V d ((i 0).castLE hcore0) ((i 1).castLE hsub0)

/-- A cell of the tile's, of a semaphore of its own. -/
abbrev cellOf (s : DmaSems sig S_) : GSem nD τ sig := (thr d i, .dma s.sem)

/-- Chunk `n`'s tokens in the token array. -/
def tokPts (n : Nat) : sProp 𝕄 := (xV : Memref sig .scVector .hbm S3276800 .i32).view.loc (thr d i) ↦[tokSet n]{fullShare} X
/-- Chunk `n`'s places of the result array, holding `f`. -/
def outPts (n : Nat) (f : FVec F S393216 .f32) : sProp 𝕄 :=
  (oV : Memref sig .scVector .hbm S393216 .f32).view.loc (thr d i) ↦[outSet n]{fullShare} f
/-- The block of tokens. -/
def tPts (f : IVec S25600 32) : sProp 𝕄 := (sT : Memref sig .scVector .vmem S25600 .i32).view.loc (thr d i) ↦{fullShare} f
/-- The block of results. -/
def oPts (f : FVec F S3072 .f32) : sProp 𝕄 := (sO : Memref sig .scVector .vmem S3072 .f32).view.loc (thr d i) ↦{fullShare} f

/-- The task's four chunks of tokens, of results (the first `c` done), and its semaphores at zero; each without one. -/
def toks (J : Finset Nat) : sProp 𝕄 := bigSep J fun c => tokPts d i X (chunkNo i c)
def outs (J : Finset Nat) (c : Nat) : sProp 𝕄 := bigSep J fun c' => outPts d i (chunkNo i c') (if c' < c then result X else O₀)
def sems (J : Finset (GSem nD τ sig)) : sProp 𝕄 := bigSep J fun g => semVal g 0

/-- What a task always holds: the right to wait, and its record of waits. -/
def common : sProp 𝕄 :=
  iprop(Transfers.MayWaits (thr d i) (default : HIx 1) O ∗ ∃ W', ⌜∀ p ∈ W', p ∈ W ∨ p.2 = none⌝ ∗ owes (thr d i) O W')

/-- What the block of results holds with `g` groups begun and `k` columns of the last of them written. -/
def Done (n : Nat) : Nat → Nat → FVec F S3072 .f32 → Prop
  | 0, _, _ => True
  | g + 1, k, f => Filled X n g k f

theorem Done.next {n g : Nat} {f : FVec F S3072 .f32} (h : Done X n g 24 f) : Done X n (g + 1) 0 f := by
  cases g with
  | zero => exact Filled.none X n f
  | succ g => exact Filled.next h

/-- What a task holds at each place. -/
def Inv : Pos → sProp 𝕄
  | .idle c => iprop(common d i O W ∗ toks d i X (Finset.range 4) ∗ outs d i X O₀ (Finset.range 4) c
      ∗ (∃ f, tPts d i f) ∗ (∃ f, oPts d i f) ∗ sems (ownCells (thr d i)))
  | .fetching c => iprop(common d i O W ∗ toks d i X ((Finset.range 4).erase c) ∗ outs d i X O₀ (Finset.range 4) c
      ∗ Transfers.Flight countersEmb (thr d i) (.dma (inSem c).sem) (default : HIx 1) NI
          iprop(tPts d i (chunkTokens X (chunkNo i c)) ∗ tokPts d i X (chunkNo i c))
      ∗ (∃ f, oPts d i f) ∗ sems ((ownCells (thr d i)).erase (cellOf d i (inSem c))))
  | .mid c g k => iprop(common d i O W ∗ toks d i X (Finset.range 4) ∗ outs d i X O₀ (Finset.range 4) c
      ∗ tPts d i (chunkTokens X (chunkNo i c)) ∗ (∃ f, ⌜Done X (chunkNo i c) g k f⌝ ∗ oPts d i f) ∗ sems (ownCells (thr d i)))
  | .writing c => iprop(common d i O W ∗ toks d i X (Finset.range 4) ∗ outs d i X O₀ ((Finset.range 4).erase c) c
      ∗ (∃ f, tPts d i f)
      ∗ (∃ f, Transfers.Flight countersEmb (thr d i) (.dma (outSem c).sem) (default : HIx 1) NO
          iprop(outPts d i (chunkNo i c) (result X) ∗ oPts d i f))
      ∗ sems ((ownCells (thr d i)).erase (cellOf d i (outSem c))))

/-- What a task holds at its end. -/
def Final : sProp 𝕄 := Inv d i X O₀ O W (.idle 4)

/-- Program `p` runs to the task's end from place `s`. -/
def Runs (s : Pos) (p : TP F i PUnit) : Prop :=
  Inv d i X O₀ O W s ⊢ wp frame (wpE (defs₀ (F := F)) 𝒱₀ (thr d i) none) Set.univ p (fun _ => Final d i X O₀ O W)

/-- From place `s`, running `p` leads to place `s'` with result `o`, whatever runs next. -/
structure Lead {α : Type} (p : TP F i α) (s s' : Pos) (o : α) : Prop where
  run : ∀ K : α → TP F i PUnit, Runs d i X O₀ O W s' (K o) → Runs d i X O₀ O W s (p >>= K)

variable {d i X O₀ O W}

theorem Lead.ret {α : Type} (o : α) (s : Pos) : Lead d i X O₀ O W (pure o) s s o := ⟨fun _ h => h⟩

theorem Lead.bind {α β : Type} {p : TP F i α} {K : α → TP F i β}
    {s s₁ s₂ : Pos} {o₁ : α} {o₂ : β} (h₁ : Lead d i X O₀ O W p s s₁ o₁) (h₂ : Lead d i X O₀ O W (K o₁) s₁ s₂ o₂) :
    Lead d i X O₀ O W (p >>= K) s s₂ o₂ := by
  refine ⟨fun K' h => ?_⟩
  have := h₁.run (fun a => K a >>= K') (h₂.run K' h)
  simpa only [bind_assoc] using this

/-! ## The steps -/

/-- A check of a store's indices passes. -/
theorem Lead.check {c g k : Nat} {P : Prop} {dec : Decidable P} (hP : ColOk g k → P) (hg : g < 8) (hk : k < 24) :
    Lead d i X O₀ O W (Prog.lift (TpuEff.assume P dec)) (.mid c (g+1) k) (.mid c (g+1) k) ⟨hP (colOk hg hk)⟩ := by
  refine ⟨fun K h => ?_⟩
  unfold Runs
  simp only [Prog.lift, Prog.bind_op, Prog.bind_ret]
  rw [wp_assume_of _ _ _ _ (hP (colOk hg hk))]
  exact h

theorem takeSem {s : DmaSems sig S_} (hs : (SemLoc.dma s.sem : SemLoc sig).isScoped .scVector = true) :
    (sems (ownCells (thr d i)) : sProp 𝕄) = iprop(semVal (cellOf d i s) 0 ∗ sems ((ownCells (thr d i)).erase (cellOf d i s))) := by
  unfold sems
  exact SparseCore.bigSep_erase' ((mem_ownCells (g := cellOf d i s)).mpr ⟨rfl, hs⟩)
theorem takeTok {c : Nat} (hc : c < 4) :
    (toks d i X (Finset.range 4) : sProp 𝕄) = iprop(tokPts d i X (chunkNo i c) ∗ toks d i X ((Finset.range 4).erase c)) := by
  unfold toks
  exact SparseCore.bigSep_erase' (Finset.mem_range.mpr hc)
theorem takeOut {c c' : Nat} (hc : c < 4) :
    (outs d i X O₀ (Finset.range 4) c' : sProp 𝕄)
      = iprop(outPts d i (chunkNo i c) (if c < c' then result X else O₀) ∗ outs d i X O₀ ((Finset.range 4).erase c) c') := by
  unfold outs
  exact SparseCore.bigSep_erase' (Finset.mem_range.mpr hc)
theorem restOut {c : Nat} :
    (outs d i X O₀ ((Finset.range 4).erase c) c : sProp 𝕄) = outs d i X O₀ ((Finset.range 4).erase c) (c + 1) := by
  unfold outs
  refine bigSep_congr fun c' hc' => ?_
  have hne : c' ≠ c := (Finset.mem_erase.mp hc').1
  by_cases hlt : c' < c
  · rw [if_pos hlt, if_pos (by omega)]
  · rw [if_neg hlt, if_neg (by omega)]

theorem pts_xBlk {off : Fin 1 → Nat} {n : Nat} (ho : off 0 = 25600 * n) (h h') :
    ((xBlk off h h').view.loc (thr d i) ↦[(xBlk off h h').view.set]{fullShare} X : sProp 𝕄) = tokPts d i X n := by
  rw [xBlk_set ho]; rfl
theorem pts_oBlk {off : Fin 1 → Nat} {n : Nat} (ho : off 0 = 3072 * n) (h h') (f : FVec F S393216 .f32) :
    ((oBlk off h h').view.loc (thr d i) ↦[(oBlk off h h').view.set]{fullShare} f : sProp 𝕄) = outPts d i n f := by
  rw [oBlk_set ho]; rfl
theorem pts_sT (f : IVec S25600 32) :
    ((sT : Memref sig .scVector .vmem S25600 .i32).view.loc (thr d i) ↦[(sT : Memref sig .scVector .vmem S25600 .i32).view.set]{fullShare} f : sProp 𝕄) = tPts d i f := by
  simp only [Memref.view_whole, View.set_whole]; rfl
theorem pts_sO (f : FVec F S3072 .f32) :
    ((sO : Memref sig .scVector .vmem S3072 .f32).view.loc (thr d i) ↦[(sO : Memref sig .scVector .vmem S3072 .f32).view.set]{fullShare} f : sProp 𝕄) = oPts d i f := by
  simp only [Memref.view_whole, View.set_whole]; rfl

/-- The block of tokens after a fetch of chunk `n`. -/
theorem pts_landed {off : Fin 1 → Nat} {n : Nat} (ho : off 0 = 25600 * n) (h h') (f : IVec S25600 32) :
    ((sT : Memref sig .scVector .vmem S25600 .i32).view.loc (thr d i) ↦[(sT : Memref sig .scVector .vmem S25600 .i32).view.set]{fullShare}
      ((sT : Memref sig .scVector .vmem S25600 .i32).view.write (Elt F) f ((xBlk off h h').view.read (Elt F) X) Finset.univ) : sProp 𝕄)
      = tPts d i (chunkTokens X n) := by
  rw [xBlk_read X ho h h']
  exact (congrArg (fun g => ((sT : Memref sig .scVector .vmem S25600 .i32).view.loc (thr d i)
    ↦[(sT : Memref sig .scVector .vmem S25600 .i32).view.set]{fullShare} g : sProp 𝕄)) (View.write_whole_univ _ _ _)).trans (pts_sT _)

/-- Chunk `n`'s places of the result array after a write-out of its filled block. -/
theorem pts_written {off : Fin 1 → Nat} {n : Nat} (ho : off 0 = 3072 * n) (h h') {f : FVec F S3072 .f32} (hf : Filled X n 8 0 f) :
    ((oBlk off h h').view.loc (thr d i) ↦[(oBlk off h h').view.set]{fullShare}
      ((oBlk off h h').view.write (Elt F) O₀ ((sO : Memref sig .scVector .vmem S3072 .f32).view.read (Elt F) f) Finset.univ) : sProp 𝕄)
      = outPts d i n (result X) := by
  refine (pts_oBlk ho h h' _).trans ?_
  unfold outPts
  exact pointsTo_congr fun p hp => oBlk_write X O₀ ho h h' hf p hp

theorem pts_sT_access (f : IVec S25600 32) :
    (((sT : Memref sig .scVector .vmem S25600 .i32).access (.whole S25600)).loc (thr d i) ↦{fullShare} f : sProp 𝕄) = tPts d i f := rfl
theorem sO_access_set : ((sO : Memref sig .scVector .vmem S3072 .f32).access (.whole S3072)).set = Finset.univ := by
  show ((View.whole (cc0_scratch1 : Ref sig .scVector)).slice (Rect.whole S3072)).set = _
  rw [View.set_slice]; exact Finset.map_refl.trans (Rect.set_whole S3072)
theorem pts_sO_access (f : FVec F S3072 .f32) :
    (((sO : Memref sig .scVector .vmem S3072 .f32).access (.whole S3072)).loc (thr d i)
      ↦[((sO : Memref sig .scVector .vmem S3072 .f32).access (.whole S3072)).set]{fullShare} f : sProp 𝕄) = oPts d i f := by
  rw [sO_access_set]; rfl
/-- The block of results after an indexed store. -/
theorem pts_stored (f : FVec F S3072 .f32) (G : FVec F S3072 .f32 → FVec F S3072 .f32) :
    (((sO : Memref sig .scVector .vmem S3072 .f32).access (.whole S3072)).loc (thr d i)
      ↦[((sO : Memref sig .scVector .vmem S3072 .f32).access (.whole S3072)).set]{fullShare}
        (((sO : Memref sig .scVector .vmem S3072 .f32).access (.whole S3072)).write (Elt F) f
          (G (((sO : Memref sig .scVector .vmem S3072 .f32).access (.whole S3072)).read (Elt F) f)) Finset.univ) : sProp 𝕄) = oPts d i (G f) :=
  (congrArg (fun g => (((sO : Memref sig .scVector .vmem S3072 .f32).access (.whole S3072)).loc (thr d i)
      ↦[((sO : Memref sig .scVector .vmem S3072 .f32).access (.whole S3072)).set]{fullShare} g : sProp 𝕄))
    ((Memref.write_access_whole_univ (Elt F) (cc0_scratch1 : Ref sig .scVector) f _).trans
      (congrArg G (Memref.read_access_whole (Elt F) (cc0_scratch1 : Ref sig .scVector) f)))).trans (pts_sO_access _)

theorem sT_read (f : IVec S25600 32) :
    ((sT : Memref sig .scVector .vmem S25600 .i32).access (.whole S25600)).read (Elt F) f = f :=
  Memref.read_access_whole (Elt F) (cc0_scratch0 : Ref sig .scVector) f

/-- One token of each lane's row, added to the lanes' bit masks. -/
def token (i : grid0.Coords) (g : Nat) (l : Fin k0_t1_loop.trips) (acc : IVec S16 32) : TP F i (IVec S16 32) := do
  have hw : k0_chk1 (tokIdx g l) := (← Prog.lift (TpuEff.assume (k0_chk1 (tokIdx g l)) (k0_chk1.dec (tokIdx g l)))).down
  let w : Vec F S16 .i32 ← SparseCore.vectorLoadIdx sT ![tokIdx g l] (k0_idx1_inb _ hw) (View.loads_vmem Facts₀.h_S25600)
  pure (ori acc (shli (broadcast S16 1#32) w))

/-- Starting the copy of chunk `c`'s tokens. -/
theorem Lead.fetch {c : Nat} {off sem} {h4 : ∀ a, off a + S25600.size a ≤ S3276800.size a} {h5 h1 h2 h3} (hc : c < 4)
    (hoff : off = inOff i c) (hsem : sem = inSem c) :
    Lead d i X O₀ O W (Prog.lift (.enqueueDma (xV.slice (Rect.unit (s := S3276800) off S25600.size h4) h5) (.here sT) (.dma sem.sem) h1 h2 h3))
      (.idle c) (.fetching c) ⟨⟩ := by
  subst hsem
  have ho : off 0 = 25600 * chunkNo i c := by rw [hoff]; exact inOff_eq i hc
  refine ⟨fun K h => ?_⟩
  unfold Runs at h ⊢
  simp only [Prog.lift, Prog.bind_op, Prog.bind_ret]
  simp only [Inv]
  rw [takeTok hc, takeSem (inSem_scoped c)]
  iintro ⟨Hc, ⟨Hx, Htoks⟩, Houts, ⟨%f, Ht⟩, Ho, ⟨Hs, Hsems⟩⟩
  ihave Hx' := (Entails.of_eq (pts_xBlk (F := F) ho h4 h5).symm) $$ Hx
  ihave Ht' := (Entails.of_eq (pts_sT (F := F) f).symm) $$ Ht
  iapply (Transfers.wp_dmaLocal countersEmb 𝒱₀ (thr d i) none (default : HIx 1) NI rfl NI_pos (Finset.Subset.refl _)) $$ [Hx' Ht' Hs]
  · isplitl [Hx']; · iexact Hx'
    isplitl [Ht']; · iexact Ht'
    iexact Hs
  iintro Hfl
  iapply h
  simp only [Inv]
  isplitl [Hc]; · iexact Hc
  isplitl [Htoks]; · iexact Htoks
  isplitl [Houts]; · iexact Houts
  isplitl [Hfl]
  · iapply (Entails.of_eq (congrArg (Transfers.Flight countersEmb (thr d i) (.dma (inSem c).sem) (default : HIx 1) NI) ?hD)) $$ Hfl
    case hD => exact congrArg₂ (fun a b => iprop(a ∗ b)) (pts_landed ho h4 h5 f) (pts_xBlk ho h4 h5)
  isplitl [Ho]; · iexact Ho
  iexact Hsems

/-- Waiting for chunk `c`'s tokens. -/
theorem Lead.fetched {c : Nat} {off sem} {h4 : ∀ a, off a + S25600.size a ≤ S3276800.size a} {h5 h1 h2} (hc : c < 4)
    (hoff : off = inOff i c) (hsem : sem = inSem c) :
    Lead d i X O₀ O W (Prog.lift (.waitDma2 sem.sem (xV.slice (Rect.unit (s := S3276800) off S25600.size h4) h5) sT h1 h2))
      (.fetching c) (.mid c 0 24) ⟨⟩ := by
  subst hsem
  refine ⟨fun K h => ?_⟩
  unfold Runs at h ⊢
  simp only [Prog.lift, Prog.bind_op, Prog.bind_ret]
  simp only [Inv, common]
  iintro ⟨⟨#Hmw, %W', %hW', HO⟩, Htoks, Houts, Hfl, ⟨%f, Ho⟩, Hsems⟩
  iapply (Transfers.wp_waitLocalO countersEmb 𝒱₀ (thr d i) none (default : HIx 1) (rfl : (sT : Memref sig .scVector .vmem S25600 .i32).view.dmaCredit = NI)) $$ [Hfl HO]
  · isplitl [Hfl]; · iexact Hfl
    isplitl [HO]; · iexact HO
    iapply (Transfers.MayWaits.elim (SemLoc.dma (inSem c).sem)); iexact Hmw
  iintro ⟨⟨Ht, Hx⟩, Hs, HO⟩
  iapply h
  simp only [Inv, common]
  rw [takeTok hc, takeSem (inSem_scoped c)]
  isplitl [HO]
  · isplitr; · iexact Hmw
    iexists (insert (SemLoc.dma (inSem c).sem, (default : HIx 1)) W'); isplitr
    · ipureintro; intro p hp
      rcases Finset.mem_insert.mp hp with rfl | hp
      · exact .inr rfl
      · exact hW' p hp
    iexact HO
  isplitl [Hx Htoks]; · isplitl [Hx] <;> iassumption
  isplitl [Houts]; · iexact Houts
  isplitl [Ht]; · iexact Ht
  isplitl [Ho]
  · iexists f; isplitr
    · ipureintro; exact trivial
    iexact Ho
  isplitl [Hs] <;> iassumption

/-- Starting the copy of chunk `c`'s results. -/
theorem Lead.write {c g k : Nat} {off sem} {h4 : ∀ a, off a + S3072.size a ≤ S393216.size a} {h5 h1 h2 h3} (hc : c < 4)
    (hg : g = 8) (hk : k = 24) (hoff : off = outOff i c) (hsem : sem = outSem c) :
    Lead d i X O₀ O W (Prog.lift (.enqueueDma sO (.here (oV.slice (Rect.unit (s := S393216) off S3072.size h4) h5)) (.dma sem.sem) h1 h2 h3))
      (.mid c g k) (.writing c) ⟨⟩ := by
  subst hsem hg hk
  have ho : off 0 = 3072 * chunkNo i c := by rw [hoff]; exact outOff_eq i hc
  refine ⟨fun K h => ?_⟩
  unfold Runs at h ⊢
  simp only [Prog.lift, Prog.bind_op, Prog.bind_ret]
  simp only [Inv]
  rw [takeOut hc, takeSem (outSem_scoped c), if_neg (Nat.lt_irrefl c)]
  iintro ⟨Hc, Htoks, ⟨Hx, Houts⟩, Ht, ⟨%f, %hf, Ho⟩, ⟨Hs, Hsems⟩⟩
  ihave Hx' := (Entails.of_eq (pts_oBlk ho h4 h5 O₀).symm) $$ Hx
  ihave Ho' := (Entails.of_eq (pts_sO f).symm) $$ Ho
  iapply (Transfers.wp_dmaLocal countersEmb 𝒱₀ (thr d i) none (default : HIx 1) NO rfl NO_pos (Finset.Subset.refl _)) $$ [Hx' Ho' Hs]
  · isplitl [Ho']; · iexact Ho'
    isplitl [Hx']; · iexact Hx'
    iexact Hs
  iintro Hfl
  iapply h
  simp only [Inv]
  isplitl [Hc]; · iexact Hc
  isplitl [Htoks]; · iexact Htoks
  isplitl [Houts]; · iexact Houts
  isplitl [Ht]; · iexists _; iexact Ht
  isplitl [Hfl]
  · iexists f
    iapply (Entails.of_eq (congrArg (Transfers.Flight countersEmb (thr d i) (.dma (outSem c).sem) (default : HIx 1) NO) ?hD)) $$ Hfl
    case hD => exact congrArg₂ (fun a b => iprop(a ∗ b)) (pts_written ho h4 h5 (Done.next X hf)) (pts_sO f)
  iexact Hsems

/-- Waiting for chunk `c`'s results. -/
theorem Lead.written {c : Nat} {off sem} {h4 : ∀ a, off a + S3072.size a ≤ S393216.size a} {h5 h1 h2} (hc : c < 4)
    (hoff : off = outOff i c) (hsem : sem = outSem c) :
    Lead d i X O₀ O W (Prog.lift (.waitDma2 sem.sem sO (oV.slice (Rect.unit (s := S393216) off S3072.size h4) h5) h1 h2))
      (.writing c) (.idle (c+1)) ⟨⟩ := by
  subst hsem
  refine ⟨fun K h => ?_⟩
  unfold Runs at h ⊢
  simp only [Prog.lift, Prog.bind_op, Prog.bind_ret]
  simp only [Inv, common]
  iintro ⟨⟨#Hmw, %W', %hW', HO⟩, Htoks, Houts, Ht, ⟨%f, Hfl⟩, Hsems⟩
  iapply (Transfers.wp_waitLocalO countersEmb 𝒱₀ (thr d i) none (default : HIx 1) (rfl : (oBlk off h4 h5).view.dmaCredit = NO)) $$ [Hfl HO]
  · isplitl [Hfl]; · iexact Hfl
    isplitl [HO]; · iexact HO
    iapply (Transfers.MayWaits.elim (SemLoc.dma (outSem c).sem)); iexact Hmw
  iintro ⟨⟨Hx, Ho⟩, Hs, HO⟩
  iapply h
  simp only [Inv, common]
  rw [takeOut hc, takeSem (outSem_scoped c), if_pos (Nat.lt_succ_self c), ← restOut]
  isplitl [HO]
  · isplitr; · iexact Hmw
    iexists (insert (SemLoc.dma (outSem c).sem, (default : HIx 1)) W'); isplitr
    · ipureintro; intro p hp
      rcases Finset.mem_insert.mp hp with rfl | hp
      · exact .inr rfl
      · exact hW' p hp
    iexact HO
  isplitl [Htoks]; · iexact Htoks
  isplitl [Hx Houts]; · isplitl [Hx] <;> iassumption
  isplitl [Ht]; · iexact Ht
  isplitl [Ho]; · iexists f; iexact Ho
  isplitl [Hs] <;> iassumption

/-- The store of column `k` of a group. -/
theorem Lead.store {c g k : Nat} {v w} {inb hs} (hg : g < 8) (hk : k < 24) (hv : v = colIdx g k)
    (hw : w = colVal (F := F) (groupBits X (chunkNo i c) g) k) :
    Lead d i X O₀ O W (SparseCore.vectorStoreIdx sO ![v] w (fun _ => 1#1) false inb hs) (.mid c (g+1) k) (.mid c (g+1) (k+1)) ⟨⟩ := by
  subst hv hw
  refine ⟨fun K h => ?_⟩
  unfold Runs at h ⊢
  simp only [Inv]
  iintro ⟨Hc, Htoks, Houts, Ht, ⟨%f, %hf, Ho⟩, Hs⟩
  ihave Ho' := (Entails.of_eq (pts_sO_access f).symm) $$ Ho
  iapply (SparseCore.wp_vectorStoreIdx 𝒱₀ (thr d i) none Set.univ (base := (sO : Memref sig .scVector .vmem S3072 .f32))) $$ Ho'
  iintro Ho'
  iapply h
  simp only [Inv]
  isplitl [Hc]; · iexact Hc
  isplitl [Htoks]; · iexact Htoks
  isplitl [Houts]; · iexact Houts
  isplitl [Ht]; · iexact Ht
  isplitl [Ho']
  · iexists _; isplitr
    swap; · iapply (Entails.of_eq (pts_stored f (fun f' => storeIdx (F := F) (s := S3072) (e := .f32) f' ![colIdx g k] (colVal (groupBits X (chunkNo i c) g) k) (fun _ => 1#1) false inb))) $$ Ho'
    ipureintro
    exact store_step X (chunkNo i c) hg hk hf inb
  iexact Hs

/-- The state of the loop over the tokens: the lanes' masks of the first `l` tokens of their rows. -/
def bitsSoFar (d : Dev nD) (i : grid0.Coords) (X : IVec S3276800 32) (n g l : Nat) (acc : IVec S16 32) : sProp 𝕄 :=
  iprop(⌜acc = fun x => prefixBits X (128 * n + 16 * g + (x 0).val) l⌝ ∗ tPts d i (chunkTokens X n))

/-- One trip of the loop. -/
theorem token_wp (X : IVec S3276800 32) (n : Nat) {g : Nat} (hg : g < 8) (l : Fin k0_t1_loop.trips) (acc : IVec S16 32) :
    (bitsSoFar d i X n g l acc : sProp 𝕄)
      ⊢ wp frame (wpE (defs₀ (F := F)) 𝒱₀ (thr d i) none) Set.univ (token (F := F) i g l acc) (bitsSoFar d i X n g (l.val + 1)) := by
  have hl : l.val < 200 := lt_of_lt_of_eq l.isLt (by decide)
  unfold token
  simp only [Prog.lift, Prog.bind_op, Prog.bind_ret]
  rw [wp_assume_of _ _ _ _ (tokOk hg hl)]
  unfold bitsSoFar
  iintro ⟨%hacc, Ht⟩
  subst hacc
  ihave Ht' := (Entails.of_eq (pts_sT_access (F := F) _).symm) $$ Ht
  iapply (SparseCore.wp_vectorLoadIdx 𝒱₀ (thr d i) none Set.univ (base := (sT : Memref sig .scVector .vmem S25600 .i32)) (S := Finset.univ) (q := fullShare) (Finset.subset_univ _)) $$ Ht'
  iintro Ht'
  rw [wp_pure]
  imodintro
  isplitr
  · ipureintro
    rw [sT_read, token_step (F := F) X n hg hl]
  iapply (Entails.of_eq (pts_sT_access (F := F) _)) $$ Ht'

/-- The loop over the tokens of a group's sixteen rows: it leaves their bit masks. -/
theorem Lead.loop {c g k : Nat} {l : Scf.Loop 32} (ok) (init body) (hg : g < 8) (hk : k = 24) (hl : l = k0_t1_loop)
    (hi : init = broadcast S16 0#32) (hb : HEq body (token (F := F) i g)) :
    Lead d i X O₀ O W (Scf.Loop.for l ok init body) (.mid c g k) (.mid c (g+1) 0) (groupBits X (chunkNo i c) g) := by
  subst hk hl hi
  obtain rfl := eq_of_heq hb
  refine ⟨fun K h => ?_⟩
  unfold Runs at h ⊢
  simp only [Inv]
  iintro ⟨Hc, Htoks, Houts, Ht, ⟨%f, %hf, Ho⟩, Hs⟩
  iapply (Scf.wp_for_bind _ _ _ _ _ _ _ _ _ (bitsSoFar d i X (chunkNo i c) g) (token_wp X (chunkNo i c) hg)) $$ [Ht]
  · unfold bitsSoFar; isplitr
    · ipureintro; rfl
    iexact Ht
  unfold bitsSoFar
  iintro %acc ⟨%hacc, Ht⟩
  obtain rfl : acc = groupBits X (chunkNo i c) g := hacc
  iapply h
  simp only [Inv]
  isplitl [Hc]; · iexact Hc
  isplitl [Htoks]; · iexact Htoks
  isplitl [Houts]; · iexact Houts
  isplitl [Ht]; · iexact Ht
  isplitl [Ho]
  · iexists f; isplitr
    · ipureintro; exact Done.next X hf
    iexact Ho
  iexact Hs

end Task

end Cert.Proof.Tokens

end
-- ==== Proof.Body.lean ====
/-
  The body of a task, followed operation by operation: each of its operations is one of the steps of Steps.lean, so it
  leads from the task's start to its end, all four chunks done.
-/
module

public import proofs.«01_k».proof.Proof.Steps

@[expose] public section

noncomputable section

namespace Cert.Proof.Tokens

open Cert.KernelIdeal Cert.KernelIdeal.Gen
open Idealize.ShloMosaic Idealize.SL.Sem
open Idealize.ShloMosaic.SparseCore.Cfg (HIx)

variable {F : FTy → Type} [FloatOps F] {d : Dev nD} {i : grid0.Coords} {X : IVec S3276800 32} {O₀ : FVec F S393216 .f32}
  {O : CellTallies nD τ sig (HIx 1)} {W : Waits sig (HIx 1)}

set_option maxHeartbeats 4000000 in
set_option maxRecDepth 20000 in
/-- The task's body leads from no chunk done to all four done. -/
theorem body_leads :
    Lead d i X O₀ O W (cc0__histogram_body i xV (Memref.isWhole_whole _) oV (Memref.isWhole_whole _) sT (Memref.isWhole_whole _)
      sO (Memref.isWhole_whole _) cc0_scoped0 cc0_scoped1 cc0_scoped2 cc0_scoped3 cc0_scoped4 cc0_scoped5 cc0_scoped6 cc0_scoped7)
      (.idle 0) (.idle 4) ⟨⟩ := by
  repeat'
    first
    | with_reducible exact Lead.ret _ _
    | (with_reducible refine Lead.check ?_ ?_ ?_) <;> first | exact fun h => h | decide
    | (with_reducible refine Lead.store ?_ ?_ ?_ ?_) <;> first | decide | exact rfl
    | (with_reducible refine Lead.loop _ _ _ ?_ ?_ ?_ ?_ ?_) <;> first | decide | exact rfl | exact HEq.rfl
    | (with_reducible refine Lead.fetch ?_ ?_ ?_) <;> first | decide | exact rfl
    | (with_reducible refine Lead.fetched ?_ ?_ ?_) <;> first | decide | exact rfl
    | (with_reducible refine Lead.write ?_ ?_ ?_ ?_ ?_) <;> first | decide | exact rfl
    | (with_reducible refine Lead.written ?_ ?_ ?_) <;> first | decide | exact rfl
    | apply Lead.bind
    | refine Lead.written ?_ ?_ ?_ <;> first | decide | exact rfl

end Cert.Proof.Tokens

end
-- ==== Proof.Launch.lean ====
/-
  The program's run. The call hands each of the thirty-two tasks its four chunks of the token array and of the result
  array and takes them back with the results in place; @main lays the tokens out flat before the call and the results
  out in rows after it. Every weakly fair execution ends with the arguments unchanged, the result array at its closed
  form (`answer`) and every semaphore counter at zero.
-/
module

public import proofs.«01_k».proof.Proof.Body

@[expose] public section

noncomputable section

namespace Cert.Proof.Tokens

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds, the left factor of the algebra. -/
abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev aLoc (d : Dev nD) : Loc nD τ sig := (SparseCore.T d).loc main_arg0
abbrev kLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The tokens laid out flat. -/
def flat (d : Dev nD) : IVec S3276800 32 := shapeCast S3276800 (show IVec S16384x200 32 from m (aLoc d)) shapeCasts_S16384x200_S3276800
/-- The results in rows. -/
def answer (d : Dev nD) : FVec F S16384x24 .f32 := shapeCast S16384x24 (result (F := F) (flat m d)) shapeCasts_S393216_S16384x24

/-- What task `s` of core `c` is handed, and what it hands back: its four chunks of tokens and of results. -/
def share (d : Dev nD) (R : FVec F S393216 .f32) (c s : Nat) : sProp 𝕄 :=
  iprop((bigSep (Finset.range 4) fun c' => xLoc d ↦[tokSet (4 * (2 * s + c) + c')]{fullShare} flat m d)
    ∗ bigSep (Finset.range 4) fun c' => oLoc d ↦[outSet (4 * (2 * s + c) + c')]{fullShare} R)

instance share_storable (d : Dev nD) (R : FVec F S393216 .f32) (c s : Nat) : BI.Storable (upEmb : UEmb _ 𝕄) (share m d R c s) := by
  unfold share; infer_instance

/-- The call's payloads: each task's share, the result array at its launch contents on the way in and at the results on
    the way out. -/
def P : (K (F := F)).Pay (nD := nD) (Val := Elt F) (Name := ℕ) (U := UU) where
  st := fun q d c => bigSep Finset.univ fun s : Fin ((K (F := F)).nSub q) => share m d (m (oLoc d)) c.val s.val
  dn := fun q d c => bigSep Finset.univ fun s : Fin ((K (F := F)).nSub q) => share m d (result (flat m d)) c.val s.val
  go := fun _ d c s => share m d (m (oLoc d)) c.val s.val
  td := fun _ d c s => share m d (result (flat m d)) c.val s.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The task -/

section Tile

variable (d : Dev nD) (i : grid0.Coords) (O : CellTallies nD τ sig (HIx 1)) (W : Waits sig (HIx 1))

/-- A task's share, as the task's own invariant spells it. -/
theorem share_start :
    (share m d (m (oLoc d)) (i 0).val (i 1).val : sProp 𝕄)
      = iprop(toks d i (flat m d) (Finset.range 4) ∗ outs d i (flat m d) (m (oLoc d)) (Finset.range 4) 0) := by
  unfold share toks outs tokPts outPts
  simp only [Nat.not_lt_zero, ↓reduceIte]; rfl
theorem share_end :
    (share m d (result (flat m d)) (i 0).val (i 1).val : sProp 𝕄)
      = iprop(toks d i (flat m d) (Finset.range 4) ∗ outs d i (flat m d) (m (oLoc d)) (Finset.range 4) 4) := by
  unfold share toks outs tokPts outPts
  refine congrArg₂ (fun a b => iprop(a ∗ b)) rfl (bigSep_congr fun c' hc' => ?_)
  rw [if_pos (Finset.mem_range.mp hc')]; rfl

/-- The two scratch blocks are among the tile's own buffers: they are them, at some contents, and the rest. -/
theorem ownBufs_V :
    (ownBufs (thr d i) : sProp 𝕄)
      = iprop((∃ f, tPts d i f) ∗ (∃ f, oPts d i f)
          ∗ bigSep (((ownRefs (τ := τ) (thr d i).2).erase ((thr d i).2.devRef cc0_scratch0)).erase ((thr d i).2.devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := (thr d i).2) (b := (thr d i).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d i).2) (b := (thr d i).2.devRef cc0_scratch1) rfl⟩)]
  rfl

/-- The tile's own semaphores, as the invariant spells them. -/
theorem sems_own : (sems (ownCells (thr d i)) : sProp 𝕄) = ownSems0 (thr d i) := by
  unfold sems SparseCore.Cfg.ownSems0; rfl

/-- The task at grid point `i`: from its share at the launch contents to its share with the results in place. -/
theorem tile_body (hO : ∀ g, O g none = 0) :
    iprop(levAts (K (F := F)).L (K (F := F)).lev ∗ emp ∗ share m d (m (oLoc d)) (i 0).val (i 1).val
        ∗ scopedBufs (thr d i) ∗ scopedSems0 (thr d i) ∗ owes (thr d i) O W)
      ⊢ wp frame (wpE (defs₀ (F := F)) 𝒱₀ (thr d i) none) Set.univ
          (cc0__histogram_body i xV (Memref.isWhole_whole _) oV (Memref.isWhole_whole _) sT (Memref.isWhole_whole _)
            sO (Memref.isWhole_whole _) cc0_scoped0 cc0_scoped1 cc0_scoped2 cc0_scoped3 cc0_scoped4 cc0_scoped5 cc0_scoped6 cc0_scoped7)
          fun _ => iprop(share m d (result (flat m d)) (i 0).val (i 1).val ∗ scopedBufs (thr d i) ∗ scopedSems0 (thr d i)
            ∗ ∃ W', ⌜∀ p ∈ W', p ∈ W ∨ p.2 = none⌝ ∗ owes (thr d i) O W') := by
  have hrun : Runs d i (flat m d) (m (oLoc d)) O W (.idle 0)
      (cc0__histogram_body i xV (Memref.isWhole_whole _) oV (Memref.isWhole_whole _) sT (Memref.isWhole_whole _)
            sO (Memref.isWhole_whole _) cc0_scoped0 cc0_scoped1 cc0_scoped2 cc0_scoped3 cc0_scoped4 cc0_scoped5 cc0_scoped6 cc0_scoped7) := by
    have h := body_leads.run (d := d) (i := i) (X := flat m d) (O₀ := m (oLoc d)) (O := O) (W := W) pure (by
      unfold Runs Final
      rw [wp_pure]
      iintro H; imodintro; iexact H)
    rwa [bind_pure] at h
  unfold Runs at hrun
  rw [(K (F := F)).scopedBufs_V facts d _ _, SparseCore.Cfg.scopedSems0_V (Val := Elt F) d _ _, ownBufs_V, share_start, share_end]
  iintro ⟨#Hlv, -, ⟨Htoks, Houts⟩, ⟨Ht, Ho, Hbufs⟩, Hsems, HO⟩
  iapply (wp_mono frame _ _ (fun _ => (?hpost : iprop(Final d i (flat m d) (m (oLoc d)) O W ∗ bigSep _ fun b => iprop(∃ f, ((d, b) : Loc nD τ sig) ↦{fullShare} f)) ⊢ _)))
  case hpost =>
    simp only [Final, Inv, common]
    iintro ⟨⟨⟨-, HO⟩, Htoks, Houts, Ht, Ho, Hsems⟩, Hbufs⟩
    isplitl [Htoks Houts]; · isplitl [Htoks] <;> iassumption
    isplitl [Ht Ho Hbufs]
    · isplitl [Ht]; · iexact Ht
      isplitl [Ho]; · iexact Ho
      iexact Hbufs
    isplitl [Hsems]; · iapply (Entails.of_eq (sems_own d i)) $$ Hsems
    iexact HO
  iapply (wp_frame_r)
  isplitr [Hbufs]
  · iapply hrun
    simp only [Inv, common]
    isplitl [HO]
    · isplitr
      · iapply (show levAts (K (F := F)).L (K (F := F)).lev ⊢ Transfers.MayWaits (thr d i) (default : HIx 1) O from
          (K (F := F)).mayWaits_none (thr := thr d i) hO)
        iexact Hlv
      iexists W; isplitr
      · ipureintro; exact fun p hp => .inl hp
      iexact HO
    isplitl [Htoks]; · iexact Htoks
    isplitl [Houts]; · iexact Houts
    isplitl [Ht]; · iexact Ht
    isplitl [Ho]; · iexact Ho
    iapply (Entails.of_eq (sems_own d i).symm) $$ Hsems
  iexact Hbufs

end Tile

end Cert.Proof.Tokens

end
-- ==== Proof.Run.lean ====
/-
  @main's run on the TensorCore and the whole program's: the arrays cut into the tasks' chunks and joined again, the two
  host reshapes around the call, and the program's run with the launch theorem.
-/
module

public import proofs.«01_k».proof.Proof.Launch

@[expose] public section

noncomputable section

namespace Cert.Proof.Tokens

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch theorem's obligations for the call -/

/-- Core `c`'s subcore `s` as the task's grid point. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__histogram_body (coordsV c s)
          xV (Memref.isWhole_whole _) oV (Memref.isWhole_whole _) sT (Memref.isWhole_whole _) sO (Memref.isWhole_whole _)
          cc0_scoped0 cc0_scoped1 cc0_scoped2 cc0_scoped3 cc0_scoped4 cc0_scoped5 cc0_scoped6 cc0_scoped7) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore's run of the call is its task at its grid point. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) O W hO).trans (wp_mono frame _ _ fun _ => obl_post)

/-- A core's payload is its subcores' shares, both ways. -/
theorem vecSplit : (K (F := F)).VecSplit' (P m) 0 := by
  intro d c
  unfold P; dsimp only
  iintro H
  imodintro
  isplitl [H]; · iexact H
  iintro H; iexact H

/-! ## The launch element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hemp : ∀ {I : Type} (s : Finset I), (bigSep s fun _ => iprop(emp)) = (iprop(emp) : sProp 𝕄) := fun s => bigSep_emp_const s
  unfold u₀ P
  simp only [hemp]
  iintro Hu
  ihave H := (ownU_pair _ _) $$ Hu
  icases H with ⟨HH, -⟩
  imodintro
  isplitl [HH]; · iexact HH
  isplitr <;> iempintro

/-! ## Arrays in chunks -/

/-- An array whose entries are numbered by chunk, the number below 128, splits into the four chunks of every task. -/
theorem split_chunks {ℓ : Loc nD τ sig} (key : Idx ℓ → ℕ) (hkey : ∀ p, key p < 128) (f : Buf (Elt F) ℓ) :
    (ℓ ↦{fullShare} f : sProp 𝕄)
      = bigSep (Finset.univ : Finset (Fin 2)) fun c => bigSep (Finset.univ : Finset (Fin 16)) fun s =>
          bigSep (Finset.range 4) fun c' => ℓ ↦[Finset.univ.filter fun p => key p = 4 * (2 * s.val + c.val) + c']{fullShare} f := by
  have h₁ : (Finset.univ : Finset (Idx ℓ)) = (Finset.univ : Finset (Fin 2)).biUnion fun c => Finset.univ.filter fun p => key p / 4 % 2 = c.val := by
    ext p; simp only [Finset.mem_univ, Finset.mem_biUnion, Finset.mem_filter, true_and, true_iff]
    exact ⟨⟨key p / 4 % 2, Nat.mod_lt _ (by omega)⟩, rfl⟩
  have h₂ : ∀ c : Fin 2, (Finset.univ.filter fun p => key p / 4 % 2 = c.val)
      = (Finset.univ : Finset (Fin 16)).biUnion fun s => Finset.univ.filter fun p => key p / 4 = 2 * s.val + c.val := by
    intro c; ext p; simp only [Finset.mem_univ, Finset.mem_biUnion, Finset.mem_filter, true_and]
    have := hkey p; have := c.isLt
    constructor
    · intro h; exact ⟨⟨key p / 8, by omega⟩, by dsimp only; omega⟩
    · rintro ⟨s, hs⟩; omega
  have h₃ : ∀ n : ℕ, (Finset.univ.filter fun p => key p / 4 = n) = (Finset.range 4).biUnion fun c' => Finset.univ.filter fun p => key p = 4 * n + c' := by
    intro n; ext p; simp only [Finset.mem_univ, Finset.mem_biUnion, Finset.mem_filter, true_and, Finset.mem_range]
    constructor
    · intro h; exact ⟨key p % 4, by omega, by omega⟩
    · rintro ⟨c', hc', h⟩; omega
  have hd : ∀ {I : Type} (S : Finset I) (g : I → Idx ℓ → Prop) [∀ a, DecidablePred (g a)], (∀ a ∈ S, ∀ b ∈ S, ∀ p, g a p → g b p → a = b)
      → ∀ a ∈ S, ∀ b ∈ S, a ≠ b → Disjoint (Finset.univ.filter (g a)) (Finset.univ.filter (g b)) := by
    intro I S g _ h a ha b hb hab
    rw [Finset.disjoint_left]; intro p hp hp'
    exact hab (h a ha b hb p (Finset.mem_filter.mp hp).2 (Finset.mem_filter.mp hp').2)
  refine (congrArg (fun I => (ℓ ↦[I]{fullShare} f : sProp 𝕄)) h₁).trans ?_
  rw [pointsTo_biUnion _ _ (hd _ _ fun a _ b _ p h h' => Fin.ext (h.symm.trans h'))]
  refine bigSep_congr fun c _ => ?_
  rw [h₂ c, pointsTo_biUnion _ _ (hd _ _ fun a _ b _ p h h' => Fin.ext (by omega))]
  refine bigSep_congr fun s _ => ?_
  rw [h₃, pointsTo_biUnion _ _ (hd _ _ fun a _ b _ p h h' => by omega)]

/-- The call's payload over both cores is the two arrays whole. -/
theorem shares_eq (d : Dev nD) (R : FVec F S393216 .f32) :
    (bigSep (Finset.univ : Finset (Fin 2)) fun c => bigSep (Finset.univ : Finset (Fin 16)) fun s => share m d R c.val s.val : sProp 𝕄)
      = iprop((xLoc d ↦{fullShare} flat m d) ∗ oLoc d ↦{fullShare} R) := by
  refine ((bigSep_congr fun c _ => bigSep_sep _ _ _).trans (bigSep_sep _ _ _)).trans (congrArg₂ (fun a b => iprop(a ∗ b)) ?_ ?_)
  · refine (split_chunks (ℓ := xLoc d) (fun p => (p 0).val / 25600) (fun p => ?_) (flat m d)).symm
    have : (p 0).val < 3276800 := (p 0).isLt
    omega
  · refine (split_chunks (ℓ := oLoc d) (fun p => (p 0).val / 3072) (fun p => ?_) R).symm
    have : (p 0).val < 393216 := (p 0).isLt
    omega

theorem st0_eq (d : Dev nD) : (bigSep Finset.univ fun c : Fin ((K (F := F)).nCore 0) => (P m).st 0 d c)
    = iprop((xLoc d ↦{fullShare} flat m d) ∗ oLoc d ↦{fullShare} m (oLoc d)) := shares_eq m d _
theorem dn0_eq (d : Dev nD) : (bigSep Finset.univ fun c : Fin ((K (F := F)).nCore 0) => (P m).dn 0 d c)
    = iprop((xLoc d ↦{fullShare} flat m d) ∗ oLoc d ↦{fullShare} result (flat m d)) := shares_eq m d _

/-! ## @main on the TensorCore -/

abbrev a' : DevRef τ sig := Proc.devRef .tc (main_arg0 : Ref sig .tc)
abbrev k' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 (rfl : (.i32 : EltTy) = .i32) shapeCasts_S16384x200_S3276800
abbrev opOut : HloOp τ sig (Elt F) := StableHlo.reshape main_v1 main_v2 (rfl : (.f32 : EltTy) = .f32) shapeCasts_S393216_S16384x24

/-- The TensorCore's arrays, all unscoped. -/
abbrev S5 : Finset (DevRef τ sig) := {a', k', x', o', r'}

theorem held_S5 (d : Dev nD) (W : Valuation τ sig (Elt F)) :
    (held (T d) S5 W : sProp 𝕄) = iprop((aLoc d ↦{fullShare} W a') ∗ (kLoc d ↦{fullShare} W k') ∗ (xLoc d ↦{fullShare} W x')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (kLoc d ↦{fullShare} W main_arg1) ∗ (xLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation, the one the call starts from, the one it leaves. -/
def V0 (d : Dev nD) : Valuation τ sig (Elt F) := fun b => m (d, b)
def V1 (d : Dev nD) : Valuation τ sig (Elt F) := Function.update (V0 m d) x' (flat m d)
def V2 (d : Dev nD) : Valuation τ sig (Elt F) := Function.update (V1 m d) o' (result (flat m d))

theorem unscoped_held (d : Dev nD) : (unscopedBufs d (fun b => m ((SparseCore.T d).loc b)) : sProp 𝕄) = held (T d) S5 (V0 m d) := by
  rw [unscopedBufs_eq, held_S5]; rfl

/-- After the first reshape. -/
theorem held_V1 (d : Dev nD) :
    (held (T d) S5 ((opIn (F := F)).result (V0 m d)) : sProp 𝕄) = iprop((aLoc d ↦{fullShare} m (aLoc d)) ∗ (kLoc d ↦{fullShare} m (kLoc d))
      ∗ (xLoc d ↦{fullShare} flat m d) ∗ (oLoc d ↦{fullShare} m (oLoc d)) ∗ rLoc d ↦{fullShare} m (rLoc d)) := by
  rw [held_S5, StableHlo.reshape_result, StableHlo.reshape_result_ne _ _ _ _ _ _ _ (by decide), StableHlo.reshape_result_ne _ _ _ _ _ _ _ (by decide),
    StableHlo.reshape_result_ne _ _ _ _ _ _ _ (by decide), StableHlo.reshape_result_ne _ _ _ _ _ _ _ (by decide)]
  rfl

/-- Before the second reshape. -/
theorem held_V2 (d : Dev nD) :
    (held (T d) S5 (V2 m d) : sProp 𝕄) = iprop((aLoc d ↦{fullShare} m (aLoc d)) ∗ (kLoc d ↦{fullShare} m (kLoc d))
      ∗ (xLoc d ↦{fullShare} flat m d) ∗ (oLoc d ↦{fullShare} result (flat m d)) ∗ rLoc d ↦{fullShare} m (rLoc d)) := by
  have hne : ∀ b, b ≠ o' → V2 m d b = V1 m d b := fun b h => Function.update_of_ne h _ _
  have hne' : ∀ b, b ≠ x' → V1 m d b = V0 m d b := fun b h => Function.update_of_ne h _ _
  rw [held_S5, hne a' (by decide), hne k' (by decide), hne x' (by decide), hne r' (by decide), hne' a' (by decide), hne' k' (by decide), hne' r' (by decide),
    show V2 m d o' = result (flat m d) from Function.update_self _ _ _, show V1 m d x' = flat m d from Function.update_self _ _ _]
  rfl

/-- What @main leaves the claim: the arguments at their launch contents, the result array at the answer. -/
abbrev FIN (d : Dev nD) : sProp 𝕄 :=
  iprop((aLoc d ↦{fullShare} m (aLoc d)) ∗ (kLoc d ↦{fullShare} m (kLoc d)) ∗ rLoc d ↦{fullShare} answer m d)

/-- After the second reshape. -/
theorem held_V3 (d : Dev nD) :
    (held (T d) S5 ((opOut (F := F)).result (V2 m d)) : sProp 𝕄) ⊢ FIN m d := by
  have hne : ∀ b, b ≠ o' → V2 m d b = V1 m d b := fun b h => Function.update_of_ne h _ _
  have hne' : ∀ b, b ≠ x' → V1 m d b = V0 m d b := fun b h => Function.update_of_ne h _ _
  rw [held_S5, StableHlo.reshape_result, StableHlo.reshape_result_ne _ _ _ _ _ _ _ (by decide), StableHlo.reshape_result_ne _ _ _ _ _ _ _ (by decide),
    StableHlo.reshape_result_ne _ _ _ _ _ _ _ (by decide), StableHlo.reshape_result_ne _ _ _ _ _ _ _ (by decide),
    hne a' (by decide), hne k' (by decide), hne' a' (by decide), hne' k' (by decide),
    show V2 m d o' = result (flat m d) from Function.update_self _ _ _]
  iintro ⟨Ha, Hk, -, -, Hr⟩
  isplitl [Ha]; · iexact Ha
  isplitl [Hk]; · iexact Hk
  iexact Hr

theorem hIn : (opIn (F := F)).bufs ⊆ S5 := show ({a', x'} : Finset (DevRef τ sig)) ⊆ S5 by decide
theorem hOut : (opOut (F := F)).bufs ⊆ S5 := show ({o', r'} : Finset (DevRef τ sig)) ⊆ S5 by decide

/-- @main on device `d`'s TensorCore: the tokens flattened, the call over the flat arrays, the results laid out in rows. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  ihave Hh := (Entails.of_eq (held_V1 m d)) $$ Hheld
  icases Hh with ⟨Ha, Hk, Hx, Ho, Hr⟩
  rw [wp_ret]; imodintro
  iapply ((K (F := F)).wp_run (D (F := F)) 𝒱 (EH := EH) (P := P m) κ d 0) $$ [Hst Ha Hk Hx Ho Hr Hb Hts]
  isplitr; · iexact Hctx
  isplitl [Hst]; · iexact Hst
  isplitl [Hx Ho]
  · rw [st0_eq]
    isplitl [Hx] <;> iassumption
  iintro ⟨Hst, Hdn⟩
  ihave Hdn' := (Entails.of_eq (dn0_eq m d)) $$ Hdn
  icases Hdn' with ⟨Hx, Ho⟩
  iapply (wp_hlo_within 𝒱 (SparseCore.T d) none Set.univ (op := opOut) (S := S5) hOut (V := V2 m d)) $$ [Hb Ha Hk Hx Ho Hr]
  · isplitl [Hb]; · iexact Hb
    rw [held_V2]
    isplitl [Ha]; · iexact Ha
    isplitl [Hk]; · iexact Hk
    isplitl [Hx]; · iexact Hx
    isplitl [Ho]; · iexact Ho
    iexact Hr
  iintro ⟨Hb, Hheld⟩
  ihave Hh := (held_V3 m d) $$ Hheld
  rw [wp_ret]; imodintro; imodintro
  isplitl [Hst]; · iexact Hst
  isplitl [Hh]; · iexact Hh
  isplitl [Hb] <;> iassumption

/-! ## The program's run -/

def fq (d : Dev nD) (s' : Phys nD τ sig (Elt F)) : Prop :=
  s'.mem.mem (aLoc d) = m (aLoc d) ∧ s'.mem.mem (kLoc d) = m (kLoc d) ∧ s'.mem.mem (rLoc d) = answer m d

theorem hfin (d : Dev nD) (s' : Phys nD τ sig (Elt F)) : iprop(FIN m d ∗ SI s') ⊢ (⌜fq m d s'⌝ : sProp 𝕄) := by
  have agree : ∀ (ℓ : Loc nD τ sig) (f : Buf (Elt F) ℓ), iprop(SI s' ∗ ℓ ↦{fullShare} f) ⊢ (⌜s'.mem.mem ℓ = f⌝ : sProp 𝕄) := fun ℓ f =>
    (SI_pointsTo_agree (st := s') (ℓ := ℓ) (I := Finset.univ) (q := fullShare) (f := f)).trans
      (Laws.pure_mono fun h => funext fun j => h j (Finset.mem_univ j))
  iintro ⟨⟨Ha, Hk, Hr⟩, HSI⟩
  ihave H := (persistent_entails_right (agree (aLoc d) (m (aLoc d)))) $$ [HSI Ha]
  · isplitl [HSI] <;> iassumption
  icases H with ⟨%ha, HSI, -⟩
  ihave H := (persistent_entails_right (agree (kLoc d) (m (kLoc d)))) $$ [HSI Hk]
  · isplitl [HSI] <;> iassumption
  icases H with ⟨%hk, HSI, -⟩
  ihave H := (agree (rLoc d) (answer m d)) $$ [HSI Hr]
  · isplitl [HSI] <;> iassumption
  icases H with %hr
  ipureintro; exact ⟨ha, hk, hr⟩

def QC : PUnit × MemSt nD τ sig (Elt F) → Prop := fun r =>
  (∀ c : Dev nD, r.2.mem (aLoc c) = m (aLoc c) ∧ r.2.mem (kLoc c) = m (kLoc c) ∧ r.2.mem (rLoc c) = answer m c) ∧ r.2.sem = fun _ => 0

/-- Every weakly fair execution of the program's threads terminates with the arguments unchanged, the result array at the
    answer and every semaphore counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tokens

end
-- ==== Proof.Frames.lean ====
/-
  The frames: each program terminates, leaves its arguments as they were and every semaphore counter at zero. The printed
  kernel and its ideal reading are one text, so `run_main`, proved for any reading of the floats, serves both.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_all_valid

@[expose] public section

noncomputable section

namespace Cert.Proof.Tokens

open Idealize.ShloMosaic Idealize.SL.Sem

set_option maxRecDepth 20000 in
set_option maxHeartbeats 0 in
/-- `run_main` at bit patterns, of the kernel as printed. -/
theorem kernel_run (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩ (QC (F := Bits) m) :=
  run_main (F := Bits) m ρ

/-- The kernel's frame. -/
theorem frame_kernel : Cert.quiescent_Kernel := fun m ρ _ =>
  (θ_run Cert.Kernel.defs _ _).mono (fun _ h => ⟨fun c => ⟨(h.1 c).1, (h.1 c).2.1⟩, h.2⟩) (kernel_run m ρ)

/-- The ideal kernel's frame. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference's frame: it runs on the host alone and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The frames under the precondition are the frames. -/
theorem frame_ideal_valid : Cert.quiescent_KernelIdeal_pre_all_valid := fun m ρ _ => frame_ideal m ρ trivial
theorem frame_reference_valid : Cert.quiescent_ReferenceIdeal_pre_all_valid := fun m ρ _ => frame_reference m ρ trivial

end Cert.Proof.Tokens

end
-- ==== Proof.Reference.lean ====
/-
  What the reference computes where every token counts and none is negative: element `(r, c)` is one if row `r` holds
  token `c`, else zero.
-/
module

public import proofs.«01_k».proof.Proof.Gen.ReferenceIdeal
public import proofs.«01_k».proof.Proof.Gen.Pre_all_valid
public import Idealize.ShloMosaic.PureOps.Ideal
public import Idealize.ShloMosaic.Lib.Pointwise
public import Idealize.ShloMosaic.Lib.IdealHost
public import Idealize.ShloMosaic.Lib.ReduceAll

@[expose] public section

noncomputable section

namespace Cert.Proof.Reference

open Cert.ReferenceIdeal Cert.ReferenceIdeal.Gen
open Idealize.ShloMosaic Idealize.SL.Sem

/-- The mask as the reference mends it: a row without any token gets its first one. -/
def safeMask (k : IVec S16384x200 1) : IVec S16384x200 1 :=
  Host.scatter scatter_S16384x200_S1_S16384_0_1_1_0 (fun _ b => b) k (broadcastInDim S1 ![] bcast_S_S1 (constantI S_ 32 0#32))
    (ori (shapeCast _ (extractStridedSlice S16384x1 ![0, 0] k slices_S16384x200_S16384x1_0_0) shapeCasts_S16384x1_S16384)
      (noti (Host.reduce IntOp.ori k (constantI S_ 1 0#1) reducesTo_S16384x200_S16384_d1 h_S_)))

/-- The tokens clipped to the classes. -/
def clipped (a : IVec S16384x200 32) : IVec S16384x200 32 :=
  minsi (broadcastInDim S16384x200 ![] bcast_S_S16384x200 (id (constantI S_ 32 23#32)))
    (maxsi (broadcastInDim S16384x200 ![] bcast_S_S16384x200 (id (constantI S_ 32 0#32))) a)

/-- The one-hot rows of the clipped tokens, masked by `w`. -/
def hits (a : IVec S16384x200 32) (w : IVec S16384x200 1) : FVec Ideal S16384x200x24 .f32 :=
  mulf (uitofp .f32 (cmpi .eq
      (broadcastInDim S16384x200x24 ![0, 1, 2] bcast_S16384x200x1_S16384x200x24_0_1_2
        (broadcastInDim S16384x200x1 ![0, 1] bcast_S16384x200_S16384x200x1_0_1 (clipped a)))
      (broadcastInDim S16384x200x24 ![0, 1, 2] bcast_S1x1x24_S16384x200x24_0_1_2 (iotaInDim S1x1x24 32 2))))
    (broadcastInDim S16384x200x24 ![0, 1, 2] bcast_S16384x200x1_S16384x200x24_0_1_2
      (broadcastInDim S16384x200x1 ![0, 1] bcast_S16384x200_S16384x200x1_0_1
        (uitofp .f32 (andi w (cmpi .slt a (broadcastInDim S16384x200 ![] bcast_S_S16384x200 (constantI S_ 32 24#32)))))))

/-- The reference's result. -/
def value (a : IVec S16384x200 32) (k : IVec S16384x200 1) : FVec Ideal S16384x24 .f32 :=
  uitofp .f32 (cmpf .ogt (Host.reduceAdd (hits a (safeMask k)) (constant S_ .f32 0x00000000#32) reducesTo_S16384x200x24_S16384x24_d1 h_S_)
    (broadcastInDim S16384x24 ![] bcast_S_S16384x24 (constant S_ .f32 0x00000000#32)))

/-- Writing the operand's own constant anywhere into it changes nothing. -/
theorem scatter_const {α : Type} {s si u : Shape} {w : Nat} (d : ScatterDims s si u) (v : α) (x : s.Idx → α) (idx : IVec si w) (upd : u.Idx → α)
    (hx : ∀ i, x i = v) (hu : ∀ j, upd j = v) : ∀ i, Host.scatter d (fun _ b => b) x idx upd i = v := by
  unfold Host.scatter
  generalize List.finRange u.numel = L
  induction L generalizing x with
  | nil => exact hx
  | cons n L ih =>
    refine ih _ fun i => ?_
    dsimp only
    generalize d.resultIdx? (u.rowMajor.symm n) idx = o
    cases o with
    | none => exact hx i
    | some i' =>
      dsimp only
      split
      · exact hu _
      · exact hx i

/-- A mask of ones stays one. -/
theorem safeMask_ones {k : IVec S16384x200 1} (hk : ∀ p, k p = 1#1) : safeMask k = fun _ => 1#1 := by
  have hor : ∀ b : BitVec 1, IntOp.ori 1#1 b = 1#1 := by decide
  refine funext (scatter_const _ _ _ _ _ hk fun j => ?_)
  show IntOp.ori (k _) _ = 1#1
  rw [hk]; exact hor _

/-- A one-bit word, as a float: one or zero. -/
theorem uitofp_ofBool (b : Bool) : (FloatOps.uitofp .f32 (BitVec.ofBool b) : Ideal .f32) = (if b = true then 1 else 0 : EReal) := by
  show (((BitVec.ofBool b).toNat : ℝ) : EReal) = _
  cases b <;> simp

/-- A token that is not negative, clipped to the classes, is class `c` and is itself a class just when it is `c`. -/
theorem clip_iff {x : BitVec 32} (hx : 0 ≤ x.toInt) {c : ℕ} (hc : c < 24) :
    ((IntOp.minsi 23#32 (IntOp.maxsi 0#32 x) == BitVec.ofNat 32 c) = true ∧ x.slt 24#32 = true) ↔ x.toNat = c := by
  have hlt : x.toNat < 2 ^ 31 := by
    rw [BitVec.toInt_eq_toNat_cond] at hx
    have := x.isLt
    split at hx <;> omega
  have hint : x.toInt = x.toNat := BitVec.toInt_eq_toNat_of_lt (by omega)
  have hmax : IntOp.maxsi 0#32 x = x := by
    unfold IntOp.maxsi
    split
    · rename_i h
      rw [BitVec.slt_iff_toInt_lt] at h
      exact absurd h (by simpa using hx)
    · rfl
  rw [hmax, beq_iff_eq, BitVec.slt_iff_toInt_lt, hint, show (24#32 : BitVec 32).toInt = 24 from rfl]
  unfold IntOp.minsi
  constructor
  · rintro ⟨h, h'⟩
    split at h
    · rename_i h''
      rw [BitVec.slt_iff_toInt_lt, hint, show (23#32 : BitVec 32).toInt = 23 from rfl] at h''
      have h₀ := congrArg BitVec.toNat h
      simp only [BitVec.toNat_ofNat] at h₀
      omega
    · rw [h, BitVec.toNat_ofNat]; omega
  · intro h
    refine ⟨?_, by omega⟩
    split
    · rename_i h''
      rw [BitVec.slt_iff_toInt_lt, hint, show (23#32 : BitVec 32).toInt = 23 from rfl] at h''
      omega
    · exact BitVec.eq_of_toNat_eq (by rw [BitVec.toNat_ofNat]; omega)

set_option maxRecDepth 16384 in
/-- One masked hit, as the reference computes it: one where the token is the class. -/
theorem hits_apply (a : IVec S16384x200 32) (r : Fin 16384) (l : Fin 200) (c : Fin 24) (ha : 0 ≤ (a (ix2 r l)).toInt) :
    hits a (fun _ => 1#1) (ix3 r l c) = (if (a (ix2 r l)).toNat = c.val then 1 else 0 : EReal) := by
  unfold hits clipped
  pointwise
  have h1 : ∀ b : BitVec 1, IntOp.andi 1#1 b = b := by decide
  rw [h1]
  refine (congrArg₂ (fun x y : EReal => x * y)
    (uitofp_ofBool (IntOp.minsi 23#32 (IntOp.maxsi 0#32 (a (ix2 r l))) == BitVec.ofNat 32 c.val)) (uitofp_ofBool ((a (ix2 r l)).slt 24#32))).trans ?_
  rw [← if_congr (clip_iff ha c.isLt) rfl rfl]
  split <;> split <;> simp_all

/-- A sum of ones and zeros over the tokens of a row is positive just when one of them is one. -/
theorem sum_pos (p : Fin 200 → Prop) [DecidablePred p] : (0 : EReal) < (∑ l, if p l then (1 : EReal) else 0) ↔ ∃ l, p l := by
  constructor
  · intro h
    by_contra hn
    rw [Finset.sum_eq_zero fun l _ => if_neg fun hl => hn ⟨l, hl⟩] at h
    exact lt_irrefl _ h
  · rintro ⟨l, hl⟩
    refine lt_of_lt_of_le zero_lt_one ?_
    refine le_trans (le_of_eq (if_pos hl).symm) (Finset.single_le_sum (f := fun l => if p l then (1 : EReal) else 0) (fun i _ => ?_) (Finset.mem_univ l))
    split
    · exact zero_le_one
    · exact le_refl _

set_option maxRecDepth 16384 in
/-- Element `(r, c)` of the reference's result, where every token counts and none is negative. -/
theorem value_apply (a : IVec S16384x200 32) (k : IVec S16384x200 1) (hk : ∀ p, k p = 1#1) (ha : ∀ p, 0 ≤ (a p).toInt) (r : Fin 16384) (c : Fin 24) :
    value a k (ix2 r c) = (if ∃ l : Fin 200, (a (ix2 r l)).toNat = c.val then 1 else 0 : EReal) := by
  unfold value
  rw [safeMask_ones hk]
  generalize hh : hits a (fun _ => 1#1) = h
  pointwise
  subst hh
  rw [Finset.sum_congr rfl fun l _ => hits_apply a r l c (ha _)]
  refine (uitofp_ofBool _).trans (if_congr ?_ rfl rfl)
  rw [decide_eq_true_iff]
  exact sum_pos _

/-- The precondition, element by element. -/
theorem all_valid_apply {a : IVec S16384x200 32} {k : IVec S16384x200 1} (h : Cert.Pre_all_valid.fn (F := Ideal) a k = fun _ => 1#1) :
    (∀ p, k p = 1#1) ∧ ∀ p, 0 ≤ (a p).toInt := by
  have h₀ := congrFun h (fun x => x.elim0)
  dsimp only [Cert.Pre_all_valid.fn] at h₀
  have hand : ∀ x y : BitVec 1, IntOp.andi x y = 1#1 → x = 1#1 ∧ y = 1#1 := by decide
  obtain ⟨h₁, h₂⟩ := hand _ _ h₀
  have : Subsingleton Cert.Pre_all_valid.S_.Idx := ⟨fun x y => funext fun b => b.elim0⟩
  refine ⟨fun p => Host.reduce_andi_all _ _ _ _ _ h₁ p, fun p => ?_⟩
  have hge : IntOp.cmpi .sge (a p) 0#32 = 1#1 := Host.reduce_andi_all _ _ _ _ _ h₂ p
  have hsle : (0#32 : BitVec 32).sle (a p) = true := by
    by_contra hn
    rw [Bool.not_eq_true] at hn
    simp only [IntOp.cmpi, hn] at hge
    exact absurd hge (by decide)
  rw [BitVec.sle_iff_toInt_le] at hsle
  simpa using hsle

end Cert.Proof.Reference

end
-- ==== Proof.Answer.lean ====
/-
  The kernel's answer over the reals: element `(r, k)` is one if row `r` holds token `k`, else zero; so it is the
  reference's, where every token counts and none is negative.
-/
module

public import proofs.«01_k».proof.Proof.Run
public import proofs.«01_k».proof.Proof.Reference

@[expose] public section

noncomputable section

namespace Cert.Proof.Tokens

open Cert.KernelIdeal Cert.KernelIdeal.Gen
open Idealize.ShloMosaic Idealize.SL.Sem

/-- Bit `k` of one shifted by a token is set just when the token is `k`. -/
theorem shifted_bit (x : BitVec 32) {k : ℕ} (hk : k < 32) : (IntOp.shli .vector 1#32 x).getLsbD k = true ↔ x.toNat = k := by
  unfold IntOp.shli
  split
  · rw [BitVec.shiftLeft_eq', BitVec.getLsbD_shiftLeft]
    simp only [BitVec.getLsbD_one, Bool.and_eq_true, decide_eq_true_eq, Bool.not_eq_true', decide_eq_false_iff_not]
    omega
  · rename_i h
    have : IntOp.cornerWord (w := 32) .vector .shli 1#32 x = 0#32 := by simp [IntOp.cornerWord]
    rw [this, BitVec.getLsbD_zero]
    constructor
    · intro h'; exact absurd h' (by decide)
    · intro h'; omega

/-- Bit `k` of the mask of a row's first `l` tokens is set just when one of them is `k`. -/
theorem prefix_bit (X : IVec S3276800 32) (r : ℕ) {k : ℕ} (hk : k < 32) (l : ℕ) :
    (prefixBits X r l).getLsbD k = true ↔ ∃ j < l, (tok X (r * 200 + j)).toNat = k := by
  induction l with
  | zero =>
    show (0#32 : BitVec 32).getLsbD k = true ↔ _
    simp
  | succ l ih =>
    rw [prefixBits_succ]
    show ((prefixBits X r l) ||| _).getLsbD k = true ↔ _
    rw [BitVec.getLsbD_or, Bool.or_eq_true, ih, shifted_bit _ hk]
    constructor
    · rintro (⟨j, hj, h⟩ | h)
      · exact ⟨j, by omega, h⟩
      · exact ⟨l, by omega, h⟩
    · rintro ⟨j, hj, h⟩
      rcases Nat.lt_succ_iff_lt_or_eq.mp hj with hj | rfl
      · exact .inl ⟨j, hj, h⟩
      · exact .inr h

/-- A bit of a mask, as a real. -/
theorem cell_ideal (b : BitVec 32) {k : ℕ} (hk : k < 24) : (cell b k : Ideal .f32) = (if b.getLsbD k = true then 1 else 0 : EReal) := by
  have hbit : IntOp.andi (IntOp.shrsi .vector b (BitVec.ofNat 32 k)) 1#32 = if b.getLsbD k = true then 1#32 else 0#32 := by
    have hs : (BitVec.ofNat 32 k).toNat = k := by rw [BitVec.toNat_ofNat]; omega
    unfold IntOp.shrsi
    rw [hs, if_pos (by omega)]
    show b.sshiftRight' (BitVec.ofNat 32 k) &&& 1#32 = _
    rw [BitVec.sshiftRight_eq', hs]
    refine BitVec.eq_of_getLsbD_eq fun i hi => ?_
    rw [BitVec.getLsbD_and, BitVec.getLsbD_one, BitVec.getLsbD_sshiftRight]
    by_cases h0 : i = 0
    · subst h0
      have hk' : k < 32 := by omega
      cases hb : b.getLsbD k <;> simp [hb, hk']
    · cases hb : b.getLsbD k <;> split <;> simp [h0]
  show (((IntOp.andi (IntOp.shrsi .vector b (BitVec.ofNat 32 k)) 1#32).toInt : ℝ) : EReal) = _
  rw [hbit]
  split <;> simp

set_option maxRecDepth 16384 in
/-- Word `200 r + l` of the flat tokens is token `l` of row `r`. -/
theorem tok_flat (a : IVec S16384x200 32) (r : Fin 16384) (l : Fin 200) :
    tok (shapeCast S3276800 a shapeCasts_S16384x200_S3276800) (r.val * 200 + l.val) = a (ix2 r l) := by
  unfold tok
  rw [dif_pos (by omega)]
  pointwise

set_option maxRecDepth 16384 in
/-- Element `(r, c)` of the results in rows is element `24 r + c` of the flat ones. -/
theorem rows_apply (R : FVec Ideal S393216 .f32) (r : Fin 16384) (c : Fin 24) :
    shapeCast S16384x24 R shapeCasts_S393216_S16384x24 (ix2 r c) = R (ix1 ⟨r.val * 24 + c.val, by omega⟩) := by
  pointwise

/-- Element `(r, c)` of the kernel's answer. -/
theorem answer_apply (m : (ℓ : Loc nD τ sig) → Buf (Elt Ideal) ℓ) (d : Dev nD) (a : IVec S16384x200 32) (ha : m (aLoc d) = a) (r : Fin 16384) (c : Fin 24) :
    answer m d (ix2 r c) = (if ∃ l : Fin 200, (a (ix2 r l)).toNat = c.val then 1 else 0 : EReal) := by
  have hc := c.isLt
  unfold answer
  rw [rows_apply]
  show (cell (rowBits (flat m d) ((r.val * 24 + c.val) / 24)) ((r.val * 24 + c.val) % 24) : Ideal .f32) = _
  rw [show (r.val * 24 + c.val) / 24 = r.val by omega, show (r.val * 24 + c.val) % 24 = c.val by omega, cell_ideal _ hc]
  refine if_congr ?_ rfl rfl
  unfold rowBits flat
  rw [prefix_bit _ _ (by omega), ha]
  constructor
  · rintro ⟨j, hj, h⟩
    exact ⟨⟨j, hj⟩, (congrArg BitVec.toNat (tok_flat a r ⟨j, hj⟩)).symm.trans h⟩
  · rintro ⟨l, h⟩
    exact ⟨l.val, l.isLt, (congrArg BitVec.toNat (tok_flat a r l)).trans h⟩

/-- The kernel's answer is the reference's, where every token counts and none is negative. -/
theorem answer_eq (m : (ℓ : Loc nD τ sig) → Buf (Elt Ideal) ℓ) (d : Dev nD)
    (h : Cert.Pre_all_valid.fn (F := Ideal) (m (aLoc d)) (m (kLoc d)) = fun _ => 1#1) :
    answer m d = Reference.value (m (aLoc d)) (m (kLoc d)) := by
  obtain ⟨hk, ha⟩ := Reference.all_valid_apply h
  funext p
  obtain ⟨r, c, rfl⟩ : ∃ (r : Fin 16384) (c : Fin 24), p = ix2 r c := ⟨p 0, p 1, eq_ix2 p⟩
  rw [answer_apply m d _ rfl]
  exact (Reference.value_apply _ _ hk ha r c).symm

end Cert.Proof.Tokens

end
-- ==== Proof.lean ====
/-
  The proof of `Cert.Claim`: the frames (Proof/Frames.lean), the kernel's run with its answer (Proof/Run.lean), and the
  answer's equation with the reference's value (Proof/Answer.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_all_valid
public import Idealize.ShloMosaic.Adequacy
public import Idealize.ShloMosaic.Init
public import proofs.«01_k».proof.Proof.Frames
public import proofs.«01_k».proof.Proof.Answer

@[expose] public section

noncomputable section

namespace Cert.Proof

open Idealize.ShloMosaic Idealize.SL.Sem

/-- Over the reals the kernel and the reference compute the same array, wherever every token counts and none is negative:
    the kernel's run ends at its answer, the reference's at its value, and the two are equal. -/
theorem same_histogram : Cert.algebraic_KernelIdeal_ReferenceIdeal_pre_all_valid := by
  intro m g m' g' hpre hagree
  refine ⟨fun c => Tokens.answer m c,
    (θ_run Cert.KernelIdeal.defs _ _).mono (fun _ h c => ⟨(h.1 c).2.2, (h.1 c).1, (h.1 c).2.1⟩) (Tokens.run_main (F := Ideal) m g),
    (θ_run Cert.ReferenceIdeal.defs _ _).mono (fun _ h c => ⟨((h c).1).trans ?_, (h c).2⟩) (Cert.ReferenceIdeal.Value.run (F := Ideal) m' g')⟩
  exact (congrArg₂ Reference.value (hagree c).1 (hagree c).2).trans (Tokens.answer_eq m c (hpre c)).symm

/-- All claims of the certificate. -/
theorem claim : Cert.Claim := ⟨Cert.Kernel.Gen.facts, Cert.KernelIdeal.Gen.facts, Cert.ReferenceIdeal.Gen.facts, Cert.Pre_all_valid.Gen.facts,
  Tokens.frame_kernel, Tokens.frame_ideal, Tokens.frame_ideal_valid, Tokens.frame_reference, Tokens.frame_reference_valid, trivial, same_histogram⟩

end Cert.Proof

end
